-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v27_0)) (v1 : (c : Dev Cert.Kernel5Ideal.nD) → Buf (Elt Ideal) ((c.tc : Thread Cert.Kernel5Ideal.nD Cert.Kernel5Ideal.τ).loc Cert.Kernel5Ideal.main_v27_1)) (v2 : (c : Dev Cert.Kernel5Ideal.nD) → Buf (Elt Ideal) ((c.tc : Thread Cert.Kernel5Ideal.nD Cert.Kernel5Ideal.τ).loc Cert.Kernel5Ideal.main_v27_2)) (v3 : (c : Dev Cert.Kernel5Ideal.nD) → Buf (Elt Ideal) ((c.tc : Thread Cert.Kernel5Ideal.nD Cert.Kernel5Ideal.τ).loc Cert.Kernel5Ideal.main_v27_3)) (v4 : (c : Dev Cert.Kernel5Ideal.nD) → Buf (Elt Ideal) ((c.tc : Thread Cert.Kernel5Ideal.nD Cert.Kernel5Ideal.τ).loc Cert.Kernel5Ideal.main_v27_4)) (v5 : (c : Dev Cert.Kernel5Ideal.nD) → Buf (Elt Ideal) ((c.tc : Thread Cert.Kernel5Ideal.nD Cert.Kernel5Ideal.τ).loc Cert.Kernel5Ideal.main_v27_5)) (v6 : (c : Dev Cert.Kernel5Ideal.nD) → Buf (Elt Ideal) ((c.tc : Thread Cert.Kernel5Ideal.nD Cert.Kernel5Ideal.τ).loc Cert.Kernel5Ideal.main_v27_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27_0) = v0 c
          ∧ r.2.mem ((c.tc : Thread Cert.Kernel5Ideal.nD Cert.Kernel5Ideal.τ).loc Cert.Kernel5Ideal.main_v27_1) = v1 c
          ∧ r.2.mem ((c.tc : Thread Cert.Kernel5Ideal.nD Cert.Kernel5Ideal.τ).loc Cert.Kernel5Ideal.main_v27_2) = v2 c
          ∧ r.2.mem ((c.tc : Thread Cert.Kernel5Ideal.nD Cert.Kernel5Ideal.τ).loc Cert.Kernel5Ideal.main_v27_3) = v3 c
          ∧ r.2.mem ((c.tc : Thread Cert.Kernel5Ideal.nD Cert.Kernel5Ideal.τ).loc Cert.Kernel5Ideal.main_v27_4) = v4 c
          ∧ r.2.mem ((c.tc : Thread Cert.Kernel5Ideal.nD Cert.Kernel5Ideal.τ).loc Cert.Kernel5Ideal.main_v27_5) = v5 c
          ∧ r.2.mem ((c.tc : Thread Cert.Kernel5Ideal.nD Cert.Kernel5Ideal.τ).loc Cert.Kernel5Ideal.main_v27_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v81) = v0 c
          ∧ r.2.mem ((c.tc : Thread Cert.Reference5Ideal.nD Cert.Reference5Ideal.τ).loc Cert.Reference5Ideal.main_v82) = v1 c
          ∧ r.2.mem ((c.tc : Thread Cert.Reference5Ideal.nD Cert.Reference5Ideal.τ).loc Cert.Reference5Ideal.main_v83) = v2 c
          ∧ r.2.mem ((c.tc : Thread Cert.Reference5Ideal.nD Cert.Reference5Ideal.τ).loc Cert.Reference5Ideal.main_v84) = v3 c
          ∧ r.2.mem ((c.tc : Thread Cert.Reference5Ideal.nD Cert.Reference5Ideal.τ).loc Cert.Reference5Ideal.main_v85) = v4 c
          ∧ r.2.mem ((c.tc : Thread Cert.Reference5Ideal.nD Cert.Reference5Ideal.τ).loc Cert.Reference5Ideal.main_v86) = v5 c
          ∧ r.2.mem ((c.tc : Thread Cert.Reference5Ideal.nD Cert.Reference5Ideal.τ).loc Cert.Reference5Ideal.main_v87) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S16384x11264 : Shape := ⟨2, ![16384, 11264]⟩
abbrev S8x15x31 : Shape := ⟨3, ![8, 15, 31]⟩
abbrev S128 : Shape := ⟨1, ![128]⟩
abbrev S_ : Shape := ⟨0, ![]⟩

class Facts : Prop where
  bcast_S_S8x15x31 : S_.BroadcastsInDim S8x15x31 (![] : Fin 0 → Fin S8x15x31.rank)
  bcast_S_S128 : S_.BroadcastsInDim S128 (![] : Fin 0 → Fin S128.rank)

variable [Facts]

def fn {F : FTy → Type} [FloatOps F] (main_arg0 : FVec F S16384x11264 .f32) (main_arg1 : FVec F S8x15x31 .f32) (main_arg2 : FVec F S128 .f32) (main_arg3 : FVec F S128 .f32) : IVec S8x15x31 1 × IVec S128 1 × IVec S128 1 :=
  let main_v0 : FVec F S8x15x31 .f32 := Host.absf main_arg1
  let main_cst : FVec F S_ .f32 := constant S_ .f32 0x7F800000#32
  let main_v1 : FVec F S8x15x31 .f32 := broadcastInDim S8x15x31 ![] bcast_S_S8x15x31 main_cst
  let main_v2 : IVec S8x15x31 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S128 .f32 := Host.absf main_arg3
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  (main_v2, main_v5, main_v8)
-- ==== Pre_finite4.lean ====
abbrev S16384x1024 : Shape := ⟨2, ![16384, 1024]⟩
abbrev S16384x11264 : Shape := ⟨2, ![16384, 11264]⟩
abbrev S16x64 : Shape := ⟨2, ![16, 64]⟩
abbrev S1024 : Shape := ⟨1, ![1024]⟩
abbrev S4096 : Shape := ⟨1, ![4096]⟩
abbrev S1024x2048 : Shape := ⟨2, ![1024, 2048]⟩
abbrev S_ : Shape := ⟨0, ![]⟩

class Facts : Prop where
  bcast_S_S16384x1024 : S_.BroadcastsInDim S16384x1024 (![] : Fin 0 → Fin S16384x1024.rank)
  bcast_S_S16x64 : S_.BroadcastsInDim S16x64 (![] : Fin 0 → Fin S16x64.rank)

variable [Facts]

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S16384x1024 .f32) (main_arg6 : FVec F S16384x1024 .f32) (main_arg7 : FVec F S16384x11264 .f32) (main_arg8 : FVec F S16x64 .f32) (main_arg9 : FVec F S1024 .f32) (main_arg10 : FVec F S1024 .f32) (main_arg11 : FVec F S4096 .f32) (main_arg12 : FVec F S1024x2048 .f32) (main_arg13 : FVec F S1024x2048 .f32) : IVec S16384x1024 1 × IVec S16384x1024 1 × IVec S16384x1024 1 × IVec S16384x1024 1 × IVec S16x64 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S16x64 .f32 := Host.absf main_arg8
  let main_cst_3 : FVec F S_ .f32 := constant S_ .f32 0x7F800000#32
  let main_v13 : FVec F S16x64 .f32 := broadcastInDim S16x64 ![] bcast_S_S16x64 main_cst_3
  let main_v14 : IVec S16x64 1 := cmpf .olt main_v12 main_v13
  (main_v2, main_v5, main_v8, main_v11, main_v14)
-- ==== Pre_finite5.lean ====
abbrev S16384x11264 : Shape := ⟨2, ![16384, 11264]⟩
abbrev S2x3712 : Shape := ⟨2, ![2, 3712]⟩
abbrev S2x1024 : Shape := ⟨2, ![2, 1024]⟩
abbrev S2x96x1024 : Shape := ⟨3, ![2, 96, 1024]⟩
abbrev S256x1024 : Shape := ⟨2, ![256, 1024]⟩
abbrev S1024 : Shape := ⟨1, ![1024]⟩
abbrev S16384x1024 : Shape := ⟨2, ![16384, 1024]⟩
abbrev S_ : Shape := ⟨0, ![]⟩

class Facts : Prop where
  slices_S16384x11264_S16384x1024_0_4096 : S16384x11264.Slices ![0, 4096] S16384x1024
  bcast_S_S16384x1024 : S_.BroadcastsInDim S16384x1024 (![] : Fin 0 → Fin S16384x1024.rank)
  slices_S2x3712_S2x1024_0_1024 : S2x3712.Slices ![0, 1024] S2x1024
  bcast_S_S2x1024 : S_.BroadcastsInDim S2x1024 (![] : Fin 0 → Fin S2x1024.rank)
  bcast_S_S1024 : S_.BroadcastsInDim S1024 (![] : Fin 0 → Fin S1024.rank)

variable [Facts]

def fn {F : FTy → Type} [FloatOps F] (main_arg0 : FVec F S16384x11264 .f32) (main_arg1 : FVec F S2x3712 .f32) (main_arg2 : FVec F S2x1024 .f32) (main_arg3 : FVec F S2x96x1024 .f32) (main_arg4 : FVec F S2x1024 .f32) (main_arg5 : FVec F S2x96x1024 .f32) (main_arg6 : FVec F S256x1024 .f32) (main_arg7 : FVec F S1024 .f32) : IVec S16384x1024 1 × IVec S2x1024 1 × IVec S1024 1 :=
  let main_v0 : FVec F S16384x1024 .f32 := (extractStridedSlice S16384x1024 ![0, 4096] · slices_S16384x11264_S16384x1024_0_4096) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S2x1024 .f32 := (extractStridedSlice S2x1024 ![0, 1024] · slices_S2x3712_S2x1024_0_1024) main_arg1
  let main_v5 : FVec F S2x1024 .f32 := Host.absf main_v4
  let main_cst_0 : FVec F S_ .f32 := constant S_ .f32 0x7F800000#32
  let main_v6 : FVec F S2x1024 .f32 := broadcastInDim S2x1024 ![] bcast_S_S2x1024 main_cst_0
  let main_v7 : IVec S2x1024 1 := cmpf .olt main_v5 main_v6
  let main_v8 : FVec F S1024 .f32 := Host.absf main_arg7
  let main_cst_1 : FVec F S_ .f32 := constant S_ .f32 0x7F800000#32
  let main_v9 : FVec F S1024 .f32 := broadcastInDim S1024 ![] bcast_S_S1024 main_cst_1
  let main_v10 : IVec S1024 1 := cmpf .olt main_v8 main_v9
  (main_v3, main_v7, main_v10)
-- ==== Kernel.lean ====
abbrev S16384x11264 : Shape := ⟨2, ![16384, 11264]⟩
abbrev S8x15x31 : Shape := ⟨3, ![8, 15, 31]⟩
abbrev S128 : Shape := ⟨1, ![128]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S1x1x31 : Shape := ⟨3, ![1, 1, 31]⟩
abbrev S64x64x31 : Shape := ⟨3, ![64, 64, 31]⟩
abbrev S8x15x64x64 : Shape := ⟨4, ![8, 15, 64, 64]⟩
abbrev S1x1x64x64 : Shape := ⟨4, ![1, 1, 64, 64]⟩
abbrev S8x1x64x64 : Shape := ⟨4, ![8, 1, 64, 64]⟩
abbrev S8x16x64x64 : Shape := ⟨4, ![8, 16, 64, 64]⟩
abbrev S8x64x64 : Shape := ⟨3, ![8, 64, 64]⟩
abbrev S8x64x128 : Shape := ⟨3, ![8, 64, 128]⟩
abbrev S8x1x64x128 : Shape := ⟨4, ![8, 1, 64, 128]⟩
abbrev S8x9x64x128 : Shape := ⟨4, ![8, 9, 64, 128]⟩
abbrev S8x8x64x128 : Shape := ⟨4, ![8, 8, 64, 128]⟩
abbrev S8x17x64x128 : Shape := ⟨4, ![8, 17, 64, 128]⟩
abbrev S1x128 : Shape := ⟨2, ![1, 128]⟩
abbrev S16384x1024 : Shape := ⟨2, ![16384, 1024]⟩
abbrev S512x128 : Shape := ⟨2, ![512, 128]⟩
abbrev S256x128 : Shape := ⟨2, ![256, 128]⟩
abbrev S1x17x64x128 : Shape := ⟨4, ![1, 17, 64, 128]⟩
abbrev S512 : Shape := ⟨1, ![512]⟩
abbrev S512x1 : Shape := ⟨2, ![512, 1]⟩
abbrev S256 : Shape := ⟨1, ![256]⟩
abbrev S256x1 : Shape := ⟨2, ![256, 1]⟩
abbrev S1x1x64x128 : Shape := ⟨4, ![1, 1, 64, 128]⟩
abbrev S64x128 : Shape := ⟨2, ![64, 128]⟩
abbrev S64x256 : Shape := ⟨2, ![64, 256]⟩
abbrev S512x256 : Shape := ⟨2, ![512, 256]⟩

abbrev nBuf : Space → Nat
  | .hbm => 174
  | .vmem => 24
  | .smem => 0
  | _ => 0

abbrev hbmTy0_0 (i : Nat) : BufTy := match i % 128 with
  | 0 => ⟨S16384x11264, .f32⟩
  | 1 => ⟨S8x15x31, .f32⟩
  | 2 => ⟨S128, .f32⟩
  | 3 => ⟨S128, .f32⟩
  | 4 => ⟨S64, .i32⟩
  | 5 => ⟨S_, .i32⟩
  | 6 => ⟨S64, .i32⟩
  | 7 => ⟨S64, .i32⟩
  | 8 => ⟨S_, .i32⟩
  | 9 => ⟨S_, .i32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S1x64, .i32⟩
  | 17 => ⟨S64x1, .i32⟩
  | 18 => ⟨S64x64, .i32⟩
  | 19 => ⟨S64x64, .i32⟩
  | 20 => ⟨S64x64, .i1⟩
  | 21 => ⟨S1x64, .i32⟩
  | 22 => ⟨S64x1, .i32⟩
  | 23 => ⟨S_, .i32⟩
  | 24 => ⟨S64x1, .i32⟩
  | 25 => ⟨S64x1, .i32⟩
  | 26 => ⟨S64x64, .i32⟩
  | 27 => ⟨S64x64, .i32⟩
  | 28 => ⟨S64x64, .i1⟩
  | 29 => ⟨S64x64, .i1⟩
  | 30 => ⟨S1x64, .i32⟩
  | 31 => ⟨S64x1, .i32⟩
  | 32 => ⟨S64x64, .i32⟩
  | 33 => ⟨S64x64, .i32⟩
  | 34 => ⟨S64x64, .i32⟩
  | 35 => ⟨S_, .i32⟩
  | 36 => ⟨S_, .i32⟩
  | 37 => ⟨S_, .i32⟩
  | 38 => ⟨S64x64, .i32⟩
  | 39 => ⟨S64x64, .i32⟩
  | 40 => ⟨S_, .i32⟩
  | 41 => ⟨S64x64, .i32⟩
  | 42 => ⟨S64x64, .i32⟩
  | 43 => ⟨S_, .i32⟩
  | 44 => ⟨S64x64, .i32⟩
  | 45 => ⟨S64x64, .i32⟩
  | 46 => ⟨S_, .i32⟩
  | 47 => ⟨S64x64, .i32⟩
  | 48 => ⟨S64x64, .i32⟩
  | 49 => ⟨S64x64x1, .i32⟩
  | 50 => ⟨S1x1x31, .i32⟩
  | 51 => ⟨S64x64x31, .i32⟩
  | 52 => ⟨S64x64x31, .i32⟩
  | 53 => ⟨S64x64x31, .i1⟩
  | 54 => ⟨S64x64x31, .f32⟩
  | 55 => ⟨S8x15x64x64, .f32⟩
  | 56 => ⟨S1x1x64x64, .i1⟩
  | 57 => ⟨S_, .f32⟩
  | 58 => ⟨S_, .f32⟩
  | 59 => ⟨S8x15x64x64, .i1⟩
  | 60 => ⟨S8x15x64x64, .f32⟩
  | 61 => ⟨S8x15x64x64, .f32⟩
  | 62 => ⟨S8x1x64x64, .f32⟩
  | 63 => ⟨S_, .f32⟩
  | 64 => ⟨S8x1x64x64, .f32⟩
  | 65 => ⟨S8x16x64x64, .f32⟩
  | 66 => ⟨S8x1x64x64, .f32⟩
  | 67 => ⟨S8x64x64, .f32⟩
  | 68 => ⟨S8x1x64x64, .f32⟩
  | 69 => ⟨S8x64x64, .f32⟩
  | 70 => ⟨S8x64x128, .f32⟩
  | 71 => ⟨S8x1x64x64, .f32⟩
  | 72 => ⟨S8x64x64, .f32⟩
  | 73 => ⟨S8x1x64x64, .f32⟩
  | 74 => ⟨S8x64x64, .f32⟩
  | 75 => ⟨S8x64x128, .f32⟩
  | 76 => ⟨S8x1x64x64, .f32⟩
  | 77 => ⟨S8x64x64, .f32⟩
  | 78 => ⟨S8x1x64x64, .f32⟩
  | 79 => ⟨S8x64x64, .f32⟩
  | 80 => ⟨S8x64x128, .f32⟩
  | 81 => ⟨S8x1x64x64, .f32⟩
  | 82 => ⟨S8x64x64, .f32⟩
  | 83 => ⟨S8x1x64x64, .f32⟩
  | 84 => ⟨S8x64x64, .f32⟩
  | 85 => ⟨S8x64x128, .f32⟩
  | 86 => ⟨S8x1x64x64, .f32⟩
  | 87 => ⟨S8x64x64, .f32⟩
  | 88 => ⟨S8x1x64x64, .f32⟩
  | 89 => ⟨S8x64x64, .f32⟩
  | 90 => ⟨S8x64x128, .f32⟩
  | 91 => ⟨S8x1x64x64, .f32⟩
  | 92 => ⟨S8x64x64, .f32⟩
  | 93 => ⟨S8x1x64x64, .f32⟩
  | 94 => ⟨S8x64x64, .f32⟩
  | 95 => ⟨S8x64x128, .f32⟩
  | 96 => ⟨S8x1x64x64, .f32⟩
  | 97 => ⟨S8x64x64, .f32⟩
  | 98 => ⟨S8x1x64x64, .f32⟩
  | 99 => ⟨S8x64x64, .f32⟩
  | 100 => ⟨S8x64x128, .f32⟩
  | 101 => ⟨S8x1x64x64, .f32⟩
  | 102 => ⟨S8x64x64, .f32⟩
  | 103 => ⟨S8x1x64x64, .f32⟩
  | 104 => ⟨S8x64x64, .f32⟩
  | 105 => ⟨S8x64x128, .f32⟩
  | 106 => ⟨S8x1x64x64, .f32⟩
  | 107 => ⟨S8x64x64, .f32⟩
  | 108 => ⟨S8x1x64x64, .f32⟩
  | 109 => ⟨S8x64x64, .f32⟩
  | 110 => ⟨S8x64x128, .f32⟩
  | 111 => ⟨S8x1x64x64, .f32⟩
  | 112 => ⟨S8x64x64, .f32⟩
  | 113 => ⟨S8x1x64x64, .f32⟩
  | 114 => ⟨S8x64x64, .f32⟩
  | 115 => ⟨S8x64x128, .f32⟩
  | 116 => ⟨S8x1x64x64, .f32⟩
  | 117 => ⟨S8x64x64, .f32⟩
  | 118 => ⟨S8x1x64x64, .f32⟩
  | 119 => ⟨S8x64x64, .f32⟩
  | 120 => ⟨S8x64x128, .f32⟩
  | 121 => ⟨S8x1x64x64, .f32⟩
  | 122 => ⟨S8x64x64, .f32⟩
  | 123 => ⟨S8x1x64x64, .f32⟩
  | 124 => ⟨S8x64x64, .f32⟩
  | 125 => ⟨S8x64x128, .f32⟩
  | 126 => ⟨S8x1x64x64, .f32⟩
  | 127 => ⟨S8x64x64, .f32⟩
  | _ => ⟨S16384x11264, .f32⟩

abbrev hbmTy0_1 (i : Nat) : BufTy := match i % 128 with
  | 0 => ⟨S8x1x64x64, .f32⟩
  | 1 => ⟨S8x64x64, .f32⟩
  | 2 => ⟨S8x64x128, .f32⟩
  | 3 => ⟨S8x1x64x64, .f32⟩
  | 4 => ⟨S8x64x64, .f32⟩
  | 5 => ⟨S8x1x64x64, .f32⟩
  | 6 => ⟨S8x64x64, .f32⟩
  | 7 => ⟨S8x64x128, .f32⟩
  | 8 => ⟨S8x1x64x64, .f32⟩
  | 9 => ⟨S8x64x64, .f32⟩
  | 10 => ⟨S8x1x64x64, .f32⟩
  | 11 => ⟨S8x64x64, .f32⟩
  | 12 => ⟨S8x64x128, .f32⟩
  | 13 => ⟨S8x1x64x64, .f32⟩
  | 14 => ⟨S8x64x64, .f32⟩
  | 15 => ⟨S8x1x64x64, .f32⟩
  | 16 => ⟨S8x64x64, .f32⟩
  | 17 => ⟨S8x64x128, .f32⟩
  | 18 => ⟨S8x1x64x64, .f32⟩
  | 19 => ⟨S8x64x64, .f32⟩
  | 20 => ⟨S8x1x64x64, .f32⟩
  | 21 => ⟨S8x64x64, .f32⟩
  | 22 => ⟨S8x64x128, .f32⟩
  | 23 => ⟨S8x1x64x128, .f32⟩
  | 24 => ⟨S8x1x64x128, .f32⟩
  | 25 => ⟨S8x1x64x128, .f32⟩
  | 26 => ⟨S8x1x64x128, .f32⟩
  | 27 => ⟨S8x1x64x128, .f32⟩
  | 28 => ⟨S8x1x64x128, .f32⟩
  | 29 => ⟨S8x1x64x128, .f32⟩
  | 30 => ⟨S8x1x64x128, .f32⟩
  | 31 => ⟨S8x1x64x128, .f32⟩
  | 32 => ⟨S8x9x64x128, .f32⟩
  | 33 => ⟨S8x1x64x128, .f32⟩
  | 34 => ⟨S8x1x64x128, .f32⟩
  | 35 => ⟨S8x1x64x128, .f32⟩
  | 36 => ⟨S8x1x64x128, .f32⟩
  | 37 => ⟨S8x1x64x128, .f32⟩
  | 38 => ⟨S8x1x64x128, .f32⟩
  | 39 => ⟨S8x1x64x128, .f32⟩
  | 40 => ⟨S8x1x64x128, .f32⟩
  | 41 => ⟨S8x8x64x128, .f32⟩
  | 42 => ⟨S8x17x64x128, .f32⟩
  | 43 => ⟨S1x128, .f32⟩
  | 44 => ⟨S1x128, .f32⟩
  | 45 => ⟨S16384x1024, .f32⟩
  | _ => ⟨S16384x11264, .f32⟩

abbrev hbmTy (i : Nat) : BufTy := match i / 128 with
  | 0 => hbmTy0_0 i
  | 1 => hbmTy0_1 i
  | _ => ⟨S16384x11264, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S1x17x64x128, .f32⟩
  | .local _ .vmem, ⟨19, _⟩ => ⟨S1x17x64x128, .f32⟩
  | .local _ .vmem, ⟨20, _⟩ => ⟨S1x128, .f32⟩
  | .local _ .vmem, ⟨21, _⟩ => ⟨S1x128, .f32⟩
  | .local _ .vmem, ⟨22, _⟩ => ⟨S512x128, .f32⟩
  | .local _ .vmem, ⟨23, _⟩ => ⟨S512x128, .f32⟩
  | _, _ => ⟨S16384x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v30 : Ref sig .tc := ⟨.hbm, 61, rfl⟩
abbrev main_v31 : Ref sig .tc := ⟨.hbm, 62, rfl⟩
abbrev main_cst_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨3, ![2, 8, 16], ![false, false, false]⟩

def k0_off1 (i : grid0.Coords) (c0_i32_13 : BitVec 32) (c4_i32 : BitVec 32) (c11_i32 : BitVec 32) : Fin 4 → Nat :=
  let c0_14 : Index := 0#32
  let arg2 : BitVec 32 := BitVec.ofNat 32 (i 2).val
  let c0_i32 : BitVec 32 := 0#32
  let v0 : BitVec 1 := Scalar.cmpi .eq arg2 c0_i32
  let c15_i32 : BitVec 32 := 15#32
  let v1 : BitVec 1 := Scalar.cmpi .eq arg2 c15_i32
  let v36 : BitVec 32 := Scalar.select v1 c4_i32 c11_i32
  let v37 : BitVec 32 := Scalar.select v0 c0_i32_13 v36
  let v38 : Index := Scalar.indexCast v37
  let c0_15 : Index := 0#32
  let c0_16 : Index := 0#32
  ![0, v38.toNat, 0, 0]
def k0_off1_at (r : Fin 23) : BitVec 32 × BitVec 32 × BitVec 32 :=
  if r.val < 11 then
    if r.val < 5 then
      if r.val < 2 then
        if r.val < 1 then
          (0#32, 4#32, 11#32)
        else
          (1#32, 4#32, 9#32)
      else
        if r.val < 3 then
          (5#32, 4#32, 12#32)
        else
          if r.val < 4 then
            (6#32, 4#32, 10#32)
          else
            (9#32, 4#32, 4#32)
    else
      if r.val < 8 then
        if r.val < 6 then
          (10#32, 4#32, 4#32)
        else
          if r.val < 7 then
            (11#32, 4#32, 4#32)
          else
            (12#32, 4#32, 4#32)
      else
        if r.val < 9 then
          (2#32, 11#32, 0#32)
        else
          if r.val < 10 then
            (3#32, 9#32, 1#32)
          else
            (7#32, 12#32, 5#32)
  else
    if r.val < 17 then
      if r.val < 14 then
        if r.val < 12 then
          (8#32, 10#32, 6#32)
        else
          if r.val < 13 then
            (4#32, 0#32, 4#32)
          else
            (4#32, 1#32, 4#32)
      else
        if r.val < 15 then
          (4#32, 5#32, 13#32)
        else
          if r.val < 16 then
            (4#32, 6#32, 4#32)
          else
            (4#32, 9#32, 1#32)
    else
      if r.val < 20 then
        if r.val < 18 then
          (4#32, 10#32, 6#32)
        else
          if r.val < 19 then
            (4#32, 11#32, 0#32)
          else
            (13#32, 14#32, 5#32)
      else
        if r.val < 21 then
          (1#32, 15#32, 9#32)
        else
          if r.val < 22 then
            (6#32, 16#32, 10#32)
          else
            (4#32, 13#32, 4#32)
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let c28_i32 : BitVec 32 := 28#32
  let v2 : BitVec 32 := Scalar.maxsi c0_i32 v1
  let v3 : BitVec 32 := Scalar.minsi c28_i32 v2
  let c32_i32 : BitVec 32 := 32#32
  let v4 : BitVec 32 := Scalar.muli arg0 c32_i32
  let v5 : BitVec 32 := Scalar.addi v4 v3
  let c0_i32_0 : BitVec 32 := 0#32
  let v6 : BitVec 32 := Scalar.addi v5 c0_i32_0
  let c8_i32 : BitVec 32 := 8#32
  let v7 : BitVec 32 := Scalar.addi c8_i32 arg1
  let c0_i32_1 : BitVec 32 := 0#32
  ![v6.toNat, v7.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let c28_i32 : BitVec 32 := 28#32
  let v2 : BitVec 32 := Scalar.maxsi c0_i32 v1
  let v3 : BitVec 32 := Scalar.minsi c28_i32 v2
  let c32_i32 : BitVec 32 := 32#32
  let v4 : BitVec 32 := Scalar.muli arg0 c32_i32
  let v5 : BitVec 32 := Scalar.addi v4 v3
  let c1_i32_0 : BitVec 32 := 1#32
  let v6 : BitVec 32 := Scalar.addi v5 c1_i32_0
  let c8_i32 : BitVec 32 := 8#32
  let v7 : BitVec 32 := Scalar.addi c8_i32 arg1
  let c0_i32_1 : BitVec 32 := 0#32
  ![v6.toNat, v7.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let c28_i32 : BitVec 32 := 28#32
  let v2 : BitVec 32 := Scalar.maxsi c0_i32 v1
  let v3 : BitVec 32 := Scalar.minsi c28_i32 v2
  let c32_i32 : BitVec 32 := 32#32
  let v4 : BitVec 32 := Scalar.muli arg0 c32_i32
  let v5 : BitVec 32 := Scalar.addi v4 v3
  let c2_i32_0 : BitVec 32 := 2#32
  let v6 : BitVec 32 := Scalar.addi v5 c2_i32_0
  let c8_i32 : BitVec 32 := 8#32
  let v7 : BitVec 32 := Scalar.addi c8_i32 arg1
  let c0_i32_1 : BitVec 32 := 0#32
  ![v6.toNat, v7.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let c28_i32 : BitVec 32 := 28#32
  let v2 : BitVec 32 := Scalar.maxsi c0_i32 v1
  let v3 : BitVec 32 := Scalar.minsi c28_i32 v2
  let c32_i32 : BitVec 32 := 32#32
  let v4 : BitVec 32 := Scalar.muli arg0 c32_i32
  let v5 : BitVec 32 := Scalar.addi v4 v3
  let c3_i32 : BitVec 32 := 3#32
  let v6 : BitVec 32 := Scalar.addi v5 c3_i32
  let c8_i32 : BitVec 32 := 8#32
  let v7 : BitVec 32 := Scalar.addi c8_i32 arg1
  let c0_i32_0 : BitVec 32 := 0#32
  ![v6.toNat, v7.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let c28_i32 : BitVec 32 := 28#32
  let v2 : BitVec 32 := Scalar.maxsi c0_i32 v1
  let v3 : BitVec 32 := Scalar.minsi c28_i32 v2
  let c32_i32 : BitVec 32 := 32#32
  let v4 : BitVec 32 := Scalar.muli arg0 c32_i32
  let v5 : BitVec 32 := Scalar.addi v4 v3
  let c0_i32_0 : BitVec 32 := 0#32
  let v6 : BitVec 32 := Scalar.addi v5 c0_i32_0
  let c16_i32 : BitVec 32 := 16#32
  let v7 : BitVec 32 := Scalar.addi c16_i32 arg1
  let c0_i32_1 : BitVec 32 := 0#32
  ![v6.toNat, v7.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let c28_i32 : BitVec 32 := 28#32
  let v2 : BitVec 32 := Scalar.maxsi c0_i32 v1
  let v3 : BitVec 32 := Scalar.minsi c28_i32 v2
  let c32_i32 : BitVec 32 := 32#32
  let v4 : BitVec 32 := Scalar.muli arg0 c32_i32
  let v5 : BitVec 32 := Scalar.addi v4 v3
  let c1_i32_0 : BitVec 32 := 1#32
  let v6 : BitVec 32 := Scalar.addi v5 c1_i32_0
  let c16_i32 : BitVec 32 := 16#32
  let v7 : BitVec 32 := Scalar.addi c16_i32 arg1
  let c0_i32_1 : BitVec 32 := 0#32
  ![v6.toNat, v7.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let c28_i32 : BitVec 32 := 28#32
  let v2 : BitVec 32 := Scalar.maxsi c0_i32 v1
  let v3 : BitVec 32 := Scalar.minsi c28_i32 v2
  let c32_i32 : BitVec 32 := 32#32
  let v4 : BitVec 32 := Scalar.muli arg0 c32_i32
  let v5 : BitVec 32 := Scalar.addi v4 v3
  let c2_i32_0 : BitVec 32 := 2#32
  let v6 : BitVec 32 := Scalar.addi v5 c2_i32_0
  let c16_i32 : BitVec 32 := 16#32
  let v7 : BitVec 32 := Scalar.addi c16_i32 arg1
  let c0_i32_1 : BitVec 32 := 0#32
  ![v6.toNat, v7.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let c28_i32 : BitVec 32 := 28#32
  let v2 : BitVec 32 := Scalar.maxsi c0_i32 v1
  let v3 : BitVec 32 := Scalar.minsi c28_i32 v2
  let c32_i32 : BitVec 32 := 32#32
  let v4 : BitVec 32 := Scalar.muli arg0 c32_i32
  let v5 : BitVec 32 := Scalar.addi v4 v3
  let c3_i32 : BitVec 32 := 3#32
  let v6 : BitVec 32 := Scalar.addi v5 c3_i32
  let c16_i32 : BitVec 32 := 16#32
  let v7 : BitVec 32 := Scalar.addi c16_i32 arg1
  let c0_i32_0 : BitVec 32 := 0#32
  ![v6.toNat, v7.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x17x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== ReferenceIdeal.lean ====
abbrev S16384x11264 : Shape := ⟨2, ![16384, 11264]⟩
abbrev S8x15x31 : Shape := ⟨3, ![8, 15, 31]⟩
abbrev S128 : Shape := ⟨1, ![128]⟩
abbrev S2x8192x11264 : Shape := ⟨3, ![2, 8192, 11264]⟩
abbrev S2x8192x3072 : Shape := ⟨3, ![2, 8192, 3072]⟩
abbrev S2x8192x1024 : Shape := ⟨3, ![2, 8192, 1024]⟩
abbrev S2x8192x8x128 : Shape := ⟨4, ![2, 8192, 8, 128]⟩
abbrev S_ : Shape := ⟨0, ![]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2x128x64x8x128 : Shape := ⟨5, ![2, 128, 64, 8, 128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S2x128x8x64x8x128 : Shape := ⟨6, ![2, 128, 8, 64, 8, 128]⟩
abbrev S2x8x128x64x8x64 : Shape := ⟨6, ![2, 8, 128, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S8x128x64x8x64 : Shape := ⟨5, ![8, 128, 64, 8, 64]⟩
abbrev S64x1x64 : Shape := ⟨3, ![64, 1, 64]⟩
abbrev S1x8x128x64x8x64 : Shape := ⟨6, ![1, 8, 128, 64, 8, 64]⟩
abbrev S2x8x128x64x512 : Shape := ⟨5, ![2, 8, 128, 64, 512]⟩
abbrev S2x8x128x64 : Shape := ⟨4, ![2, 8, 128, 64]⟩
abbrev S2x8x128x64x1 : Shape := ⟨5, ![2, 8, 128, 64, 1]⟩
abbrev S2x128x8x128x64 : Shape := ⟨5, ![2, 128, 8, 128, 64]⟩
abbrev S16384x1024 : Shape := ⟨2, ![16384, 1024]⟩

abbrev nBuf : Space → Nat
  | .hbm => 192
  | .vmem => 0
  | .smem => 0
  | _ => 0

abbrev hbmTy0_0 (i : Nat) : BufTy := match i % 128 with
  | 0 => ⟨S16384x11264, .f32⟩
  | 1 => ⟨S8x15x31, .f32⟩
  | 2 => ⟨S128, .f32⟩
  | 3 => ⟨S128, .f32⟩
  | 4 => ⟨S2x8192x11264, .f32⟩
  | 5 => ⟨S2x8192x3072, .f32⟩
  | 6 => ⟨S2x8192x1024, .f32⟩
  | 7 => ⟨S2x8192x1024, .f32⟩
  | 8 => ⟨S2x8192x1024, .f32⟩
  | 9 => ⟨S2x8192x8x128, .f32⟩
  | 10 => ⟨S2x8192x8x128, .f32⟩
  | 11 => ⟨S_, .f32⟩
  | 12 => ⟨S2x8192x8, .f32⟩
  | 13 => ⟨S2x8192x8x1, .f32⟩
  | 14 => ⟨S_, .f32⟩
  | 15 => ⟨S2x8192x8x1, .f32⟩
  | 16 => ⟨S2x8192x8x1, .f32⟩
  | 17 => ⟨S_, .f32⟩
  | 18 => ⟨S2x8192x8x1, .f32⟩
  | 19 => ⟨S2x8192x8x1, .f32⟩
  | 20 => ⟨S2x8192x8x1, .f32⟩
  | 21 => ⟨S2x8192x8x128, .f32⟩
  | 22 => ⟨S2x8192x8x128, .f32⟩
  | 23 => ⟨S1x1x1x128, .f32⟩
  | 24 => ⟨S2x8192x8x128, .f32⟩
  | 25 => ⟨S2x8192x8x128, .f32⟩
  | 26 => ⟨S2x8192x8x128, .f32⟩
  | 27 => ⟨S2x8192x8x128, .f32⟩
  | 28 => ⟨S_, .f32⟩
  | 29 => ⟨S2x8192x8, .f32⟩
  | 30 => ⟨S2x8192x8x1, .f32⟩
  | 31 => ⟨S_, .f32⟩
  | 32 => ⟨S2x8192x8x1, .f32⟩
  | 33 => ⟨S2x8192x8x1, .f32⟩
  | 34 => ⟨S_, .f32⟩
  | 35 => ⟨S2x8192x8x1, .f32⟩
  | 36 => ⟨S2x8192x8x1, .f32⟩
  | 37 => ⟨S2x8192x8x1, .f32⟩
  | 38 => ⟨S2x8192x8x128, .f32⟩
  | 39 => ⟨S2x8192x8x128, .f32⟩
  | 40 => ⟨S1x1x1x128, .f32⟩
  | 41 => ⟨S2x8192x8x128, .f32⟩
  | 42 => ⟨S2x8192x8x128, .f32⟩
  | 43 => ⟨S2x8192x8x128, .f32⟩
  | 44 => ⟨S2x128x64x8x128, .f32⟩
  | 45 => ⟨S2x128x64x8x128, .f32⟩
  | 46 => ⟨S2x128x64x8x128, .f32⟩
  | 47 => ⟨S128, .i32⟩
  | 48 => ⟨S_, .i32⟩
  | 49 => ⟨S128, .i32⟩
  | 50 => ⟨S128, .i32⟩
  | 51 => ⟨S_, .i32⟩
  | 52 => ⟨S_, .i32⟩
  | 53 => ⟨S_, .i32⟩
  | 54 => ⟨S128, .i32⟩
  | 55 => ⟨S128, .i32⟩
  | 56 => ⟨S_, .i32⟩
  | 57 => ⟨S128, .i32⟩
  | 58 => ⟨S128, .i32⟩
  | 59 => ⟨S128x1, .i32⟩
  | 60 => ⟨S8, .i32⟩
  | 61 => ⟨S1x8, .i32⟩
  | 62 => ⟨S128x8, .i32⟩
  | 63 => ⟨S128x8, .i32⟩
  | 64 => ⟨S128x8, .i32⟩
  | 65 => ⟨S_, .i32⟩
  | 66 => ⟨S128x8, .i32⟩
  | 67 => ⟨S128x8, .i1⟩
  | 68 => ⟨S_, .i32⟩
  | 69 => ⟨S128x8, .i32⟩
  | 70 => ⟨S128x8, .i32⟩
  | 71 => ⟨S128x8, .i32⟩
  | 72 => ⟨S128x8x1, .i32⟩
  | 73 => ⟨S2x128x8x64x8x128, .f32⟩
  | 74 => ⟨S_, .i32⟩
  | 75 => ⟨S128x8, .i32⟩
  | 76 => ⟨S128x8, .i1⟩
  | 77 => ⟨S_, .i32⟩
  | 78 => ⟨S128x8, .i32⟩
  | 79 => ⟨S128x8, .i32⟩
  | 80 => ⟨S128x8, .i32⟩
  | 81 => ⟨S128x8x1, .i32⟩
  | 82 => ⟨S2x128x8x64x8x128, .f32⟩
  | 83 => ⟨S2x8x128x64x8x64, .f32⟩
  | 84 => ⟨S_, .f32⟩
  | 85 => ⟨S2x8x128x64x8x64, .f32⟩
  | 86 => ⟨S2x8x128x64x8x64, .f32⟩
  | 87 => ⟨S64, .i32⟩
  | 88 => ⟨S_, .i32⟩
  | 89 => ⟨S64, .i32⟩
  | 90 => ⟨S64, .i32⟩
  | 91 => ⟨S_, .i32⟩
  | 92 => ⟨S_, .i32⟩
  | 93 => ⟨S_, .i32⟩
  | 94 => ⟨S64, .i32⟩
  | 95 => ⟨S64, .i32⟩
  | 96 => ⟨S_, .i32⟩
  | 97 => ⟨S64, .i32⟩
  | 98 => ⟨S64, .i32⟩
  | 99 => ⟨S1x64, .i32⟩
  | 100 => ⟨S64x1, .i32⟩
  | 101 => ⟨S64x64, .i32⟩
  | 102 => ⟨S64x64, .i32⟩
  | 103 => ⟨S64x64, .i1⟩
  | 104 => ⟨S1x64, .i32⟩
  | 105 => ⟨S64x1, .i32⟩
  | 106 => ⟨S_, .i32⟩
  | 107 => ⟨S64x1, .i32⟩
  | 108 => ⟨S64x1, .i32⟩
  | 109 => ⟨S64x64, .i32⟩
  | 110 => ⟨S64x64, .i32⟩
  | 111 => ⟨S64x64, .i1⟩
  | 112 => ⟨S64x64, .i1⟩
  | 113 => ⟨S128x1, .i32⟩
  | 114 => ⟨S128x8, .i32⟩
  | 115 => ⟨S128x8, .i32⟩
  | 116 => ⟨S_, .i32⟩
  | 117 => ⟨S128x8, .i32⟩
  | 118 => ⟨S128x8, .i32⟩
  | 119 => ⟨S_, .i32⟩
  | 120 => ⟨S128x8, .i32⟩
  | 121 => ⟨S128x8, .i32⟩
  | 122 => ⟨S1x64, .i32⟩
  | 123 => ⟨S64x1, .i32⟩
  | 124 => ⟨S64x64, .i32⟩
  | 125 => ⟨S64x64, .i32⟩
  | 126 => ⟨S64x64, .i32⟩
  | 127 => ⟨S_, .i32⟩
  | _ => ⟨S16384x11264, .f32⟩

abbrev hbmTy0_1 (i : Nat) : BufTy := match i % 128 with
  | 0 => ⟨S_, .i32⟩
  | 1 => ⟨S_, .i32⟩
  | 2 => ⟨S64x64, .i32⟩
  | 3 => ⟨S64x64, .i32⟩
  | 4 => ⟨S_, .i32⟩
  | 5 => ⟨S64x64, .i32⟩
  | 6 => ⟨S64x64, .i32⟩
  | 7 => ⟨S_, .i32⟩
  | 8 => ⟨S64x64, .i32⟩
  | 9 => ⟨S64x64, .i32⟩
  | 10 => ⟨S_, .i32⟩
  | 11 => ⟨S64x64, .i32⟩
  | 12 => ⟨S64x64, .i32⟩
  | 13 => ⟨S128x1x8x1, .i32⟩
  | 14 => ⟨S1x64x1x64, .i32⟩
  | 15 => ⟨S_, .i32⟩
  | 16 => ⟨S128x1x8x1, .i32⟩
  | 17 => ⟨S128x1x8x1, .i1⟩
  | 18 => ⟨S_, .i32⟩
  | 19 => ⟨S128x1x8x1, .i32⟩
  | 20 => ⟨S128x1x8x1, .i32⟩
  | 21 => ⟨S128x1x8x1, .i32⟩
  | 22 => ⟨S_, .i32⟩
  | 23 => ⟨S1x64x1x64, .i32⟩
  | 24 => ⟨S1x64x1x64, .i1⟩
  | 25 => ⟨S_, .i32⟩
  | 26 => ⟨S1x64x1x64, .i32⟩
  | 27 => ⟨S1x64x1x64, .i32⟩
  | 28 => ⟨S1x64x1x64, .i32⟩
  | 29 => ⟨S128x64x8x64, .i32⟩
  | 30 => ⟨S128x64x8x64, .i32⟩
  | 31 => ⟨S128x64x8x64x1, .i32⟩
  | 32 => ⟨S128x64x8x64x1, .i32⟩
  | 33 => ⟨S128x64x8x64x2, .i32⟩
  | 34 => ⟨S8x128x64x8x64, .f32⟩
  | 35 => ⟨S64x1x64, .i1⟩
  | 36 => ⟨S1x8x128x64x8x64, .f32⟩
  | 37 => ⟨S2x8x128x64x8x64, .f32⟩
  | 38 => ⟨S2x8x128x64x8x64, .f32⟩
  | 39 => ⟨S_, .f32⟩
  | 40 => ⟨S_, .f32⟩
  | 41 => ⟨S2x8x128x64x8x64, .i1⟩
  | 42 => ⟨S2x8x128x64x8x64, .f32⟩
  | 43 => ⟨S2x8x128x64x8x64, .f32⟩
  | 44 => ⟨S2x8x128x64x512, .f32⟩
  | 45 => ⟨S_, .f32⟩
  | 46 => ⟨S2x8x128x64, .f32⟩
  | 47 => ⟨S_, .f32⟩
  | 48 => ⟨S2x8x128x64, .f32⟩
  | 49 => ⟨S2x8x128x64, .f32⟩
  | 50 => ⟨S2x8x128x64x1, .f32⟩
  | 51 => ⟨S2x8x128x64x512, .f32⟩
  | 52 => ⟨S2x8x128x64x512, .f32⟩
  | 53 => ⟨S2x8x128x64x512, .f32⟩
  | 54 => ⟨S_, .f32⟩
  | 55 => ⟨S2x8x128x64, .f32⟩
  | 56 => ⟨S2x8x128x64x1, .f32⟩
  | 57 => ⟨S2x8x128x64x512, .f32⟩
  | 58 => ⟨S2x8x128x64x512, .f32⟩
  | 59 => ⟨S2x8x128x64x8x64, .f32⟩
  | 60 => ⟨S2x128x8x128x64, .f32⟩
  | 61 => ⟨S2x128x64x8x128, .f32⟩
  | 62 => ⟨S2x8192x1024, .f32⟩
  | 63 => ⟨S16384x1024, .f32⟩
  | _ => ⟨S16384x11264, .f32⟩

abbrev hbmTy (i : Nat) : BufTy := match i / 128 with
  | 0 => hbmTy0_0 i
  | 1 => hbmTy0_1 i
  | _ => ⟨S16384x11264, .f32⟩

abbrev bufTy : (tb : Table) → Fin (tcTables nBuf tb) → BufTy
  | .hbm, ⟨i, _⟩ => hbmTy i
  | _, _ => ⟨S16384x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_c_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_12 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_c_14 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_16 : Ref sig .tc := ⟨.hbm, 116, rfl⟩
abbrev main_v84 : Ref sig .tc := ⟨.hbm, 117, rfl⟩
abbrev main_v85 : Ref sig .tc := ⟨.hbm, 118, rfl⟩
abbrev main_c_17 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_18 : Ref sig .tc := ⟨.hbm, 127, rfl⟩
abbrev main_c_19 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_v93 : Ref sig .tc := ⟨.hbm, 134, rfl⟩
abbrev main_c_20 : Ref sig .tc := ⟨.hbm, 135, rfl⟩
abbrev main_v94 : Ref sig .tc := ⟨.hbm, 136, rfl⟩
abbrev main_v95 : Ref sig .tc := ⟨.hbm, 137, rfl⟩
abbrev main_c_21 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_22 : Ref sig .tc := ⟨.hbm, 143, rfl⟩
abbrev main_v100 : Ref sig .tc := ⟨.hbm, 144, rfl⟩
abbrev main_v101 : Ref sig .tc := ⟨.hbm, 145, rfl⟩
abbrev main_c_23 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_c_24 : Ref sig .tc := ⟨.hbm, 150, rfl⟩
abbrev main_v105 : Ref sig .tc := ⟨.hbm, 151, rfl⟩
abbrev main_v106 : Ref sig .tc := ⟨.hbm, 152, rfl⟩
abbrev main_c_25 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_26 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_v120 : Ref sig .tc := ⟨.hbm, 171, rfl⟩
abbrev main_v121 : Ref sig .tc := ⟨.hbm, 172, rfl⟩
abbrev main_cst_27 : Ref sig .tc := ⟨.hbm, 173, rfl⟩
abbrev main_v122 : Ref sig .tc := ⟨.hbm, 174, rfl⟩
abbrev main_cst_28 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_29 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩

abbrev nD : Nat := 1
abbrev τ : Topo := Topo.v7x

variable {F : FTy → Type} [FloatOps F]
-- ==== Kernel2.lean ====
abbrev S16384x2048 : Shape := ⟨2, ![16384, 2048]⟩
abbrev S2x6x2048 : Shape := ⟨3, ![2, 6, 2048]⟩
abbrev S2048 : Shape := ⟨1, ![2048]⟩
abbrev S2048x11264 : Shape := ⟨2, ![2048, 11264]⟩
abbrev S1x2048 : Shape := ⟨2, ![1, 2048]⟩
abbrev S16384x11264 : Shape := ⟨2, ![16384, 11264]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1x1x2048 : Shape := ⟨3, ![1, 1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S2048, .f32⟩
  | .hbm, ⟨3, _⟩ => ⟨S2048x11264, .bf16⟩
  | .hbm, ⟨4, _⟩ => ⟨S1x2048, .f32⟩
  | .hbm, ⟨5, _⟩ => ⟨S16384x11264, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x2048 : Shape := ⟨2, ![16384, 2048]⟩
abbrev S2x6x2048 : Shape := ⟨3, ![2, 6, 2048]⟩
abbrev S2048 : Shape := ⟨1, ![2048]⟩
abbrev S2048x11264 : Shape := ⟨2, ![2048, 11264]⟩
abbrev S2x8192x2048 : Shape := ⟨3, ![2, 8192, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x11264 : Shape := ⟨3, ![2, 8192, 11264]⟩
abbrev S16384x11264 : Shape := ⟨2, ![16384, 11264]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S2048, .f32⟩
  | .hbm, ⟨3, _⟩ => ⟨S2048x11264, .bf16⟩
  | .hbm, ⟨4, _⟩ => ⟨S2x8192x2048, .f32⟩
  | .hbm, ⟨5, _⟩ => ⟨S2x1x2048, .f32⟩
  | .hbm, ⟨6, _⟩ => ⟨S2x1x2048, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S_, .f32⟩
  | .hbm, ⟨24, _⟩ => ⟨S2x1x2048, .f32⟩
  | .hbm, ⟨25, _⟩ => ⟨S2x1x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2048x11264, .f32⟩
  | .hbm, ⟨31, _⟩ => ⟨S2x8192x11264, .f32⟩
  | .hbm, ⟨32, _⟩ => ⟨S16384x11264, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel3.lean ====
abbrev S16384x2048 : Shape := ⟨2, ![16384, 2048]⟩
abbrev S2x6x2048 : Shape := ⟨3, ![2, 6, 2048]⟩
abbrev S2048 : Shape := ⟨1, ![2048]⟩
abbrev S2048x2048 : Shape := ⟨2, ![2048, 2048]⟩
abbrev S1x2048 : Shape := ⟨2, ![1, 2048]⟩
abbrev S256x2048 : Shape := ⟨2, ![256, 2048]⟩
abbrev S1x6x2048 : Shape := ⟨3, ![1, 6, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2x6x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S2048x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x2048 : Shape := ⟨2, ![16384, 2048]⟩
abbrev S2x6x2048 : Shape := ⟨3, ![2, 6, 2048]⟩
abbrev S2048 : Shape := ⟨1, ![2048]⟩
abbrev S2048x2048 : Shape := ⟨2, ![2048, 2048]⟩
abbrev S2x8192x2048 : Shape := ⟨3, ![2, 8192, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2x6x2048, .f32⟩
  | .hbm, ⟨3, _⟩ => ⟨S2048, .f32⟩
  | .hbm, ⟨4, _⟩ => ⟨S2048x2048, .bf16⟩
  | .hbm, ⟨5, _⟩ => ⟨S2x8192x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x8192x2048, .f32⟩
  | .hbm, ⟨10, _⟩ => ⟨S2048x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x2048, .f32⟩
  | .hbm, ⟨27, _⟩ => ⟨S2x8192x2048, .f32⟩
  | .hbm, ⟨28, _⟩ => ⟨S1x1x2048, .f32⟩
  | .hbm, ⟨29, _⟩ => ⟨S2x8192x2048, .f32⟩
  | .hbm, ⟨30, _⟩ => ⟨S2x8192x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel4.lean ====
abbrev S16384x1024 : Shape := ⟨2, ![16384, 1024]⟩
abbrev S16384x11264 : Shape := ⟨2, ![16384, 11264]⟩
abbrev S16x64 : Shape := ⟨2, ![16, 64]⟩
abbrev S1024 : Shape := ⟨1, ![1024]⟩
abbrev S4096 : Shape := ⟨1, ![4096]⟩
abbrev S1024x2048 : Shape := ⟨2, ![1024, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S1x4096 : Shape := ⟨2, ![1, 4096]⟩
abbrev S16384x2048 : Shape := ⟨2, ![16384, 2048]⟩
abbrev S256x1024 : Shape := ⟨2, ![256, 1024]⟩
abbrev S256x2048 : Shape := ⟨2, ![256, 2048]⟩
abbrev S1x2048 : Shape := ⟨2, ![1, 2048]⟩
abbrev S256x128 : Shape := ⟨2, ![256, 128]⟩

abbrev nBuf : Space → Nat
  | .hbm => 48
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x11264, .f32⟩
  | .hbm, ⟨8, _⟩ => ⟨S16x64, .f32⟩
  | .hbm, ⟨9, _⟩ => ⟨S1024, .f32⟩
  | .hbm, ⟨10, _⟩ => ⟨S1024, .f32⟩
  | .hbm, ⟨11, _⟩ => ⟨S4096, .f32⟩
  | .hbm, ⟨12, _⟩ => ⟨S1024x2048, .f32⟩
  | .hbm, ⟨13, _⟩ => ⟨S1024x2048, .f32⟩
  | .hbm, ⟨14, _⟩ => ⟨S128, .i32⟩
  | .hbm, ⟨15, _⟩ => ⟨S_, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S128, .i1⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S128x1, .i32⟩
  | .hbm, ⟨34, _⟩ => ⟨S1x128, .i32⟩
  | .hbm, ⟨35, _⟩ => ⟨S128x128, .i32⟩
  | .hbm, ⟨36, _⟩ => ⟨S128x128, .i32⟩
  | .hbm, ⟨37, _⟩ => ⟨S128x128, .i1⟩
  | .hbm, ⟨38, _⟩ => ⟨S128x128, .bf16⟩
  | .hbm, ⟨39, _⟩ => ⟨S1024, .f32⟩
  | .hbm, ⟨40, _⟩ => ⟨S1024x2048, .bf16⟩
  | .hbm, ⟨41, _⟩ => ⟨S1024x2048, .bf16⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x4096, .f32⟩
  | .hbm, ⟨46, _⟩ => ⟨S1x4096, .f32⟩
  | .hbm, ⟨47, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S128x128, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x2048, .f32⟩
  | .local _ .vmem, ⟨23, _⟩ => ⟨S1x2048, .f32⟩
  | .local _ .vmem, ⟨24, _⟩ => ⟨S1024x2048, .bf16⟩
  | .local _ .vmem, ⟨25, _⟩ => ⟨S1024x2048, .bf16⟩
  | .local _ .vmem, ⟨26, _⟩ => ⟨S256x2048, .f32⟩
  | .local _ .vmem, ⟨27, _⟩ => ⟨S256x2048, .f32⟩
  | .local _ .vmem, ⟨28, _⟩ => ⟨S256x1024, .bf16⟩
  | .local _ .vmem, ⟨29, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true]

abbrev stage0_15 : Fin 1 → Memref sig .tc .vmem S1024x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, true]

abbrev stage0_16 : Fin 1 → Memref sig .tc .vmem S1024x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, true]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S16384x1024 : Shape := ⟨2, ![16384, 1024]⟩
abbrev S16384x11264 : Shape := ⟨2, ![16384, 11264]⟩
abbrev S16x64 : Shape := ⟨2, ![16, 64]⟩
abbrev S1024 : Shape := ⟨1, ![1024]⟩
abbrev S4096 : Shape := ⟨1, ![4096]⟩
abbrev S1024x2048 : Shape := ⟨2, ![1024, 2048]⟩
abbrev S2x8192x1024 : Shape := ⟨3, ![2, 8192, 1024]⟩
abbrev S2x8192x16x64 : Shape := ⟨4, ![2, 8192, 16, 64]⟩
abbrev S_ : Shape := ⟨0, ![]⟩
abbrev S2x8192x16 : Shape := ⟨3, ![2, 8192, 16]⟩
abbrev S2x8192x16x1 : Shape := ⟨4, ![2, 8192, 16, 1]⟩
abbrev S1x1x1024 : Shape := ⟨3, ![1, 1, 1024]⟩
abbrev S1x1x16x64 : Shape := ⟨4, ![1, 1, 16, 64]⟩
abbrev S2x8192x11264 : Shape := ⟨3, ![2, 8192, 11264]⟩
abbrev S2x8192x4096 : Shape := ⟨3, ![2, 8192, 4096]⟩
abbrev S1x1x4096 : Shape := ⟨3, ![1, 1, 4096]⟩
abbrev S2x8192x2048 : Shape := ⟨3, ![2, 8192, 2048]⟩
abbrev S16384x2048 : Shape := ⟨2, ![16384, 2048]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x11264, .f32⟩
  | .hbm, ⟨8, _⟩ => ⟨S16x64, .f32⟩
  | .hbm, ⟨9, _⟩ => ⟨S1024, .f32⟩
  | .hbm, ⟨10, _⟩ => ⟨S1024, .f32⟩
  | .hbm, ⟨11, _⟩ => ⟨S4096, .f32⟩
  | .hbm, ⟨12, _⟩ => ⟨S1024x2048, .f32⟩
  | .hbm, ⟨13, _⟩ => ⟨S1024x2048, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x16x64, .f32⟩
  | .hbm, ⟨19, _⟩ => ⟨S2x8192x16x64, .f32⟩
  | .hbm, ⟨20, _⟩ => ⟨S2x8192x16x64, .f32⟩
  | .hbm, ⟨21, _⟩ => ⟨S_, .f32⟩
  | .hbm, ⟨22, _⟩ => ⟨S2x8192x16, .f32⟩
  | .hbm, ⟨23, _⟩ => ⟨S2x8192x16x1, .f32⟩
  | .hbm, ⟨24, _⟩ => ⟨S_, .f32⟩
  | .hbm, ⟨25, _⟩ => ⟨S2x8192x16x1, .f32⟩
  | .hbm, ⟨26, _⟩ => ⟨S2x8192x16x1, .f32⟩
  | .hbm, ⟨27, _⟩ => ⟨S2x8192x16x64, .f32⟩
  | .hbm, ⟨28, _⟩ => ⟨S2x8192x16x64, .f32⟩
  | .hbm, ⟨29, _⟩ => ⟨S2x8192x16x64, .f32⟩
  | .hbm, ⟨30, _⟩ => ⟨S_, .f32⟩
  | .hbm, ⟨31, _⟩ => ⟨S2x8192x16, .f32⟩
  | .hbm, ⟨32, _⟩ => ⟨S2x8192x16x1, .f32⟩
  | .hbm, ⟨33, _⟩ => ⟨S_, .f32⟩
  | .hbm, ⟨34, _⟩ => ⟨S2x8192x16x1, .f32⟩
  | .hbm, ⟨35, _⟩ => ⟨S2x8192x16x1, .f32⟩
  | .hbm, ⟨36, _⟩ => ⟨S2x8192x16x64, .f32⟩
  | .hbm, ⟨37, _⟩ => ⟨S2x8192x16x64, .f32⟩
  | .hbm, ⟨38, _⟩ => ⟨S_, .f32⟩
  | .hbm, ⟨39, _⟩ => ⟨S2x8192x16x1, .f32⟩
  | .hbm, ⟨40, _⟩ => ⟨S2x8192x16x1, .f32⟩
  | .hbm, ⟨41, _⟩ => ⟨S2x8192x16x1, .f32⟩
  | .hbm, ⟨42, _⟩ => ⟨S2x8192x16x64, .f32⟩
  | .hbm, ⟨43, _⟩ => ⟨S2x8192x16x64, .f32⟩
  | .hbm, ⟨44, _⟩ => ⟨S2x8192x1024, .f32⟩
  | .hbm, ⟨45, _⟩ => ⟨S1x1x1024, .f32⟩
  | .hbm, ⟨46, _⟩ => ⟨S2x8192x1024, .f32⟩
  | .hbm, ⟨47, _⟩ => ⟨S2x8192x1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S2x8192x16x64, .f32⟩
  | .hbm, ⟨52, _⟩ => ⟨S2x8192x16x64, .f32⟩
  | .hbm, ⟨53, _⟩ => ⟨S2x8192x16x64, .f32⟩
  | .hbm, ⟨54, _⟩ => ⟨S1x1x16x64, .f32⟩
  | .hbm, ⟨55, _⟩ => ⟨S2x8192x16x64, .f32⟩
  | .hbm, ⟨56, _⟩ => ⟨S2x8192x16x64, .f32⟩
  | .hbm, ⟨57, _⟩ => ⟨S_, .f32⟩
  | .hbm, ⟨58, _⟩ => ⟨S2x8192x16, .f32⟩
  | .hbm, ⟨59, _⟩ => ⟨S2x8192x16x1, .f32⟩
  | .hbm, ⟨60, _⟩ => ⟨S2x8192x16x64, .f32⟩
  | .hbm, ⟨61, _⟩ => ⟨S2x8192x16x64, .f32⟩
  | .hbm, ⟨62, _⟩ => ⟨S2x8192x16x64, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x11264, .f32⟩
  | .hbm, ⟨67, _⟩ => ⟨S2x8192x4096, .f32⟩
  | .hbm, ⟨68, _⟩ => ⟨S1x1x4096, .f32⟩
  | .hbm, ⟨69, _⟩ => ⟨S2x8192x4096, .f32⟩
  | .hbm, ⟨70, _⟩ => ⟨S2x8192x4096, .f32⟩
  | .hbm, ⟨71, _⟩ => ⟨S2x8192x4096, .f32⟩
  | .hbm, ⟨72, _⟩ => ⟨S2x8192x4096, .f32⟩
  | .hbm, ⟨73, _⟩ => ⟨S_, .f32⟩
  | .hbm, ⟨74, _⟩ => ⟨S2x8192x4096, .f32⟩
  | .hbm, ⟨75, _⟩ => ⟨S2x8192x4096, .f32⟩
  | .hbm, ⟨76, _⟩ => ⟨S_, .f32⟩
  | .hbm, ⟨77, _⟩ => ⟨S2x8192x4096, .f32⟩
  | .hbm, ⟨78, _⟩ => ⟨S2x8192x4096, .f32⟩
  | .hbm, ⟨79, _⟩ => ⟨S2x8192x2048, .f32⟩
  | .hbm, ⟨80, _⟩ => ⟨S2x8192x2048, .f32⟩
  | .hbm, ⟨81, _⟩ => ⟨S2x8192x1024, .f32⟩
  | .hbm, ⟨82, _⟩ => ⟨S2x8192x2048, .f32⟩
  | .hbm, ⟨83, _⟩ => ⟨S2x8192x2048, .f32⟩
  | .hbm, ⟨84, _⟩ => ⟨S2x8192x2048, .f32⟩
  | .hbm, ⟨85, _⟩ => ⟨S2x8192x2048, .f32⟩
  | .hbm, ⟨86, _⟩ => ⟨S2x8192x2048, .f32⟩
  | .hbm, ⟨87, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel5.lean ====
abbrev S16384x11264 : Shape := ⟨2, ![16384, 11264]⟩
abbrev S2x3712 : Shape := ⟨2, ![2, 3712]⟩
abbrev S2x1024 : Shape := ⟨2, ![2, 1024]⟩
abbrev S2x96x1024 : Shape := ⟨3, ![2, 96, 1024]⟩
abbrev S256x1024 : Shape := ⟨2, ![256, 1024]⟩
abbrev S1024 : Shape := ⟨1, ![1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x128x1024 : Shape := ⟨3, ![2, 128, 1024]⟩
abbrev S2x3072 : Shape := ⟨2, ![2, 3072]⟩
abbrev S2x640 : Shape := ⟨2, ![2, 640]⟩
abbrev S2x96 : Shape := ⟨2, ![2, 96]⟩
abbrev S2x128 : Shape := ⟨2, ![2, 128]⟩
abbrev S2x256 : Shape := ⟨2, ![2, 256]⟩
abbrev S2x768 : Shape := ⟨2, ![2, 768]⟩
abbrev S1x1024 : Shape := ⟨2, ![1, 1024]⟩
abbrev S16384x1024 : Shape := ⟨2, ![16384, 1024]⟩
abbrev S2x16384x1024 : Shape := ⟨3, ![2, 16384, 1024]⟩
abbrev S8x1024 : Shape := ⟨2, ![8, 1024]⟩
abbrev S2x256x1024 : Shape := ⟨3, ![2, 256, 1024]⟩
abbrev S256x1 : Shape := ⟨2, ![256, 1]⟩
abbrev S256x128 : Shape := ⟨2, ![256, 128]⟩
abbrev S1x128x1024 : Shape := ⟨3, ![1, 128, 1024]⟩
abbrev S128x1024 : Shape := ⟨2, ![128, 1024]⟩
abbrev S1x256x1024 : Shape := ⟨3, ![1, 256, 1024]⟩
abbrev S256x256 : Shape := ⟨2, ![256, 256]⟩

abbrev nBuf : Space → Nat
  | .hbm => 73
  | .vmem => 47
  | .smem => 0
  | _ => 0

abbrev bufTy : (tb : Table) → Fin (tcTables nBuf tb) → BufTy
  | .hbm, ⟨0, _⟩ => ⟨S16384x11264, .f32⟩
  | .hbm, ⟨1, _⟩ => ⟨S2x3712, .f32⟩
  | .hbm, ⟨2, _⟩ => ⟨S2x1024, .f32⟩
  | .hbm, ⟨3, _⟩ => ⟨S2x96x1024, .f32⟩
  | .hbm, ⟨4, _⟩ => ⟨S2x1024, .f32⟩
  | .hbm, ⟨5, _⟩ => ⟨S2x96x1024, .f32⟩
  | .hbm, ⟨6, _⟩ => ⟨S256x1024, .f32⟩
  | .hbm, ⟨7, _⟩ => ⟨S1024, .f32⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S1x128, .i32⟩
  | .hbm, ⟨29, _⟩ => ⟨S128x128, .i32⟩
  | .hbm, ⟨30, _⟩ => ⟨S128x128, .i32⟩
  | .hbm, ⟨31, _⟩ => ⟨S128x128, .i1⟩
  | .hbm, ⟨32, _⟩ => ⟨S128x128, .bf16⟩
  | .hbm, ⟨33, _⟩ => ⟨S_, .i32⟩
  | .hbm, ⟨34, _⟩ => ⟨S_, .f32⟩
  | .hbm, ⟨35, _⟩ => ⟨S2x128x1024, .f32⟩
  | .hbm, ⟨36, _⟩ => ⟨S2x128x1024, .bf16⟩
  | .hbm, ⟨37, _⟩ => ⟨S_, .i32⟩
  | .hbm, ⟨38, _⟩ => ⟨S_, .f32⟩
  | .hbm, ⟨39, _⟩ => ⟨S2x128x1024, .f32⟩
  | .hbm, ⟨40, _⟩ => ⟨S2x128x1024, .bf16⟩
  | .hbm, ⟨41, _⟩ => ⟨S2x3072, .f32⟩
  | .hbm, ⟨42, _⟩ => ⟨S2x640, .f32⟩
  | .hbm, ⟨43, _⟩ => ⟨S2x96, .f32⟩
  | .hbm, ⟨44, _⟩ => ⟨S_, .i32⟩
  | .hbm, ⟨45, _⟩ => ⟨S_, .f32⟩
  | .hbm, ⟨46, _⟩ => ⟨S2x128, .f32⟩
  | .hbm, ⟨47, _⟩ => ⟨S2x96, .f32⟩
  | .hbm, ⟨48, _⟩ => ⟨S_, .i32⟩
  | .hbm, ⟨49, _⟩ => ⟨S_, .f32⟩
  | .hbm, ⟨50, _⟩ => ⟨S2x128, .f32⟩
  | .hbm, ⟨51, _⟩ => ⟨S2x96, .f32⟩
  | .hbm, ⟨52, _⟩ => ⟨S_, .i32⟩
  | .hbm, ⟨53, _⟩ => ⟨S_, .f32⟩
  | .hbm, ⟨54, _⟩ => ⟨S2x128, .f32⟩
  | .hbm, ⟨55, _⟩ => ⟨S2x96, .f32⟩
  | .hbm, ⟨56, _⟩ => ⟨S_, .i32⟩
  | .hbm, ⟨57, _⟩ => ⟨S_, .f32⟩
  | .hbm, ⟨58, _⟩ => ⟨S2x128, .f32⟩
  | .hbm, ⟨59, _⟩ => ⟨S2x256, .f32⟩
  | .hbm, ⟨60, _⟩ => ⟨S2x768, .f32⟩
  | .hbm, ⟨61, _⟩ => ⟨S_, .i32⟩
  | .hbm, ⟨62, _⟩ => ⟨S_, .f32⟩
  | .hbm, ⟨63, _⟩ => ⟨S2x1024, .f32⟩
  | .hbm, ⟨64, _⟩ => ⟨S256x1024, .bf16⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S2x16384x1024, .f32⟩
  | .hbm, ⟨71, _⟩ => ⟨S2x16384x1024, .f32⟩
  | .hbm, ⟨72, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | .local _ .vmem, ⟨24, _⟩ => ⟨S2x3072, .f32⟩
  | .local _ .vmem, ⟨25, _⟩ => ⟨S2x1024, .f32⟩
  | .local _ .vmem, ⟨26, _⟩ => ⟨S2x1024, .f32⟩
  | .local _ .vmem, ⟨27, _⟩ => ⟨S2x128x1024, .bf16⟩
  | .local _ .vmem, ⟨28, _⟩ => ⟨S2x1024, .f32⟩
  | .local _ .vmem, ⟨29, _⟩ => ⟨S2x128x1024, .bf16⟩
  | .local _ .vmem, ⟨30, _⟩ => ⟨S256x1024, .bf16⟩
  | .local _ .vmem, ⟨31, _⟩ => ⟨S1x1024, .f32⟩
  | .local _ .vmem, ⟨32, _⟩ => ⟨S128x128, .bf16⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S2x256x1024, .f32⟩
  | .local _ .vmem, ⟨42, _⟩ => ⟨S2x256x1024, .f32⟩
  | .local _ .vmem, ⟨43, _⟩ => ⟨S2x256x1024, .f32⟩
  | .local _ .vmem, ⟨44, _⟩ => ⟨S2x256x1024, .f32⟩
  | .local _ .vmem, ⟨45, _⟩ => ⟨S256x1024, .f32⟩
  | .local _ .vmem, ⟨46, _⟩ => ⟨S256x1024, .f32⟩
  | _, _ => ⟨S16384x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_call1_v0 : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_call2_v0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_2 : Ref sig .tc := ⟨.hbm, 44, rfl⟩
abbrev main_call3_v0 : Ref sig .tc := ⟨.hbm, 45, rfl⟩
abbrev main_v15 : Ref sig .tc := ⟨.hbm, 46, rfl⟩
abbrev main_v16 : Ref sig .tc := ⟨.hbm, 47, rfl⟩
abbrev main_c_3 : Ref sig .tc := ⟨.hbm, 48, rfl⟩
abbrev main_call4_v0 : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_call5_v0 : Ref sig .tc := ⟨.hbm, 53, rfl⟩
abbrev main_v19 : Ref sig .tc := ⟨.hbm, 54, rfl⟩
abbrev main_v20 : Ref sig .tc := ⟨.hbm, 55, rfl⟩
abbrev main_c_5 : Ref sig .tc := ⟨.hbm, 56, rfl⟩
abbrev main_call6_v0 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_6 : Ref sig .tc := ⟨.hbm, 61, rfl⟩
abbrev main_call7_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27_0 : Ref sig .tc := ⟨.hbm, 66, rfl⟩
abbrev main_v27_1 : Ref sig .tc := ⟨.hbm, 67, rfl⟩
abbrev main_v27_2 : Ref sig .tc := ⟨.hbm, 68, rfl⟩
abbrev main_v27_3 : Ref sig .tc := ⟨.hbm, 69, rfl⟩
abbrev main_v27_4 : Ref sig .tc := ⟨.hbm, 70, rfl⟩
abbrev main_v27_5 : Ref sig .tc := ⟨.hbm, 71, rfl⟩
abbrev main_v27_6 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_stg26_0 : Ref sig .tc := ⟨.vmem, 43, rfl⟩
abbrev cc0_stg26_1 : Ref sig .tc := ⟨.vmem, 44, rfl⟩
abbrev cc0_stg27_0 : Ref sig .tc := ⟨.vmem, 45, rfl⟩
abbrev cc0_stg27_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42
abbrev cc0_sem26_0 : DmaSem sig := 43
abbrev cc0_sem26_1 : DmaSem sig := 44
abbrev cc0_sem27_0 : DmaSem sig := 45
abbrev cc0_sem27_1 : DmaSem sig := 46

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c3_i32 : BitVec 32 := 3#32
  let c0_i32 : BitVec 32 := 0#32
  ![v2.toNat, c3_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c4_i32 : BitVec 32 := 4#32
  let c0_i32 : BitVec 32 := 0#32
  ![v2.toNat, c4_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c5_i32 : BitVec 32 := 5#32
  let c0_i32 : BitVec 32 := 0#32
  ![v2.toNat, c5_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c10_i32 : BitVec 32 := 10#32
  let c0_i32 : BitVec 32 := 0#32
  ![v2.toNat, c10_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2x256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S2x256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Reference5Ideal.lean ====
abbrev S16384x11264 : Shape := ⟨2, ![16384, 11264]⟩
abbrev S2x3712 : Shape := ⟨2, ![2, 3712]⟩
abbrev S2x1024 : Shape := ⟨2, ![2, 1024]⟩
abbrev S2x96x1024 : Shape := ⟨3, ![2, 96, 1024]⟩
abbrev S256x1024 : Shape := ⟨2, ![256, 1024]⟩
abbrev S1024 : Shape := ⟨1, ![1024]⟩
abbrev S2x8192x11264 : Shape := ⟨3, ![2, 8192, 11264]⟩
abbrev S2x8192x3072 : Shape := ⟨3, ![2, 8192, 3072]⟩
abbrev S2x8192x96 : Shape := ⟨3, ![2, 8192, 96]⟩
abbrev S2x8192x256 : Shape := ⟨3, ![2, 8192, 256]⟩
abbrev S2x8192x3712 : Shape := ⟨3, ![2, 8192, 3712]⟩
abbrev S2x8191x3712 : Shape := ⟨3, ![2, 8191, 3712]⟩
abbrev S_ : Shape := ⟨0, ![]⟩
abbrev S1x3712 : Shape := ⟨2, ![1, 3712]⟩
abbrev S3712 : Shape := ⟨1, ![3712]⟩
abbrev S1x1x3712 : Shape := ⟨3, ![1, 1, 3712]⟩
abbrev S2x8192x1024 : Shape := ⟨3, ![2, 8192, 1024]⟩
abbrev S1x2x8192x96 : Shape := ⟨4, ![1, 2, 8192, 96]⟩
abbrev S2x2x8192x96 : Shape := ⟨4, ![2, 2, 8192, 96]⟩
abbrev S2x1x1x1024 : Shape := ⟨4, ![2, 1, 1, 1024]⟩
abbrev S2x2x8192x1024 : Shape := ⟨4, ![2, 2, 8192, 1024]⟩
abbrev S1x1x1024 : Shape := ⟨3, ![1, 1, 1024]⟩
abbrev S2x8192x16x64 : Shape := ⟨4, ![2, 8192, 16, 64]⟩
abbrev S2x8192x16 : Shape := ⟨3, ![2, 8192, 16]⟩
abbrev S2x8192x16x1 : Shape := ⟨4, ![2, 8192, 16, 1]⟩
abbrev S16384x1024 : Shape := ⟨2, ![16384, 1024]⟩
abbrev S2x16384x1024 : Shape := ⟨3, ![2, 16384, 1024]⟩

abbrev nBuf : Space → Nat
  | .hbm => 120
  | .vmem => 0
  | .smem => 0
  | _ => 0

abbrev bufTy : (tb : Table) → Fin (tcTables nBuf tb) → BufTy
  | .hbm, ⟨0, _⟩ => ⟨S16384x11264, .f32⟩
  | .hbm, ⟨1, _⟩ => ⟨S2x3712, .f32⟩
  | .hbm, ⟨2, _⟩ => ⟨S2x1024, .f32⟩
  | .hbm, ⟨3, _⟩ => ⟨S2x96x1024, .f32⟩
  | .hbm, ⟨4, _⟩ => ⟨S2x1024, .f32⟩
  | .hbm, ⟨5, _⟩ => ⟨S2x96x1024, .f32⟩
  | .hbm, ⟨6, _⟩ => ⟨S256x1024, .f32⟩
  | .hbm, ⟨7, _⟩ => ⟨S1024, .f32⟩
  | .hbm, ⟨8, _⟩ => ⟨S2x8192x11264, .f32⟩
  | .hbm, ⟨9, _⟩ => ⟨S2x8192x3072, .f32⟩
  | .hbm, ⟨10, _⟩ => ⟨S2x8192x96, .f32⟩
  | .hbm, ⟨11, _⟩ => ⟨S2x8192x96, .f32⟩
  | .hbm, ⟨12, _⟩ => ⟨S2x8192x96, .f32⟩
  | .hbm, ⟨13, _⟩ => ⟨S2x8192x96, .f32⟩
  | .hbm, ⟨14, _⟩ => ⟨S2x8192x256, .f32⟩
  | .hbm, ⟨15, _⟩ => ⟨S2x8192x3712, .f32⟩
  | .hbm, ⟨16, _⟩ => ⟨S2x8191x3712, .f32⟩
  | .hbm, ⟨17, _⟩ => ⟨S_, .i32⟩
  | .hbm, ⟨18, _⟩ => ⟨S_, .f32⟩
  | .hbm, ⟨19, _⟩ => ⟨S2x8192x3712, .f32⟩
  | .hbm, ⟨20, _⟩ => ⟨S2x8191x3712, .f32⟩
  | .hbm, ⟨21, _⟩ => ⟨S_, .i32⟩
  | .hbm, ⟨22, _⟩ => ⟨S_, .f32⟩
  | .hbm, ⟨23, _⟩ => ⟨S2x8192x3712, .f32⟩
  | .hbm, ⟨24, _⟩ => ⟨S1x3712, .f32⟩
  | .hbm, ⟨25, _⟩ => ⟨S3712, .f32⟩
  | .hbm, ⟨26, _⟩ => ⟨S2x8192x3712, .f32⟩
  | .hbm, ⟨27, _⟩ => ⟨S1x1x3712, .f32⟩
  | .hbm, ⟨28, _⟩ => ⟨S2x8192x3712, .f32⟩
  | .hbm, ⟨29, _⟩ => ⟨S2x8192x3712, .f32⟩
  | .hbm, ⟨30, _⟩ => ⟨S2x8192x3712, .f32⟩
  | .hbm, ⟨31, _⟩ => ⟨S1x3712, .f32⟩
  | .hbm, ⟨32, _⟩ => ⟨S3712, .f32⟩
  | .hbm, ⟨33, _⟩ => ⟨S2x8192x3712, .f32⟩
  | .hbm, ⟨34, _⟩ => ⟨S1x1x3712, .f32⟩
  | .hbm, ⟨35, _⟩ => ⟨S2x8192x3712, .f32⟩
  | .hbm, ⟨36, _⟩ => ⟨S2x8192x3712, .f32⟩
  | .hbm, ⟨37, _⟩ => ⟨S2x8192x3712, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x96, .f32⟩
  | .hbm, ⟨42, _⟩ => ⟨S2x8192x96, .f32⟩
  | .hbm, ⟨43, _⟩ => ⟨S2x8192x96, .f32⟩
  | .hbm, ⟨44, _⟩ => ⟨S2x8192x96, .f32⟩
  | .hbm, ⟨45, _⟩ => ⟨S2x8192x256, .f32⟩
  | .hbm, ⟨46, _⟩ => ⟨S1x2x8192x96, .f32⟩
  | .hbm, ⟨47, _⟩ => ⟨S1x2x8192x96, .f32⟩
  | .hbm, ⟨48, _⟩ => ⟨S2x2x8192x96, .f32⟩
  | .hbm, ⟨49, _⟩ => ⟨S1x2x8192x96, .f32⟩
  | .hbm, ⟨50, _⟩ => ⟨S1x2x8192x96, .f32⟩
  | .hbm, ⟨51, _⟩ => ⟨S2x2x8192x96, .f32⟩
  | .hbm, ⟨52, _⟩ => ⟨S2x1x1x1024, .f32⟩
  | .hbm, ⟨53, _⟩ => ⟨S2x2x8192x96, .f32⟩
  | .hbm, ⟨54, _⟩ => ⟨S2x2x8192x1024, .f32⟩
  | .hbm, ⟨55, _⟩ => ⟨S2x2x8192x1024, .f32⟩
  | .hbm, ⟨56, _⟩ => ⟨S2x2x8192x1024, .f32⟩
  | .hbm, ⟨57, _⟩ => ⟨S2x2x8192x1024, .f32⟩
  | .hbm, ⟨58, _⟩ => ⟨S_, .f32⟩
  | .hbm, ⟨59, _⟩ => ⟨S2x2x8192x1024, .f32⟩
  | .hbm, ⟨60, _⟩ => ⟨S2x2x8192x1024, .f32⟩
  | .hbm, ⟨61, _⟩ => ⟨S2x2x8192x1024, .f32⟩
  | .hbm, ⟨62, _⟩ => ⟨S2x2x8192x1024, .f32⟩
  | .hbm, ⟨63, _⟩ => ⟨S2x2x8192x1024, .i1⟩
  | .hbm, ⟨64, _⟩ => ⟨S2x2x8192x1024, .f32⟩
  | .hbm, ⟨65, _⟩ => ⟨S2x2x8192x1024, .f32⟩
  | .hbm, ⟨66, _⟩ => ⟨S2x2x8192x1024, .f32⟩
  | .hbm, ⟨67, _⟩ => ⟨S2x2x8192x1024, .f32⟩
  | .hbm, ⟨68, _⟩ => ⟨S2x2x8192x1024, .f32⟩
  | .hbm, ⟨69, _⟩ => ⟨S2x2x8192x1024, .f32⟩
  | .hbm, ⟨70, _⟩ => ⟨S2x2x8192x1024, .f32⟩
  | .hbm, ⟨71, _⟩ => ⟨S2x2x8192x1024, .f32⟩
  | .hbm, ⟨72, _⟩ => ⟨S2x2x8192x1024, .f32⟩
  | .hbm, ⟨73, _⟩ => ⟨S_, .f32⟩
  | .hbm, ⟨74, _⟩ => ⟨S2x2x8192x1024, .f32⟩
  | .hbm, ⟨75, _⟩ => ⟨S2x2x8192x1024, .f32⟩
  | .hbm, ⟨76, _⟩ => ⟨S2x2x8192x1024, .f32⟩
  | .hbm, ⟨77, _⟩ => ⟨S2x2x8192x1024, .f32⟩
  | .hbm, ⟨78, _⟩ => ⟨S2x1x1x1024, .f32⟩
  | .hbm, ⟨79, _⟩ => ⟨S2x2x8192x1024, .f32⟩
  | .hbm, ⟨80, _⟩ => ⟨S2x2x8192x1024, .f32⟩
  | .hbm, ⟨81, _⟩ => ⟨S2x2x8192x1024, .f32⟩
  | .hbm, ⟨82, _⟩ => ⟨S2x2x8192x1024, .f32⟩
  | .hbm, ⟨83, _⟩ => ⟨S2x2x8192x1024, .f32⟩
  | .hbm, ⟨84, _⟩ => ⟨S_, .f32⟩
  | .hbm, ⟨85, _⟩ => ⟨S2x2x8192x1024, .f32⟩
  | .hbm, ⟨86, _⟩ => ⟨S2x2x8192x1024, .f32⟩
  | .hbm, ⟨87, _⟩ => ⟨S_, .f32⟩
  | .hbm, ⟨88, _⟩ => ⟨S2x2x8192x1024, .f32⟩
  | .hbm, ⟨89, _⟩ => ⟨S2x2x8192x1024, .f32⟩
  | .hbm, ⟨90, _⟩ => ⟨S2x8192x256, .f32⟩
  | .hbm, ⟨91, _⟩ => ⟨S2x8192x256, .f32⟩
  | .hbm, ⟨92, _⟩ => ⟨S_, .f32⟩
  | .hbm, ⟨93, _⟩ => ⟨S2x8192x256, .f32⟩
  | .hbm, ⟨94, _⟩ => ⟨S2x8192x256, .f32⟩
  | .hbm, ⟨95, _⟩ => ⟨S_, .f32⟩
  | .hbm, ⟨96, _⟩ => ⟨S2x8192x256, .f32⟩
  | .hbm, ⟨97, _⟩ => ⟨S2x8192x256, .f32⟩
  | .hbm, ⟨98, _⟩ => ⟨S2x8192x1024, .f32⟩
  | .hbm, ⟨99, _⟩ => ⟨S1x1x1024, .f32⟩
  | .hbm, ⟨100, _⟩ => ⟨S2x8192x1024, .f32⟩
  | .hbm, ⟨101, _⟩ => ⟨S2x8192x1024, .f32⟩
  | .hbm, ⟨102, _⟩ => ⟨S2x8192x16x64, .f32⟩
  | .hbm, ⟨103, _⟩ => ⟨S2x8192x16x64, .f32⟩
  | .hbm, ⟨104, _⟩ => ⟨S_, .f32⟩
  | .hbm, ⟨105, _⟩ => ⟨S2x8192x16, .f32⟩
  | .hbm, ⟨106, _⟩ => ⟨S2x8192x16x1, .f32⟩
  | .hbm, ⟨107, _⟩ => ⟨S2x8192x16x1, .f32⟩
  | .hbm, ⟨108, _⟩ => ⟨S_, .f32⟩
  | .hbm, ⟨109, _⟩ => ⟨S2x8192x16x1, .f32⟩
  | .hbm, ⟨110, _⟩ => ⟨S2x8192x16x1, .f32⟩
  | .hbm, ⟨111, _⟩ => ⟨S2x8192x16x64, .f32⟩
  | .hbm, ⟨112, _⟩ => ⟨S2x8192x16x64, .f32⟩
  | .hbm, ⟨113, _⟩ => ⟨S16384x1024, .f32⟩
  | .hbm, ⟨114, _⟩ => ⟨S16384x1024, .f32⟩
  | .hbm, ⟨115, _⟩ => ⟨S16384x1024, .f32⟩
  | .hbm, ⟨116, _⟩ => ⟨S16384x1024, .f32⟩
  | .hbm, ⟨117, _⟩ => ⟨S2x16384x1024, .f32⟩
  | .hbm, ⟨118, _⟩ => ⟨S2x16384x1024, .f32⟩
  | .hbm, ⟨119, _⟩ => ⟨S16384x1024, .f32⟩
  | _, _ => ⟨S16384x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call2_cst : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_v46 : Ref sig .tc := ⟨.hbm, 71, rfl⟩
abbrev main_v47 : Ref sig .tc := ⟨.hbm, 72, rfl⟩
abbrev main_cst : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_1 : Ref sig .tc := ⟨.hbm, 84, rfl⟩
abbrev main_v58 : Ref sig .tc := ⟨.hbm, 85, rfl⟩
abbrev main_v59 : Ref sig .tc := ⟨.hbm, 86, rfl⟩
abbrev main_cst_2 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_3 : Ref sig .tc := ⟨.hbm, 92, rfl⟩
abbrev main_v64 : Ref sig .tc := ⟨.hbm, 93, rfl⟩
abbrev main_v65 : Ref sig .tc := ⟨.hbm, 94, rfl⟩
abbrev main_cst_4 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_5 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_6 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]
-- ==== Kernel6.lean ====
abbrev S2x2048 : Shape := ⟨2, ![2, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1 : Shape := ⟨1, ![1]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048x12288, .f32⟩
  | .hbm, ⟨2, _⟩ => ⟨S12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S1x12288, .f32⟩
  | .hbm, ⟨9, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x2048 : Shape := ⟨2, ![2, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S8x12288 : Shape := ⟨2, ![8, 12288]⟩
abbrev S1x12288 : Shape := ⟨2, ![1, 12288]⟩

abbrev nBuf : Space → Nat
  | .hbm => 19
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048x12288, .f32⟩
  | .hbm, ⟨2, _⟩ => ⟨S12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x12288, .f32⟩
  | .hbm, ⟨16, _⟩ => ⟨S1x12288, .f32⟩
  | .hbm, ⟨17, _⟩ => ⟨S8x12288, .f32⟩
  | .hbm, ⟨18, _⟩ => ⟨S8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Proof.Block.lean ====
/- What one grid point of the attention kernel writes, as a few named stages: the normalised queries and keys, the
   bias block put together from tiles, the logits of one key block, and the softmax over the four key blocks. The
   module shows that the kernel's stored value is these stages, and reads each stage at an index. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

/-! ## The tiles of the bias block -/

/-- Which of three numbers a grid column takes: the first column, the last one, or one in between, in this order. -/
def pick (i a b c : Nat) : Nat := if i = 0 then a else if i = 15 then b else c

/-- Tile `k` of one head's table. -/
def tile (x : Vec Ideal S1x17x64x128 .f32) (k : Nat) : Vec Ideal S1x1x64x128 .f32 :=
  fun z => if h : k < 17 then x (ix4 0 ⟨k, h⟩ (z 2) (z 3)) else 0

/-- The offset of a load of a tile, in plain numbers. -/
theorem off_eq (i : grid0.Coords) (a b c : BitVec 32) :
    k0_off1 i a b c = ![0, pick (i 2).val a.toNat b.toNat c.toNat, 0, 0] := by
  have h : (i 2).val < 16 := (i 2).isLt
  have key : ∀ n : Fin 16, (Scalar.indexCast (Scalar.select (Scalar.cmpi .eq (BitVec.ofNat 32 n.val) 0#32) a
      (Scalar.select (Scalar.cmpi .eq (BitVec.ofNat 32 n.val) 15#32) b c))).toNat = pick n.val a.toNat b.toNat c.toNat := by
    intro n
    fin_cases n <;> rfl
  exact congrArg (fun v => ![0, v, 0, 0]) (key ⟨(i 2).val, h⟩)

/-- A load of a tile is that tile of the table. -/
theorem ld_tile (x : Vec Ideal S1x17x64x128 .f32) (i : grid0.Coords) (a b c : BitVec 32)
    (h : ∀ d, k0_off1 i a b c d + (![1, 1, 64, 128] : Fin 4 → Nat) d ≤ S1x17x64x128.size d) :
    View.ld x (Rect.unit (s := S1x17x64x128) (k0_off1 i a b c) ![1, 1, 64, 128] h)
      = tile x (pick (i 2).val a.toNat b.toNat c.toNat) := by
  have h1 := h 1
  rw [off_eq] at h1
  have h2 : pick (i 2).val a.toNat b.toNat c.toNat < 17 := by
    have : pick (i 2).val a.toNat b.toNat c.toNat + 1 ≤ 17 := h1
    omega
  funext z
  unfold tile
  rw [dif_pos h2]
  refine View.ld_unit_apply_of _ _ _ h z _ fun d => ?_
  refine Eq.trans ?_ (congrArg (· + (z d).val) (congrFun (off_eq i a b c) d).symm)
  have z0 : (z 0).val < 1 := (z 0).isLt
  have z1 : (z 1).val < 1 := (z 1).isLt
  match d with
  | ⟨0, _⟩ => show 0 = 0 + (z 0).val; omega
  | ⟨1, _⟩ => show pick (i 2).val a.toNat b.toNat c.toNat = pick (i 2).val a.toNat b.toNat c.toNat + (z 1).val; omega
  | ⟨2, _⟩ => show (z 2).val = 0 + (z 2).val; omega
  | ⟨3, _⟩ => show (z 3).val = 0 + (z 3).val; omega

/-- The same with the three tiles as plain numbers. -/
theorem ld_tile_of (x : Vec Ideal S1x17x64x128 .f32) (i : grid0.Coords) {a b c : BitVec 32} {p q r : Nat}
    (ha : a.toNat = p) (hb : b.toNat = q) (hc : c.toNat = r)
    (h : ∀ d, k0_off1 i a b c d + (![1, 1, 64, 128] : Fin 4 → Nat) d ≤ S1x17x64x128.size d) :
    View.ld x (Rect.unit (s := S1x17x64x128) (k0_off1 i a b c) ![1, 1, 64, 128] h)
      = tile x (pick (i 2).val p q r) := by
  subst ha hb hc
  exact ld_tile x i a b c h

/-- The load of a tile that is the same in every column. -/
theorem ld_tile_const (x : Vec Ideal S1x17x64x128 .f32) (i : Nat)
    (h : ∀ d, (![0, 4, 0, 0] : Fin 4 → Nat) d + (![1, 1, 64, 128] : Fin 4 → Nat) d ≤ S1x17x64x128.size d) :
    View.ld x (Rect.unit (s := S1x17x64x128) ![0, 4, 0, 0] ![1, 1, 64, 128] h) = tile x (pick i 4 4 4) := by
  have h2 : pick i 4 4 4 = 4 := by unfold pick; split <;> [rfl; split <;> rfl]
  rw [h2]
  funext z
  refine View.ld_unit_apply_of _ _ _ h z _ fun d => ?_
  have z0 : (z 0).val < 1 := (z 0).isLt
  have z1 : (z 1).val < 1 := (z 1).isLt
  match d with
  | ⟨0, _⟩ => show 0 = 0 + (z 0).val; omega
  | ⟨1, _⟩ => show 4 = 4 + (z 1).val; omega
  | ⟨2, _⟩ => show (z 2).val = 0 + (z 2).val; omega
  | ⟨3, _⟩ => show (z 3).val = 0 + (z 3).val; omega

/-- The tiles the first grid column takes: row `j` of the queries, pair `p` of key rows. -/
def planFirst : Fin 8 → Fin 8 → Nat :=
  ![![0, 1, 2, 3, 4, 4, 4, 4], ![5, 6, 7, 8, 4, 4, 4, 4], ![9, 0, 1, 2, 4, 4, 4, 4], ![10, 5, 6, 7, 4, 4, 4, 4],
    ![11, 9, 0, 1, 4, 4, 4, 4], ![12, 10, 5, 6, 13, 4, 4, 4], ![4, 11, 9, 0, 1, 4, 4, 4],
    ![4, 12, 10, 5, 6, 13, 4, 4]]

/-- The tiles a column in between takes. -/
def planMid : Fin 8 → Fin 8 → Nat :=
  ![![11, 9, 0, 1, 4, 4, 4, 4], ![12, 10, 5, 6, 13, 4, 4, 4], ![4, 11, 9, 0, 1, 4, 4, 4],
    ![4, 12, 10, 5, 6, 13, 4, 4], ![4, 4, 11, 9, 0, 1, 4, 4], ![4, 4, 12, 10, 5, 6, 13, 4],
    ![4, 4, 4, 11, 9, 0, 1, 4], ![4, 4, 4, 12, 10, 5, 6, 13]]

/-- The tiles the last grid column takes. -/
def planLast : Fin 8 → Fin 8 → Nat :=
  ![![4, 4, 11, 9, 0, 1, 4, 4], ![4, 4, 12, 10, 5, 6, 13, 4], ![4, 4, 4, 11, 9, 0, 1, 4],
    ![4, 4, 4, 12, 10, 5, 6, 13], ![4, 4, 4, 4, 11, 9, 0, 1], ![4, 4, 4, 4, 14, 10, 5, 6],
    ![4, 4, 4, 4, 15, 11, 9, 0], ![4, 4, 4, 4, 16, 14, 10, 5]]

/-- The tile that grid column `i` takes for row `j` of its queries and pair `p` of its key rows. -/
def plan (i : Nat) (j p : Fin 8) : Nat := pick i (planFirst j p) (planLast j p) (planMid j p)

theorem plan_lt (i : Nat) (j p : Fin 8) : plan i j p < 17 := by
  have h : ∀ j p : Fin 8, planFirst j p < 17 ∧ planMid j p < 17 ∧ planLast j p < 17 := by decide +kernel
  obtain ⟨h1, h2, h3⟩ := h j p
  unfold plan pick
  split
  · exact h1
  · split
    · exact h3
    · exact h2

/-- Sixteen tiles as one block: two side by side in each of eight rows. -/
def stack (a0 b0 a1 b1 a2 b2 a3 b3 a4 b4 a5 b5 a6 b6 a7 b7 : Vec Ideal S1x1x64x128 .f32) : FVec Ideal S512x256 .f32 :=
  concatenate S512x256 0
    [⟨S64x256, k0_pay4 a0 b0⟩, ⟨S64x256, k0_pay4 a1 b1⟩, ⟨S64x256, k0_pay4 a2 b2⟩, ⟨S64x256, k0_pay4 a3 b3⟩,
     ⟨S64x256, k0_pay4 a4 b4⟩, ⟨S64x256, k0_pay4 a5 b5⟩, ⟨S64x256, k0_pay4 a6 b6⟩, ⟨S64x256, k0_pay4 a7 b7⟩]
    concatenates_S64x256_S64x256_S64x256_S64x256_S64x256_S64x256_S64x256_S64x256_S512x256_d0

/-- Blocks with equal tiles are equal. -/
theorem stack_congr {a0 b0 a1 b1 a2 b2 a3 b3 a4 b4 a5 b5 a6 b6 a7 b7 c0 d0 c1 d1 c2 d2 c3 d3 c4 d4 c5 d5 c6 d6 c7 d7 : Vec Ideal S1x1x64x128 .f32}
    (h0 : a0 = c0) (h1 : b0 = d0) (h2 : a1 = c1) (h3 : b1 = d1) (h4 : a2 = c2) (h5 : b2 = d2) (h6 : a3 = c3) (h7 : b3 = d3) (h8 : a4 = c4) (h9 : b4 = d4) (h10 : a5 = c5) (h11 : b5 = d5) (h12 : a6 = c6) (h13 : b6 = d6) (h14 : a7 = c7) (h15 : b7 = d7) :
    stack a0 b0 a1 b1 a2 b2 a3 b3 a4 b4 a5 b5 a6 b6 a7 b7 = stack c0 d0 c1 d1 c2 d2 c3 d3 c4 d4 c5 d5 c6 d6 c7 d7 := by
  subst h0 h1 h2 h3 h4 h5 h6 h7 h8 h9 h10 h11 h12 h13 h14 h15
  rfl

/-- The bias block of one key block: row `j` of it is the tiles of its pairs `p` and `q` side by side. -/
def biasBlock (x : Vec Ideal S1x17x64x128 .f32) (i : Nat) (p q : Fin 8) : FVec Ideal S512x256 .f32 :=
  stack (tile x (plan i 0 p)) (tile x (plan i 0 q)) (tile x (plan i 1 p)) (tile x (plan i 1 q))
    (tile x (plan i 2 p)) (tile x (plan i 2 q)) (tile x (plan i 3 p)) (tile x (plan i 3 q))
    (tile x (plan i 4 p)) (tile x (plan i 4 q)) (tile x (plan i 5 p)) (tile x (plan i 5 q))
    (tile x (plan i 6 p)) (tile x (plan i 6 q)) (tile x (plan i 7 p)) (tile x (plan i 7 q))

/-! ## The stages -/

/-- The logits of one key block: the products of queries and keys, plus the bias block. -/
def logits (q : FVec Ideal S512x128 .bf16) (k : FVec Ideal S256x128 .bf16) (b : FVec Ideal S512x256 .f32) :
    FVec Ideal S512x256 .f32 :=
  addf (matmul dot_S512x128_S256x128_S512x256_1_1_0_0_n_n none q k (constant S512x256 .f32 0x00000000#32)) b

/-- The largest logit of every row of one key block. -/
def blockMax (l : FVec Ideal S512x256 .f32) : FVec Ideal S512x1 .f32 :=
  shapeCast S512x1 (multiReduction .maximumf [1] S512 l 0xFF800000#32 reduces_S512x256_S512 (.inl rfl) rfl)
    shapeCasts_S512_S512x1

/-- The largest logit of every row of the band. -/
def rowMax (l : Fin 4 → FVec Ideal S512x256 .f32) : FVec Ideal S512x1 .f32 :=
  maximumf (maximumf (maximumf (blockMax (l 0)) (blockMax (l 1))) (blockMax (l 2))) (blockMax (l 3))

/-- The weights of one key block before their sum is divided out. -/
def weights (l : FVec Ideal S512x256 .f32) (mx : FVec Ideal S512x1 .f32) : FVec Ideal S512x256 .f32 :=
  exp (subf l (broadcastTo S512x256 mx broadcasts_S512x1_S512x256))

/-- The sum of every row's weights in one key block. -/
def blockSum (w : FVec Ideal S512x256 .f32) : FVec Ideal S512x1 .f32 :=
  shapeCast S512x1 (multiReduction .add [1] S512 w 0x00000000#32 reduces_S512x256_S512 (.inl rfl) rfl)
    shapeCasts_S512_S512x1

/-- The weighted sum of one block's values. -/
def blockMix (w : FVec Ideal S512x256 .f32) (v : Vec Ideal S256x128 .f32) : FVec Ideal S512x128 .f32 :=
  matmul dot_S512x256_S256x128_S512x128_1_0_0_1_n_n none (truncf .bf16 w bitsLt_bf16_f32)
    (truncf .bf16 v bitsLt_bf16_f32) (constant S512x128 .f32 0x00000000#32)

/-- The softmax over the four key blocks, applied to their values. -/
def attend (l : Fin 4 → FVec Ideal S512x256 .f32) (v : Fin 4 → Vec Ideal S256x128 .f32) : FVec Ideal S512x128 .f32 :=
  divf
    (addf (addf (addf (addf (broadcast S512x128 (Scalar.ofBits .f32 0x00000000#32))
      (blockMix (weights (l 0) (rowMax l)) (v 0))) (blockMix (weights (l 1) (rowMax l)) (v 1)))
      (blockMix (weights (l 2) (rowMax l)) (v 2))) (blockMix (weights (l 3) (rowMax l)) (v 3)))
    (broadcastTo S512x128
      (addf (addf (addf (addf (broadcast S512x1 (Scalar.ofBits .f32 0x00000000#32))
        (blockSum (weights (l 0) (rowMax l)))) (blockSum (weights (l 1) (rowMax l))))
        (blockSum (weights (l 2) (rowMax l)))) (blockSum (weights (l 3) (rowMax l))))
      broadcasts_S512x1_S512x128)

/-- The second key block is normalised as the first one. -/
theorem keys1_eq (v : Vec Ideal S256x128 .f32) (w : Vec Ideal S1x128 .f32) :
    k0_pay12 v (k0_pay11 v) w = k0_pay3 v w := rfl

/-- The third key block is normalised as the first one. -/
theorem keys2_eq (v : Vec Ideal S256x128 .f32) (w : Vec Ideal S1x128 .f32) : k0_pay23 v w = k0_pay3 v w := rfl

/-- The fourth key block is normalised as the first one. -/
theorem keys3_eq (v : Vec Ideal S256x128 .f32) (w : Vec Ideal S1x128 .f32) :
    k0_pay33 v (k0_pay32 v) w = k0_pay3 v w := rfl

/-- The kernel's logits of its first key block. -/
theorem logits0_eq (q : FVec Ideal S512x128 .bf16) (k : FVec Ideal S256x128 .bf16)
    (a0 b0 a1 b1 a2 b2 a3 b3 a4 b4 a5 b5 a6 b6 a7 b7 : Vec Ideal S1x1x64x128 .f32) :
    k0_pay10 q k (k0_pay4 a0 b0) (k0_pay5 a1 b1) (k0_pay7 (k0_pay6 a2) b2) (k0_pay8 a3 b3) (k0_pay9 a4 b4)
      a5 b5 a6 b6 a7 b7
    = logits q k (stack a0 b0 a1 b1 a2 b2 a3 b3 a4 b4 a5 b5 a6 b6 a7 b7) := rfl

/-- The kernel's logits of its second key block. -/
theorem logits1_eq (q : FVec Ideal S512x128 .bf16) (k : FVec Ideal S256x128 .bf16)
    (a0 b0 a1 b1 a2 b2 a3 b3 a4 b4 a5 b5 a6 b6 a7 b7 : Vec Ideal S1x1x64x128 .f32) :
    k0_pay22 q k (k0_pay13 a0 b0) (k0_pay15 (k0_pay14 a1) b1) (k0_pay16 a2 b2) (k0_pay17 a3 b3)
      (k0_pay19 (k0_pay18 a4) b4) (k0_pay20 a5 b5) (k0_pay21 a6 b6) a7 b7
    = logits q k (stack a0 b0 a1 b1 a2 b2 a3 b3 a4 b4 a5 b5 a6 b6 a7 b7) := rfl

/-- The kernel's logits of its third key block. -/
theorem logits2_eq (q : FVec Ideal S512x128 .bf16) (k : FVec Ideal S256x128 .bf16)
    (a0 b0 a1 b1 a2 b2 a3 b3 a4 b4 a5 b5 a6 b6 a7 b7 : Vec Ideal S1x1x64x128 .f32) :
    k0_pay31 q k (k0_pay25 (k0_pay24 a0) b0) (k0_pay26 a1 b1) (k0_pay27 a2 b2) (k0_pay28 a3 b3)
      (k0_pay29 a4 b4) (k0_pay30 a5) b5 a6 b6 a7 b7
    = logits q k (stack a0 b0 a1 b1 a2 b2 a3 b3 a4 b4 a5 b5 a6 b6 a7 b7) := rfl

/-- The kernel's logits of its fourth key block. -/
theorem logits3_eq (q : FVec Ideal S512x128 .bf16) (k : FVec Ideal S256x128 .bf16)
    (a0 b0 a1 b1 a2 b2 a3 b3 a4 b4 a5 b5 a6 b6 a7 b7 : Vec Ideal S1x1x64x128 .f32) :
    k0_pay42 q k (k0_pay34 a0 b0) (k0_pay35 a1 b1) (k0_pay36 a2 b2) (k0_pay37 a3 b3) (k0_pay38 a4 b4)
      (k0_pay39 a5 b5) (k0_pay40 a6 b6) (k0_pay41 a7) b7
    = logits q k (stack a0 b0 a1 b1 a2 b2 a3 b3 a4 b4 a5 b5 a6 b6 a7 b7) := rfl

/-- The softmax of the kernel, from the logits of its four key blocks, the last of which are its last payload. -/
theorem attend_eq (v19 : FVec Ideal S512x128 .bf16) (v120 v227 v334 : FVec Ideal S512x256 .f32)
    (v350 : FVec Ideal S256x128 .bf16) (v355 v363 v371 v382 v393 v404 v415 : FVec Ideal S64x256 .f32)
    (v420 : FVec Ideal S64x128 .f32) (v424 : Vec Ideal S1x1x64x128 .f32) (v450 v461 v472 v483 : Vec Ideal S256x128 .f32) :
    k0_pay1 (k0_pay42 v19 v350 v355 v363 v371 v382 v393 v404 v415 v420 v424)
      (k0_pay43 v19 v120 v227 v334 v350 v355 v363 v371 v382 v393 v404 v415 v420 v424)
      (k0_pay46 v19 v120 v227 v334 v350 v355 v363 v371 v382 v393 v404 v415 v420 v424)
      (k0_pay47 v19 v120 v227 v334 v350 v355 v363 v371 v382 v393 v404 v415 v420 v424 v450 v461)
      (k0_pay48 v19 v120 v227 v334 v350 v355 v363 v371 v382 v393 v404 v415 v420 v424) v472 v483
    = attend ![v120, v227, v334, k0_pay42 v19 v350 v355 v363 v371 v382 v393 v404 v415 v420 v424]
        ![v450, v461, v472, v483] := rfl

variable (m : (ℓ : Loc nD τ sig) → Buf (Elt Ideal) ℓ)

/-- The logits at grid point `t` of its four key blocks. -/
def pointLogits (c : Dev nD) (t : Fin cfg0.N) : Fin 4 → FVec Ideal S512x256 .f32 :=
  ![logits (k0_pay2 (iblk m c 0 t) (iblk m c 10 t)) (k0_pay3 (iblk m c 1 t) (iblk m c 11 t))
      (biasBlock (iblk m c 9 t) (grid0.coords t 2).val 0 1),
    logits (k0_pay2 (iblk m c 0 t) (iblk m c 10 t)) (k0_pay3 (iblk m c 2 t) (iblk m c 11 t))
      (biasBlock (iblk m c 9 t) (grid0.coords t 2).val 2 3),
    logits (k0_pay2 (iblk m c 0 t) (iblk m c 10 t)) (k0_pay3 (iblk m c 3 t) (iblk m c 11 t))
      (biasBlock (iblk m c 9 t) (grid0.coords t 2).val 4 5),
    logits (k0_pay2 (iblk m c 0 t) (iblk m c 10 t)) (k0_pay3 (iblk m c 4 t) (iblk m c 11 t))
      (biasBlock (iblk m c 9 t) (grid0.coords t 2).val 6 7)]

set_option maxHeartbeats 1000000 in
/-- What grid point `t` leaves in its output block. -/
theorem outsAt_eq (c : Dev nD) (t : Fin cfg0.N) :
    outsAt0 m c t = attend (pointLogits m c t) ![iblk m c 5 t, iblk m c 6 t, iblk m c 7 t, iblk m c 8 t] := by
  unfold outsAt0
  frame_out
  refine (attend_eq _ _ _ _ _ _ _ _ _ _ _ _ _ _ _ _ _ _).trans ?_
  refine congrArg (attend · _) ?_
  unfold pointLogits
  rw [logits0_eq, logits1_eq, logits2_eq, logits3_eq, keys1_eq, keys2_eq, keys3_eq]
  refine congrArg₂ Matrix.vecCons ?_ (congrArg₂ Matrix.vecCons ?_ (congrArg₂ Matrix.vecCons ?_
    (congrArg₂ Matrix.vecCons ?_ rfl)))
  all_goals
    simp only [biasBlock, plan, planFirst, planMid, planLast, Matrix.cons_val, ld_tile_const _ (grid0.coords t 2).val]
    apply congrArg (logits _ _)
    apply stack_congr
    all_goals first
      | with_reducible rfl
      | exact ld_tile_of _ _ rfl rfl rfl _

end Cert.KernelIdeal.Block

end
-- ==== Proof.Stages.lean ====
/- The stages of a grid point read at an index: the normalised queries and keys, the bias tiles, the logits and the
   weighted sums, each as one formula. -/
module

public import proofs.«01_k».proof.Proof.Block

@[expose] public section

set_option maxRecDepth 16384

noncomputable section

namespace Cert.KernelIdeal.Block

open Cert.KernelIdeal Cert.KernelIdeal.Gen Idealize.ShloMosaic Idealize.ShloMosaic.TcCoe Idealize.SL.Sem

/-- One entry of a row of 128 numbers divided by the row's root mean square and multiplied by its weight. -/
def normed (x w : Fin 128 → EReal) (d : Fin 128) : EReal :=
  x d * Ideal.rsqrt (Ideal.div (∑ e : Fin 128, x e * x e) (Ideal.ofBits .f32 0x43000000#32)
    + Ideal.ofBits .f32 0x358637BD#32) * w d

theorem logits_apply (q : FVec Ideal S512x128 .bf16) (k : FVec Ideal S256x128 .bf16) (b : FVec Ideal S512x256 .f32)
    (r : Fin 512) (y : Fin 256) :
    logits q k b (ix2 r y) = (∑ d : Fin 128, (q (ix2 r d) * k (ix2 y d) : EReal)) + b (ix2 r y) := by
  pointwise [logits]

theorem blockMax_apply (l : FVec Ideal S512x256 .f32) (r : Fin 512) :
    blockMax l (ix2 r 0)
      = Finset.univ.fold max (Ideal.ofBits .f32 0xFF800000#32) fun y : Fin 256 => (l (ix2 r y) : EReal) := by
  pointwise [blockMax]

theorem weights_apply (l : FVec Ideal S512x256 .f32) (mx : FVec Ideal S512x1 .f32) (r : Fin 512) (y : Fin 256) :
    weights l mx (ix2 r y) = Ideal.exp ((l (ix2 r y) : EReal) - mx (ix2 r 0)) := by
  pointwise [weights]

theorem blockSum_apply (l : FVec Ideal S512x256 .f32) (r : Fin 512) :
    blockSum l (ix2 r 0) = ∑ y : Fin 256, (l (ix2 r y) : EReal) := by
  pointwise [blockSum]

theorem blockMix_apply (w : FVec Ideal S512x256 .f32) (v : Vec Ideal S256x128 .f32) (r : Fin 512) (d : Fin 128) :
    blockMix w v (ix2 r d) = ∑ y : Fin 256, (w (ix2 r y) * v (ix2 y d) : EReal) := by
  pointwise [blockMix]

theorem queries_apply (x : Vec Ideal S512x128 .f32) (w : Vec Ideal S1x128 .f32) (r : Fin 512) (d : Fin 128) :
    k0_pay2 x w (ix2 r d)
      = normed (fun e => x (ix2 r e)) (fun e => w (ix2 0 e)) d * Ideal.ofBits .f32 0x3DB504F3#32 := by
  pointwise [k0_pay2, normed]

theorem keys_apply (x : Vec Ideal S256x128 .f32) (w : Vec Ideal S1x128 .f32) (r : Fin 256) (d : Fin 128) :
    k0_pay3 x w (ix2 r d) = normed (fun e => x (ix2 r e)) (fun e => w (ix2 0 e)) d := by
  pointwise [k0_pay3, normed]

/-- The largest logit of one row of the band. -/
def rowTop (l : Fin 4 → FVec Ideal S512x256 .f32) (r : Fin 512) : EReal :=
  max (max (max (blockMax (l 0) (ix2 r 0)) (blockMax (l 1) (ix2 r 0))) (blockMax (l 2) (ix2 r 0)))
    (blockMax (l 3) (ix2 r 0))

theorem attend_apply (l : Fin 4 → FVec Ideal S512x256 .f32) (v : Fin 4 → Vec Ideal S256x128 .f32)
    (r : Fin 512) (d : Fin 128) :
    attend l v (ix2 r d)
      = Ideal.div (∑ n : Fin 4, ∑ y : Fin 256, Ideal.exp ((l n (ix2 r y) : EReal) - rowTop l r) * v n (ix2 y d))
          (∑ n : Fin 4, ∑ y : Fin 256, Ideal.exp ((l n (ix2 r y) : EReal) - rowTop l r)) := by
  have hm : rowMax l (ix2 r 0) = rowTop l r := rfl
  simp only [Fin.sum_univ_four]
  pointwise [attend]
  simp only [blockMix_apply, blockSum_apply, weights_apply, hm]

/-- A row of a bias block: the first tile's row, then the second's. -/
theorem pair_apply (s t : Vec Ideal S1x1x64x128 .f32) (w : Fin 64) (y : Fin 256) :
    k0_pay4 s t (ix2 w y)
      = (if y.val < 128 then s else t) (ix4 0 0 w ⟨y.val % 128, Nat.mod_lt _ (by decide)⟩) := by
  have hy := y.isLt
  pointwise [k0_pay4]
  split
  · exact congrArg (fun z => s (ix4 0 0 w z)) (Fin.ext (Nat.mod_eq_of_lt ‹_›).symm)
  · exact congrArg (fun z => t (ix4 0 0 w z)) (Fin.ext (by show y.val - 128 = y.val % 128; omega))

/-- A bias block at row `64 j + w`. -/
theorem stack_apply (f : Fin 8 → Fin 2 → Vec Ideal S1x1x64x128 .f32) (r : Fin 512) (y : Fin 256) :
    stack (f 0 0) (f 0 1) (f 1 0) (f 1 1) (f 2 0) (f 2 1) (f 3 0) (f 3 1) (f 4 0) (f 4 1) (f 5 0) (f 5 1)
        (f 6 0) (f 6 1) (f 7 0) (f 7 1) (ix2 r y)
      = k0_pay4 (f ⟨r.val / 64, by omega⟩ 0) (f ⟨r.val / 64, by omega⟩ 1)
          (ix2 ⟨r.val % 64, Nat.mod_lt _ (by decide)⟩ y) := by
  have key : ∀ (j : Fin 8) (w : Fin 64), r.val = 64 * j.val + w.val →
      stack (f 0 0) (f 0 1) (f 1 0) (f 1 1) (f 2 0) (f 2 1) (f 3 0) (f 3 1) (f 4 0) (f 4 1) (f 5 0) (f 5 1)
        (f 6 0) (f 6 1) (f 7 0) (f 7 1) (ix2 r y) = k0_pay4 (f j 0) (f j 1) (ix2 w y) := by
    intro j w h
    pointwise [stack]
    have hj := j.isLt
    have hw := w.isLt
    have at' : ∀ (i : Fin 8) (u : Nat) (hu : u < 64), j.val = i.val → u = w.val →
        k0_pay4 (f i 0) (f i 1) (ix2 ⟨u, hu⟩ y) = k0_pay4 (f j 0) (f j 1) (ix2 w y) := by
      intro i u hu hji huw
      obtain rfl : j = i := Fin.ext hji
      subst huw
      rfl
    repeat' split
    all_goals
      refine at' _ _ _ ?_ (by omega)
      omega
  exact key _ _ (Nat.div_add_mod r.val 64).symm

theorem biasBlock_apply (x : Vec Ideal S1x17x64x128 .f32) (i : Nat) (p q : Fin 8) (r : Fin 512) (y : Fin 256) :
    biasBlock x i p q (ix2 r y)
      = x (ix4 0 ⟨plan i ⟨r.val / 64, by omega⟩ (if y.val < 128 then p else q), plan_lt _ _ _⟩
          ⟨r.val % 64, Nat.mod_lt _ (by decide)⟩ ⟨y.val % 128, Nat.mod_lt _ (by decide)⟩) := by
  refine (stack_apply (fun j s => tile x (plan i j (if s = 0 then p else q))) r y).trans ?_
  rw [pair_apply]
  split <;> exact dif_pos (plan_lt _ _ _)

end Cert.KernelIdeal.Block

end
-- ==== Proof.Math.lean ====
/- The arithmetic over the extended reals that the attention kernel and its reference differ by: where the scores are
scaled, where the division by the sum of the weights is made, and which keys are summed over. -/
module

public import Idealize.ShloMosaic.PureOps.Ideal
public import Idealize.ShloMosaic.Lib.Pointwise
public import proofs.«01_k».proof.Proof.Stages

@[expose] public section

noncomputable section

namespace Cert.KernelIdeal.Math

open Idealize.ShloMosaic Cert.KernelIdeal.Block

/-- A finite value. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem negInf : (Ideal.ofBits .f32 0xFF800000#32 : EReal) = ⊥ := by simp [Ideal.ofBits, Ideal.ieee]

theorem width_bits : (Ideal.ofBits .f32 0x43000000#32 : EReal) = ((128 : ℝ) : EReal) := by
  simp [Ideal.ofBits, Ideal.ieee]
  rw [← EReal.coe_mul]
  norm_num

theorem scale_bits : ∃ c : ℝ, 0 ≤ c ∧ (Ideal.ofBits .f32 0x3DB504F3#32 : EReal) = (c : EReal) := by
  refine ⟨_, ?_, by simp [Ideal.ofBits, Ideal.ieee]; rfl⟩
  positivity

theorem eps_bits : ∃ c : ℝ, 0 < c ∧ (Ideal.ofBits .f32 0x358637BD#32 : EReal) = (c : EReal) := by
  refine ⟨_, ?_, by simp [Ideal.ofBits, Ideal.ieee]; rfl⟩
  positivity

/-- A finite factor that is not negative goes through a sum. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm _ (c : EReal),
      EReal.left_distrib_of_nonneg_of_ne_top (EReal.coe_nonneg.2 hc) (EReal.coe_ne_top c), mul_comm (c : EReal),
      mul_comm (c : EReal)]

/-- Scaling every query before the product is scaling the product. -/
theorem scaled_dot {ι : Type} [Fintype ι] (q k : ι → EReal) :
    (∑ d, q d * Ideal.ofBits .f32 0x3DB504F3#32 * k d) = (∑ d, q d * k d) * Ideal.ofBits .f32 0x3DB504F3#32 := by
  obtain ⟨c, hc, h⟩ := scale_bits
  rw [h, sum_mul_real _ _ hc]
  exact Finset.sum_congr rfl fun d _ => mul_right_comm _ _ _

theorem div_real (x : EReal) {d : ℝ} (hd : d ≠ 0) : Ideal.div x (d : EReal) = x * ((d⁻¹ : ℝ) : EReal) := by
  unfold Ideal.div
  rw [if_neg (by exact_mod_cast hd), EReal.coe_inv]

theorem square_nonneg (x : EReal) : 0 ≤ x * x := by
  rcases le_total 0 x with h | h
  · exact mul_nonneg h h
  · exact EReal.mul_nonneg_iff.2 (Or.inr ⟨h, h⟩)

/-- A normalised row is finite where the weights are, whatever the row holds: an infinite entry makes the mean square
    infinite, and so the factor zero. -/
theorem normed_real (x w : Fin 128 → EReal) (hw : ∀ d, IsReal (w d)) (d : Fin 128) : IsReal (normed x w d) := by
  unfold normed
  refine IsReal.mul ?_ (hw d)
  obtain ⟨ε, hε, he⟩ := eps_bits
  rw [width_bits, he, div_real _ (by norm_num)]
  by_cases h : ∀ e, IsReal (x e)
  · refine (h d).mul ?_
    choose y hy using h
    have hs : (∑ e : Fin 128, x e * x e) = ((∑ e : Fin 128, y e * y e : ℝ) : EReal) := by
      rw [coe_sum]
      exact Finset.sum_congr rfl fun e _ => by rw [hy e, EReal.coe_mul]
    have hp : 0 < (∑ e : Fin 128, y e * y e) * (128 : ℝ)⁻¹ + ε := by
      have : 0 ≤ ∑ e : Fin 128, y e * y e := Finset.sum_nonneg fun e _ => mul_self_nonneg _
      positivity
    rw [hs, ← EReal.coe_mul, ← EReal.coe_add]
    exact ⟨_, by show (if _ then _ else if _ then _ else _) = _; rw [if_neg (not_lt.2 hp.le), if_neg hp.ne']⟩
  · obtain ⟨e, he⟩ := not_forall.1 h
    have ht : x e * x e = ⊤ := by
      induction hx : x e using EReal.rec with
      | bot => rfl
      | top => rfl
      | coe r => exact absurd ⟨r, hx⟩ he
    have hs : (∑ e : Fin 128, x e * x e) = ⊤ :=
      top_le_iff.1 (ht ▸ Finset.single_le_sum (f := fun e => x e * x e) (fun i _ => square_nonneg _) (Finset.mem_univ e))
    rw [hs, EReal.top_mul_of_pos (by exact_mod_cast (by norm_num : (0 : ℝ) < 128⁻¹)), EReal.top_add_coe]
    exact ⟨0, by show x d * 0 = _; simp⟩

section Softmax

variable {B S : Type} [Fintype B] [Fintype S] (e : S → B) (he : Function.Injective e) (l v : B → EReal)
  (hoff : ∀ b, b ∉ Set.range e → l b = ⊥) (hl : ∀ b, l b = ⊥ ∨ IsReal (l b)) (s₀ : S) (h₀ : l (e s₀) ≠ ⊥)

include hoff in
/-- The largest score of a band is that of the window in it, the rest being `-∞`. -/
theorem top_eq : Finset.univ.sup l = Finset.univ.sup (l ∘ e) := by
  refine le_antisymm (Finset.sup_le fun b _ => ?_)
    (Finset.sup_le fun s _ => Finset.le_sup (f := l) (Finset.mem_univ (e s)))
  by_cases hb : b ∈ Set.range e
  · obtain ⟨s, rfl⟩ := hb
    exact Finset.le_sup (f := l ∘ e) (Finset.mem_univ s)
  · rw [hoff b hb]; exact bot_le

include hl h₀ in
theorem top_real : IsReal (Finset.univ.sup l) := by
  obtain ⟨b, -, hb⟩ := Finset.exists_mem_eq_sup Finset.univ ⟨e s₀, Finset.mem_univ _⟩ l
  rw [hb]
  refine (hl b).resolve_left fun h => h₀ (le_bot_iff.1 ?_)
  rw [← h, ← hb]
  exact Finset.le_sup (f := l) (Finset.mem_univ _)

/-- A weight is finite, not negative, and zero where the score is `-∞`. -/
theorem weight_real {x : EReal} (hx : x = ⊥ ∨ IsReal x) (M : ℝ) :
    ∃ r : ℝ, 0 ≤ r ∧ (x ≠ ⊥ → 0 < r) ∧ (x = ⊥ → r = 0) ∧ Ideal.exp (x - (M : EReal)) = (r : EReal) := by
  rcases hx with rfl | ⟨r, rfl⟩
  · refine ⟨0, le_rfl, fun h => absurd rfl h, fun _ => rfl, ?_⟩
    rw [EReal.bot_sub]
    exact (rfl : Ideal.exp ⊥ = 0).trans EReal.coe_zero.symm
  · refine ⟨Real.exp (r - M), (Real.exp_pos _).le, fun _ => Real.exp_pos _, fun h => absurd h (EReal.coe_ne_bot r), ?_⟩
    rw [← EReal.coe_sub]
    rfl

include he hoff hl h₀ in
/-- The band's quotient of the weighted sum by the sum of the weights is the window's sum by normalised weights. -/
theorem softmax_eq :
    Ideal.div (∑ b, Ideal.exp (l b - Finset.univ.sup l) * v b) (∑ b, Ideal.exp (l b - Finset.univ.sup l))
      = ∑ s, Ideal.div (Ideal.exp (l (e s) - Finset.univ.sup (l ∘ e)))
          (∑ s', Ideal.exp (l (e s') - Finset.univ.sup (l ∘ e))) * v (e s) := by
  obtain ⟨M, hM⟩ := top_real e l hl s₀ h₀
  rw [← top_eq e l hoff, hM]
  choose p hp0 hpos hz hp using fun b => weight_real (hl b) M
  simp only [hp]
  have hoff' : ∀ b, b ∉ Set.range e → p b = 0 := fun b hb => hz b (hoff b hb)
  rw [← Fintype.sum_of_injective e he (fun s => (p (e s) : EReal) * v (e s)) (fun b => (p b : EReal) * v b)
      (fun b hb => by simp only [hoff' b hb]; simp) (fun _ => rfl),
    ← Fintype.sum_of_injective e he (fun s => (p (e s) : EReal)) (fun b => (p b : EReal))
      (fun b hb => by simp only [hoff' b hb]; simp) (fun _ => rfl), ← coe_sum]
  have hd : 0 < ∑ s, p (e s) :=
    Finset.sum_pos' (fun s _ => hp0 _) ⟨s₀, Finset.mem_univ _, hpos _ h₀⟩
  simp only [div_real _ hd.ne']
  rw [sum_mul_real _ _ (inv_nonneg.2 hd.le)]
  exact Finset.sum_congr rfl fun s _ => mul_right_comm _ _ _

end Softmax

end Cert.KernelIdeal.Math

end
-- ==== Proof.Spec.lean ====
/- Attention over a neighbourhood as plain functions: the form over the sixteen key rows of a band, which the kernel
computes, and the form over the eight rows of the window, which is the mathematics; and that they are equal. -/
module

public import proofs.«01_k».proof.Proof.Math

@[expose] public section

noncomputable section

namespace Cert.KernelIdeal.Spec

open Idealize.ShloMosaic Cert.KernelIdeal.Block Cert.KernelIdeal.Math

/-- The first key row of the band that the sixteen-row grid point `i` of the image reads, in blocks of four rows. -/
def bandStart (i : Nat) : Nat := min (2 * i - 1) 28

/-- The first row of the window of query row `I`. -/
def rowStart (I : Nat) : Nat := min (I - 4) 120

/-- The first column of the window of query column `w`. -/
def colStart (w : Nat) : Nat := min (w - 8) 48

/-- The bias table's column for query column `w` and key column `x`. -/
def colCode (w x : Nat) : Nat := min (x + 15 - w) 30

theorem colCode_lt (w x : Nat) : colCode w x < 31 := by unfold colCode; omega

/-- The token at image row `R` and column `x` of image `b`. -/
def token (b : Fin 2) (R : Fin 128) (x : Fin 64) : Fin 16384 := ⟨b.val * 8192 + R.val * 64 + x.val, by omega⟩

/-- Queries (`s = 0`), keys (`1`) or values (`2`) of one head at one token. -/
def part (z : Fin 16384 → Fin 11264 → EReal) (s : Fin 3) (h : Fin 8) (t : Fin 16384) (d : Fin 128) : EReal :=
  z t ⟨(s.val * 8 + h.val) * 128 + d.val, by omega⟩

/-- The scaled product of a normalised query and a normalised key. -/
def score (z : Fin 16384 → Fin 11264 → EReal) (qw kw : Fin 128 → EReal) (h : Fin 8) (tq tk : Fin 16384) : EReal :=
  (∑ d, normed (part z 0 h tq) qw d * normed (part z 1 h tk) kw d) * Ideal.ofBits .f32 0x3DB504F3#32

/-- The key row of place `y` of block `n` of the band. -/
def bandRow (I : Fin 128) (n : Fin 4) (y : Fin 256) : Fin 128 :=
  ⟨4 * bandStart (I.val / 8) + 4 * n.val + y.val / 64, by unfold bandStart; omega⟩

/-- The bias of key row `R` and column `x` for query row `I` and column `w`: `-∞` outside the window. -/
def biasAt (rpb : Fin 8 → Fin 15 → Fin 31 → EReal) (h : Fin 8) (I : Fin 128) (w : Fin 64) (R : Fin 128) (x : Fin 64) :
    EReal :=
  if hR : rowStart I ≤ R.val ∧ R.val < rowStart I + 8 then
    if colStart w ≤ x.val ∧ x.val < colStart w + 16 then
      rpb h ⟨R.val + 7 - I.val, by unfold rowStart at hR; omega⟩ ⟨colCode w x, colCode_lt w x⟩
    else ⊥
  else ⊥

/-- A score of the band, with its bias. -/
def bandLogit (z : Fin 16384 → Fin 11264 → EReal) (rpb : Fin 8 → Fin 15 → Fin 31 → EReal) (qw kw : Fin 128 → EReal)
    (b : Fin 2) (h : Fin 8) (I : Fin 128) (w : Fin 64) (p : Fin 4 × Fin 256) : EReal :=
  score z qw kw h (token b I w) (token b (bandRow I p.1 p.2) ⟨p.2.val % 64, by omega⟩)
    + biasAt rpb h I w (bandRow I p.1 p.2) ⟨p.2.val % 64, by omega⟩

/-- Row `a` of the window of query row `I`. -/
def windowRow (I : Fin 128) (a : Fin 8) : Fin 128 := ⟨rowStart I + a.val, by unfold rowStart; omega⟩

/-- A score of the window, with its bias. -/
def windowLogit (z : Fin 16384 → Fin 11264 → EReal) (rpb : Fin 8 → Fin 15 → Fin 31 → EReal) (qw kw : Fin 128 → EReal)
    (b : Fin 2) (h : Fin 8) (I : Fin 128) (w : Fin 64) (s : Fin 8 × Fin 64) : EReal :=
  if colStart w ≤ s.2.val ∧ s.2.val < colStart w + 16 then
    score z qw kw h (token b I w) (token b (windowRow I s.1) s.2)
      + rpb h ⟨rowStart I + s.1.val + 7 - I.val, by unfold rowStart; omega⟩ ⟨colCode w s.2, colCode_lt w s.2⟩
  else ⊥

/-- The attention as the kernel computes it. -/
def bandOut (z : Fin 16384 → Fin 11264 → EReal) (rpb : Fin 8 → Fin 15 → Fin 31 → EReal) (qw kw : Fin 128 → EReal)
    (b : Fin 2) (h : Fin 8) (I : Fin 128) (w : Fin 64) (d : Fin 128) : EReal :=
  let l := bandLogit z rpb qw kw b h I w
  Ideal.div (∑ p, Ideal.exp (l p - Finset.univ.sup l)
      * part z 2 h (token b (bandRow I p.1 p.2) ⟨p.2.val % 64, by omega⟩) d)
    (∑ p, Ideal.exp (l p - Finset.univ.sup l))

/-- The attention over the window. -/
def windowOut (z : Fin 16384 → Fin 11264 → EReal) (rpb : Fin 8 → Fin 15 → Fin 31 → EReal) (qw kw : Fin 128 → EReal)
    (b : Fin 2) (h : Fin 8) (I : Fin 128) (w : Fin 64) (d : Fin 128) : EReal :=
  let l := windowLogit z rpb qw kw b h I w
  ∑ s, Ideal.div (Ideal.exp (l s - Finset.univ.sup l)) (∑ s', Ideal.exp (l s' - Finset.univ.sup l))
    * part z 2 h (token b (windowRow I s.1) s.2) d

/-- The place in the band of a key of the window. -/
def place (I : Fin 128) (s : Fin 8 × Fin 64) : Fin 4 × Fin 256 :=
  (⟨(rowStart I + s.1.val - 4 * bandStart (I.val / 8)) / 4, by unfold rowStart bandStart; omega⟩,
    ⟨(rowStart I + s.1.val - 4 * bandStart (I.val / 8)) % 4 * 64 + s.2.val, by omega⟩)

theorem place_row (I : Fin 128) (s : Fin 8 × Fin 64) :
    bandRow I (place I s).1 (place I s).2 = windowRow I s.1 := by
  refine Fin.ext ?_
  have h1 := s.1.isLt
  have h2 := s.2.isLt
  have h3 := I.isLt
  simp only [bandRow, place, windowRow, rowStart, bandStart]
  omega

theorem place_col (I : Fin 128) (s : Fin 8 × Fin 64) (h : (place I s).2.val % 64 < 64) :
    (⟨(place I s).2.val % 64, h⟩ : Fin 64) = s.2 := by
  refine Fin.ext ?_
  have h2 := s.2.isLt
  simp only [place]
  omega

theorem place_injective (I : Fin 128) : Function.Injective (place I) := by
  intro s t h
  have hr : windowRow I s.1 = windowRow I t.1 := by rw [← place_row, ← place_row, h]
  have hc : s.2 = t.2 := (place_col I s (by omega)).symm.trans
    ((Fin.ext (by simp only [h])).trans (place_col I t (by omega)))
  refine Prod.ext (Fin.ext ?_) hc
  have := congrArg Fin.val hr
  simp only [windowRow] at this
  omega

/-- A place of the band outside the window's rows is no key of the window. -/
theorem place_range (I : Fin 128) (p : Fin 4 × Fin 256)
    (h : rowStart I ≤ (bandRow I p.1 p.2).val ∧ (bandRow I p.1 p.2).val < rowStart I + 8) : p ∈ Set.range (place I) := by
  have h1 := p.1.isLt
  have h2 := p.2.isLt
  have h3 := I.isLt
  simp only [bandRow] at h
  refine ⟨(⟨4 * bandStart (I.val / 8) + 4 * p.1.val + p.2.val / 64 - rowStart I, by omega⟩,
    ⟨p.2.val % 64, by omega⟩), Prod.ext (Fin.ext ?_) (Fin.ext ?_)⟩ <;> simp only [place] <;> omega

variable (z : Fin 16384 → Fin 11264 → EReal) (rpb : Fin 8 → Fin 15 → Fin 31 → EReal) (qw kw : Fin 128 → EReal)
  (hr : ∀ h k x, IsReal (rpb h k x)) (hq : ∀ d, IsReal (qw d)) (hk : ∀ d, IsReal (kw d))

include hq hk in
theorem score_real (h : Fin 8) (tq tk : Fin 16384) : IsReal (score z qw kw h tq tk) := by
  obtain ⟨c, -, hc⟩ := scale_bits
  exact (IsReal.sum _ fun d => (normed_real _ _ hq d).mul (normed_real _ _ hk d)).mul ⟨c, hc⟩

include hr in
theorem biasAt_real (h : Fin 8) (I : Fin 128) (w : Fin 64) (R : Fin 128) (x : Fin 64) :
    biasAt rpb h I w R x = ⊥ ∨ IsReal (biasAt rpb h I w R x) := by
  unfold biasAt
  split
  · split
    · exact Or.inr (hr _ _ _)
    · exact Or.inl rfl
  · exact Or.inl rfl

include hr hq hk in
theorem bandLogit_real (b : Fin 2) (h : Fin 8) (I : Fin 128) (w : Fin 64) (p : Fin 4 × Fin 256) :
    bandLogit z rpb qw kw b h I w p = ⊥ ∨ IsReal (bandLogit z rpb qw kw b h I w p) := by
  unfold bandLogit
  rcases biasAt_real rpb hr h I w (bandRow I p.1 p.2) ⟨p.2.val % 64, by omega⟩ with e | e
  · exact Or.inl (by rw [e, EReal.add_bot])
  · exact Or.inr ((score_real z qw kw hq hk _ _ _).add e)

theorem bandLogit_off (b : Fin 2) (h : Fin 8) (I : Fin 128) (w : Fin 64) (p : Fin 4 × Fin 256)
    (hp : p ∉ Set.range (place I)) : bandLogit z rpb qw kw b h I w p = ⊥ := by
  unfold bandLogit biasAt
  rw [dif_neg fun hR => hp (place_range I p hR), EReal.add_bot]

theorem bandLogit_place (b : Fin 2) (h : Fin 8) (I : Fin 128) (w : Fin 64) (s : Fin 8 × Fin 64) :
    bandLogit z rpb qw kw b h I w (place I s) = windowLogit z rpb qw kw b h I w s := by
  unfold bandLogit windowLogit
  rw [place_row, place_col I s]
  unfold biasAt
  rw [dif_pos (by have := s.1.isLt; simp only [windowRow]; omega)]
  split
  · rfl
  · rw [EReal.add_bot]

include hr hq hk in
/-- The kernel's form is the window's. -/
theorem bandOut_eq (b : Fin 2) (h : Fin 8) (I : Fin 128) (w : Fin 64) (d : Fin 128) :
    bandOut z rpb qw kw b h I w d = windowOut z rpb qw kw b h I w d := by
  have hs : bandLogit z rpb qw kw b h I w ∘ place I = windowLogit z rpb qw kw b h I w :=
    funext fun s => bandLogit_place z rpb qw kw b h I w s
  have h₀ : bandLogit z rpb qw kw b h I w (place I (0, ⟨colStart w, by unfold colStart; omega⟩)) ≠ ⊥ := by
    rw [bandLogit_place]
    unfold windowLogit
    rw [if_pos (by simp only []; omega)]
    obtain ⟨r, e⟩ := (score_real z qw kw hq hk h (token b I w)
      (token b (windowRow I 0) ⟨colStart w, by unfold colStart; omega⟩)).add
      (hr h ⟨rowStart I + (0 : Fin 8).val + 7 - I.val, by unfold rowStart; omega⟩
        ⟨colCode w (colStart w), colCode_lt w _⟩)
    exact fun he => EReal.coe_ne_bot r (e.symm.trans he)
  unfold bandOut windowOut
  simp only []
  rw [softmax_eq (place I) (place_injective I) _ _ (bandLogit_off z rpb qw kw b h I w)
    (bandLogit_real z rpb qw kw hr hq hk b h I w) _ h₀, hs]
  refine Finset.sum_congr rfl fun s _ => ?_
  rw [place_row, place_col I s, bandLogit_place]
  simp only [bandLogit_place]

end Cert.KernelIdeal.Spec

end
-- ==== Proof.Points.lean ====
/- The blocks of the attention kernel's grid points: which entries of its arguments every point reads, and which
   entries of the result it writes. -/
module

public import proofs.«01_k».proof.Proof.Spec

@[expose] public section

set_option maxRecDepth 16384

noncomputable section

namespace Cert.KernelIdeal.Points

open Cert.KernelIdeal Cert.KernelIdeal.Gen Cert.KernelIdeal.Spec Idealize.ShloMosaic Idealize.ShloMosaic.TcCoe Idealize.SL.Sem

/-- Every window's block index at every grid point, which is `128 b + 16 h + i` for batch `b`, head `h`, column `i`. -/
theorem idx : ∀ t : Fin cfg0.N,
    win0_0.index t = ![t.val / 128 * 16 + t.val % 16, t.val / 16 % 8]
    ∧ win0_1.index t = ![t.val / 128 * 32 + bandStart (t.val % 16) + 0, 8 + t.val / 16 % 8]
    ∧ win0_2.index t = ![t.val / 128 * 32 + bandStart (t.val % 16) + 1, 8 + t.val / 16 % 8]
    ∧ win0_3.index t = ![t.val / 128 * 32 + bandStart (t.val % 16) + 2, 8 + t.val / 16 % 8]
    ∧ win0_4.index t = ![t.val / 128 * 32 + bandStart (t.val % 16) + 3, 8 + t.val / 16 % 8]
    ∧ win0_5.index t = ![t.val / 128 * 32 + bandStart (t.val % 16) + 0, 16 + t.val / 16 % 8]
    ∧ win0_6.index t = ![t.val / 128 * 32 + bandStart (t.val % 16) + 1, 16 + t.val / 16 % 8]
    ∧ win0_7.index t = ![t.val / 128 * 32 + bandStart (t.val % 16) + 2, 16 + t.val / 16 % 8]
    ∧ win0_8.index t = ![t.val / 128 * 32 + bandStart (t.val % 16) + 3, 16 + t.val / 16 % 8]
    ∧ win0_9.index t = ![t.val / 16 % 8, 0, 0, 0]
    ∧ win0_10.index t = ![0, 0]
    ∧ win0_11.index t = ![0, 0]
    ∧ win0_12.index t = ![t.val / 128 * 16 + t.val % 16, t.val / 16 % 8]
    ∧ (grid0.coords t 2).val = t.val % 16 :=
  (by decide +kernel : ∀ t : Fin grid0.N, _)

theorem t_lt (t : Fin cfg0.N) : t.val < 256 := t.isLt

variable (m : (ℓ : Loc nD τ sig) → Buf (Elt Ideal) ℓ)

theorem iblk0 (c : Dev nD) (t : Fin cfg0.N) (r : Fin 512) (d : Fin 128) :
    iblk m c 0 t (ix2 r d) = m ((c : Thread nD τ).loc main_arg0)
      (ix2 ⟨(t.val / 128 * 16 + t.val % 16) * 512 + r.val, by have := t_lt t; omega⟩
        ⟨(t.val / 16 % 8) * 128 + d.val, by omega⟩) := by
  blk_ext! [iblk, V, idx t]

theorem iblk1 (c : Dev nD) (t : Fin cfg0.N) (y : Fin 256) (d : Fin 128) :
    iblk m c 1 t (ix2 y d) = m ((c : Thread nD τ).loc main_arg0)
      (ix2 ⟨(t.val / 128 * 32 + bandStart (t.val % 16) + 0) * 256 + y.val, by
          have := t_lt t; unfold bandStart; omega⟩
        ⟨(8 + t.val / 16 % 8) * 128 + d.val, by omega⟩) := by
  blk_ext! [iblk, V, idx t]

theorem iblk2 (c : Dev nD) (t : Fin cfg0.N) (y : Fin 256) (d : Fin 128) :
    iblk m c 2 t (ix2 y d) = m ((c : Thread nD τ).loc main_arg0)
      (ix2 ⟨(t.val / 128 * 32 + bandStart (t.val % 16) + 1) * 256 + y.val, by
          have := t_lt t; unfold bandStart; omega⟩
        ⟨(8 + t.val / 16 % 8) * 128 + d.val, by omega⟩) := by
  blk_ext! [iblk, V, idx t]

theorem iblk3 (c : Dev nD) (t : Fin cfg0.N) (y : Fin 256) (d : Fin 128) :
    iblk m c 3 t (ix2 y d) = m ((c : Thread nD τ).loc main_arg0)
      (ix2 ⟨(t.val / 128 * 32 + bandStart (t.val % 16) + 2) * 256 + y.val, by
          have := t_lt t; unfold bandStart; omega⟩
        ⟨(8 + t.val / 16 % 8) * 128 + d.val, by omega⟩) := by
  blk_ext! [iblk, V, idx t]

theorem iblk4 (c : Dev nD) (t : Fin cfg0.N) (y : Fin 256) (d : Fin 128) :
    iblk m c 4 t (ix2 y d) = m ((c : Thread nD τ).loc main_arg0)
      (ix2 ⟨(t.val / 128 * 32 + bandStart (t.val % 16) + 3) * 256 + y.val, by
          have := t_lt t; unfold bandStart; omega⟩
        ⟨(8 + t.val / 16 % 8) * 128 + d.val, by omega⟩) := by
  blk_ext! [iblk, V, idx t]

theorem iblk5 (c : Dev nD) (t : Fin cfg0.N) (y : Fin 256) (d : Fin 128) :
    iblk m c 5 t (ix2 y d) = m ((c : Thread nD τ).loc main_arg0)
      (ix2 ⟨(t.val / 128 * 32 + bandStart (t.val % 16) + 0) * 256 + y.val, by
          have := t_lt t; unfold bandStart; omega⟩
        ⟨(16 + t.val / 16 % 8) * 128 + d.val, by omega⟩) := by
  blk_ext! [iblk, V, idx t]

theorem iblk6 (c : Dev nD) (t : Fin cfg0.N) (y : Fin 256) (d : Fin 128) :
    iblk m c 6 t (ix2 y d) = m ((c : Thread nD τ).loc main_arg0)
      (ix2 ⟨(t.val / 128 * 32 + bandStart (t.val % 16) + 1) * 256 + y.val, by
          have := t_lt t; unfold bandStart; omega⟩
        ⟨(16 + t.val / 16 % 8) * 128 + d.val, by omega⟩) := by
  blk_ext! [iblk, V, idx t]

theorem iblk7 (c : Dev nD) (t : Fin cfg0.N) (y : Fin 256) (d : Fin 128) :
    iblk m c 7 t (ix2 y d) = m ((c : Thread nD τ).loc main_arg0)
      (ix2 ⟨(t.val / 128 * 32 + bandStart (t.val % 16) + 2) * 256 + y.val, by
          have := t_lt t; unfold bandStart; omega⟩
        ⟨(16 + t.val / 16 % 8) * 128 + d.val, by omega⟩) := by
  blk_ext! [iblk, V, idx t]

theorem iblk8 (c : Dev nD) (t : Fin cfg0.N) (y : Fin 256) (d : Fin 128) :
    iblk m c 8 t (ix2 y d) = m ((c : Thread nD τ).loc main_arg0)
      (ix2 ⟨(t.val / 128 * 32 + bandStart (t.val % 16) + 3) * 256 + y.val, by
          have := t_lt t; unfold bandStart; omega⟩
        ⟨(16 + t.val / 16 % 8) * 128 + d.val, by omega⟩) := by
  blk_ext! [iblk, V, idx t]

theorem iblk10 (c : Dev nD) (t : Fin cfg0.N) (d : Fin 128) :
    iblk m c 10 t (ix2 0 d) = V m c main_v139 (ix2 0 d) := by
  blk_ext [iblk, idx t]

theorem iblk11 (c : Dev nD) (t : Fin cfg0.N) (d : Fin 128) :
    iblk m c 11 t (ix2 0 d) = V m c main_v140 (ix2 0 d) := by
  blk_ext [iblk, idx t]

theorem iblk9 (c : Dev nD) (t : Fin cfg0.N) (k : Fin 17) (w : Fin 64) (y : Fin 128) :
    iblk m c 9 t (ix4 0 k w y) = V m c main_v138 (ix4 ⟨t.val / 16 % 8, by omega⟩ k w y) := by
  blk_ext [iblk, idx t]

end Cert.KernelIdeal.Points

end
-- ==== Proof.Table.lean ====
/- The attention kernel's host-computed operands: the two norms' weights as rows, and the table of bias tiles. -/
module

public import proofs.«01_k».proof.Proof.Gen.KernelIdeal.Value
public import proofs.«01_k».proof.Proof.Spec
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelIdeal.Table

open Cert.KernelIdeal Cert.KernelIdeal.Gen Cert.KernelIdeal.Spec Cert.KernelIdeal.Math Idealize.ShloMosaic Idealize.ShloMosaic.TcCoe Idealize.SL.Sem

variable (m : (ℓ : Loc nD τ sig) → Buf (Elt Ideal) ℓ)

theorem row_queries (c : Dev nD) (d : Fin 128) :
    V m c main_v139 (ix2 0 d) = m ((c : Thread nD τ).loc main_arg2) (ix1 d) := by
  simp only [V, List.flatten_cons, List.flatten_nil, List.append_nil, List.cons_append, List.nil_append]
  entry_read
  pointwise

theorem row_keys (c : Dev nD) (d : Fin 128) :
    V m c main_v140 (ix2 0 d) = m ((c : Thread nD τ).loc main_arg3) (ix1 d) := by
  simp only [V, List.flatten_cons, List.flatten_nil, List.append_nil, List.cons_append, List.nil_append]
  entry_read
  pointwise

/-- The buffers before the line that cuts the table into tiles. -/
def W (c : Dev nD) : Valuation τ sig (Elt Ideal) :=
  StableHlo.after (List.flatten [hostOps0, hostOps0_1, hostOps0_2, hostOps0_3, hostOps0_4, hostOps0_5, hostOps0_6,
    hostOps0_7]) (fun b => m (c, b))

theorem V_eq (c : Dev nD) (b : Ref sig .tc) : V m c b = StableHlo.after hostOps0_8 (W m c) b := by
  simp only [V, W, List.flatten_cons, List.flatten_nil, List.append_nil, StableHlo.after_append]

/-- Seventeen tiles joined as nine and eight: tile `k` stands at place `k`. -/
theorem join_apply (x0 x1 x2 x3 x4 x5 x6 x7 x8 x9 x10 x11 x12 x13 x14 x15 x16 : S8x1x64x128.Idx → EReal) (h9 h8 h17) (h : Fin 8) (k : Fin 17)
    (w : Fin 64) (y : Fin 128) :
    concatenate S8x17x64x128 1 [⟨S8x9x64x128, concatenate S8x9x64x128 1
        [⟨S8x1x64x128, x0⟩, ⟨S8x1x64x128, x1⟩, ⟨S8x1x64x128, x2⟩, ⟨S8x1x64x128, x3⟩, ⟨S8x1x64x128, x4⟩, ⟨S8x1x64x128, x5⟩, ⟨S8x1x64x128, x6⟩, ⟨S8x1x64x128, x7⟩, ⟨S8x1x64x128, x8⟩] h9⟩,
      ⟨S8x8x64x128, concatenate S8x8x64x128 1
        [⟨S8x1x64x128, x9⟩, ⟨S8x1x64x128, x10⟩, ⟨S8x1x64x128, x11⟩, ⟨S8x1x64x128, x12⟩, ⟨S8x1x64x128, x13⟩, ⟨S8x1x64x128, x14⟩, ⟨S8x1x64x128, x15⟩, ⟨S8x1x64x128, x16⟩] h8⟩] h17 (ix4 h k w y)
      = (![x0, x1, x2, x3, x4, x5, x6, x7, x8, x9, x10, x11, x12, x13, x14, x15, x16] k) (ix4 h 0 w y) := by
  fin_cases k <;> pointwise

theorem codes_fit (a : Fin 16) : S8x16x64x64.Slices ![0, a.val, 0, 0] S8x1x64x64 := by
  revert a; decide

/-- One tile: the rows of code `a` on its first half of columns and of code `b` on its second. -/
theorem tile_apply (E : S8x16x64x64.Idx → EReal) (A B : S8x64x64.Idx → EReal) (a b : Fin 16) (ra rb hc hr)
    (hA : A = shapeCast S8x64x64 (extractStridedSlice S8x1x64x64 ![0, a.val, 0, 0] E (codes_fit a)) ra)
    (hB : B = shapeCast S8x64x64 (extractStridedSlice S8x1x64x64 ![0, b.val, 0, 0] E (codes_fit b)) rb)
    (h : Fin 8) (w : Fin 64) (y : Fin 128) :
    broadcastInDim S8x1x64x128 ![0, 2, 3] hr (concatenate S8x64x128 2 [⟨S8x64x64, A⟩, ⟨S8x64x64, B⟩] hc) (ix4 h 0 w y)
      = E (ix4 h (if y.val < 64 then a else b) w ⟨y.val % 64, by omega⟩) := by
  subst hA hB
  pointwise
  split
  · congr 2; exact Fin.ext (by simp only []; omega)
  · congr 2; exact Fin.ext (by have := y.isLt; simp only []; omega)

/-- The rows of every code: fifteen of the table's, and one of `-∞` for rows outside the neighbourhood. -/
def rows (σ : Valuation τ sig (Elt Ideal)) : S8x16x64x64.Idx → EReal :=
  concatenate S8x16x64x64 1 [⟨S8x15x64x64, σ (Proc.devRef .tc main_v30)⟩,
    ⟨S8x1x64x64, broadcastInDim S8x1x64x64 ![] bcast_S_S8x1x64x64 (constant (F := Ideal) S_ .f32 0xFF800000#32)⟩]
    concatenates_S8x15x64x64_S8x1x64x64_S8x16x64x64_d1

/-- The code of the first, and of the second, row of tile `k`. -/
def codeLo : Fin 17 → Fin 16 := ![7, 9, 11, 13, 15, 6, 8, 10, 12, 5, 4, 3, 15, 10, 2, 1, 0]
def codeHi : Fin 17 → Fin 16 := ![8, 10, 12, 14, 15, 7, 9, 11, 13, 6, 5, 4, 3, 15, 3, 2, 1]

set_option maxHeartbeats 1000000 in
theorem tiles_apply (c : Dev nD) (h : Fin 8) (k : Fin 17) (w : Fin 64) (y : Fin 128) :
    V m c main_v138 (ix4 h k w y)
      = rows (W m c) (ix4 h (if y.val < 64 then codeLo k else codeHi k) w ⟨y.val % 64, by omega⟩) := by
  rw [V_eq]
  generalize W m c = σ
  after_reads_simp
  refine (join_apply
    (StableHlo.upto hostOps0_8 σ 98 (Proc.devRef .tc main_v119) : S8x1x64x128.Idx → EReal)
    (StableHlo.upto hostOps0_8 σ 98 (Proc.devRef .tc main_v120) : S8x1x64x128.Idx → EReal)
    (StableHlo.upto hostOps0_8 σ 98 (Proc.devRef .tc main_v121) : S8x1x64x128.Idx → EReal)
    (StableHlo.upto hostOps0_8 σ 98 (Proc.devRef .tc main_v122) : S8x1x64x128.Idx → EReal)
    (StableHlo.upto hostOps0_8 σ 98 (Proc.devRef .tc main_v123) : S8x1x64x128.Idx → EReal)
    (StableHlo.upto hostOps0_8 σ 98 (Proc.devRef .tc main_v124) : S8x1x64x128.Idx → EReal)
    (StableHlo.upto hostOps0_8 σ 98 (Proc.devRef .tc main_v125) : S8x1x64x128.Idx → EReal)
    (StableHlo.upto hostOps0_8 σ 98 (Proc.devRef .tc main_v126) : S8x1x64x128.Idx → EReal)
    (StableHlo.upto hostOps0_8 σ 98 (Proc.devRef .tc main_v127) : S8x1x64x128.Idx → EReal)
    (StableHlo.upto hostOps0_8 σ 107 (Proc.devRef .tc main_v129) : S8x1x64x128.Idx → EReal)
    (StableHlo.upto hostOps0_8 σ 107 (Proc.devRef .tc main_v130) : S8x1x64x128.Idx → EReal)
    (StableHlo.upto hostOps0_8 σ 107 (Proc.devRef .tc main_v131) : S8x1x64x128.Idx → EReal)
    (StableHlo.upto hostOps0_8 σ 107 (Proc.devRef .tc main_v132) : S8x1x64x128.Idx → EReal)
    (StableHlo.upto hostOps0_8 σ 107 (Proc.devRef .tc main_v133) : S8x1x64x128.Idx → EReal)
    (StableHlo.upto hostOps0_8 σ 107 (Proc.devRef .tc main_v134) : S8x1x64x128.Idx → EReal)
    (StableHlo.upto hostOps0_8 σ 107 (Proc.devRef .tc main_v135) : S8x1x64x128.Idx → EReal)
    (StableHlo.upto hostOps0_8 σ 107 (Proc.devRef .tc main_v136) : S8x1x64x128.Idx → EReal)
    _ _ _ h k w y).trans ?_
  fin_cases k
  all_goals simp only [Matrix.cons_val, Fin.mk_one, Fin.zero_eta, Fin.reduceFinMk]
  all_goals after_reads_simp
  all_goals
    refine tile_apply (rows σ) _ _ (codeLo _) (codeHi _) shapeCasts_S8x1x64x64_S8x64x64
      shapeCasts_S8x1x64x64_S8x64x64 _ _ ?_ ?_ h w y
    all_goals after_reads_simp; rfl

theorem mask_bit (w y : Fin 64) :
    (IntOp.andi
        (IntOp.cmpi CmpIPredicate.sge (BitVec.ofNat 32 y)
          (IntOp.minsi 48#32 (IntOp.maxsi 0#32 (IntOp.subi (BitVec.ofNat 32 w) 8#32))))
        (IntOp.cmpi CmpIPredicate.slt (BitVec.ofNat 32 y)
          (IntOp.addi (IntOp.minsi 48#32 (IntOp.maxsi 0#32 (IntOp.subi (BitVec.ofNat 32 w) 8#32))) 16#32)))
      = if colStart w ≤ y.val ∧ y.val < colStart w + 16 then 1#1 else 0#1 := by
  revert w y; decide +kernel

theorem code_word (w y : Fin 64) :
    (IntOp.subi (IntOp.addi (IntOp.minsi 15#32 (IntOp.maxsi 4294967281#32
        (IntOp.subi (BitVec.ofNat 32 y) (BitVec.ofNat 32 w)))) 16#32) 1#32) = BitVec.ofNat 32 (colCode w y) := by
  revert w y; decide +kernel

/-- Picking a column of the table by a product with the indicator of its number. -/
theorem pick_column (f : Fin 31 → EReal) (n : Nat) (hn : n < 31) :
    (∑ x : Fin 31, f x * (FloatOps.uitofp (F := Ideal) FTy.f32
      (IntOp.cmpi CmpIPredicate.eq (BitVec.ofNat 32 n) (BitVec.ofNat 32 x)) : EReal)) = f ⟨n, hn⟩ := by
  rw [Finset.sum_eq_single ⟨n, hn⟩]
  · have : IntOp.cmpi CmpIPredicate.eq (BitVec.ofNat 32 n) (BitVec.ofNat 32 n) = 1#1 := by simp [IntOp.cmpi]
    simp only [this]
    simp [FloatOps.uitofp]
  · intro x _ hx
    have h0 : IntOp.cmpi CmpIPredicate.eq (BitVec.ofNat 32 n) (BitVec.ofNat 32 x) = 0#1 := by
      have := x.isLt
      have hne : (BitVec.ofNat 32 n) ≠ BitVec.ofNat 32 x.val := fun h => hx (Fin.ext (by
        have := congrArg BitVec.toNat h
        simp only [BitVec.toNat_ofNat] at this
        simp only []
        omega))
      show BitVec.ofBool (_ == _) = 0#1
      rw [beq_eq_false_iff_ne.2 hne]
      rfl
    rw [h0]
    simp [FloatOps.uitofp]
  · simp

/-- The table of relative position biases. -/
def relBias (c : Dev nD) (h : Fin 8) (k : Fin 15) (x : Fin 31) : EReal :=
  m (c, Proc.devRef .tc main_arg1) (ix3 h k x)

theorem W_apply (c : Dev nD) (h : Fin 8) (k : Fin 15) (w : Fin 64) (y : Fin 64) :
    W m c main_v30 (ix4 h k w y)
      = if colStart w ≤ y.val ∧ y.val < colStart w + 16 then
          relBias m c h k ⟨colCode w y, colCode_lt w y⟩ else ⊥ := by
  simp only [W, List.flatten_cons, List.flatten_nil, List.append_nil, List.cons_append, List.nil_append]
  after_reads_at
  refine Eq.trans (congr_arg₂ (fun a b => Scalar.select a b (id (constant (F := Ideal) S_ .f32 0xFF800000#32) ix0))
    (mask_bit w y) ((Finset.sum_congr rfl fun x _ => ?_).trans (pick_column (relBias m c h k) _ (colCode_lt w y)))) ?_
  · rw [← code_word w y]
    rfl
  · split
    · rfl
    · exact negInf

/-- The table's row of code `k`, column by column. -/
theorem rows_apply (c : Dev nD) (h : Fin 8) (k : Fin 16) (w : Fin 64) (y : Fin 64) :
    rows (W m c) (ix4 h k w y)
      = if hk : k.val < 15 then
          if colStart w ≤ y.val ∧ y.val < colStart w + 16 then
            relBias m c h ⟨k.val, hk⟩ ⟨colCode w y, colCode_lt w y⟩ else ⊥
        else ⊥ := by
  unfold rows
  by_cases hk : k.val < 15
  · rw [dif_pos hk, ← W_apply]
    pointwise
    rw [dif_pos hk]
  · rw [dif_neg hk]
    pointwise
    rw [dif_neg hk]
    exact negInf

end Cert.KernelIdeal.Table
-- ==== Proof.Band.lean ====
/- The attention kernel's result, entry by entry: the band form of the attention. -/
module

public import proofs.«01_k».proof.Proof.Points
public import proofs.«01_k».proof.Proof.Table
public import Idealize.ShloMosaic.Lib.Pipeline.Covers

@[expose] public section

set_option maxRecDepth 16384

noncomputable section

namespace Cert.KernelIdeal.Band

open Cert.KernelIdeal Cert.KernelIdeal.Gen Idealize.ShloMosaic Idealize.ShloMosaic.TcCoe Idealize.SL.Sem
open Cert.KernelIdeal.Block Cert.KernelIdeal.Spec Cert.KernelIdeal.Math Cert.KernelIdeal.Points Cert.KernelIdeal.Table

variable (m : (ℓ : Loc nD τ sig) → Buf (Elt Ideal) ℓ)

/-- The projection's entries, and the two norms' weights. -/
def proj (c : Dev nD) (t : Fin 16384) (k : Fin 11264) : EReal := m ((c : Thread nD τ).loc main_arg0) (ix2 t k)
def queryWeight (c : Dev nD) (d : Fin 128) : EReal := m ((c : Thread nD τ).loc main_arg2) (ix1 d)
def keyWeight (c : Dev nD) (d : Fin 128) : EReal := m ((c : Thread nD τ).loc main_arg3) (ix1 d)

/-- The image, the head and the image row of a grid point and a query. -/
def imageOf (t : Fin cfg0.N) : Fin 2 := ⟨t.val / 128, by have := t_lt t; omega⟩
def headOf (t : Fin cfg0.N) : Fin 8 := ⟨t.val / 16 % 8, by omega⟩
def rowOf (t : Fin cfg0.N) (r : Fin 512) : Fin 128 := ⟨t.val % 16 * 8 + r.val / 64, by omega⟩

/-- The codes of the tiles' rows in use: the row's distance from the query's, or the code of `-∞`. -/
theorem code_eq : ∀ (i : Fin 16) (j P : Fin 8) (s : Fin 2),
    (if s = 0 then codeLo ⟨plan i j P, plan_lt i j P⟩ else codeHi ⟨plan i j P, plan_lt i j P⟩).val
      = if rowStart (8 * i.val + j.val) ≤ 4 * bandStart i + 2 * P.val + s.val
          ∧ 4 * bandStart i + 2 * P.val + s.val < rowStart (8 * i.val + j.val) + 8 then
          4 * bandStart i + 2 * P.val + s.val + 7 - (8 * i.val + j.val)
        else 15 := by
  decide +kernel

/-- What the table holds for a row's code is that row's bias. -/
theorem bias_of_code (rpb : Fin 8 → Fin 15 → Fin 31 → EReal) (h : Fin 8) (I : Fin 128) (w : Fin 64) (R : Fin 128)
    (x x' : Fin 64) (hx : x' = x) (K : Fin 16)
    (hK : K.val = if rowStart I ≤ R.val ∧ R.val < rowStart I + 8 then R.val + 7 - I.val else 15) :
    (if hk : K.val < 15 then
        if colStart w ≤ x'.val ∧ x'.val < colStart w + 16 then
          rpb h ⟨K.val, hk⟩ ⟨colCode w x', colCode_lt w x'⟩ else ⊥
      else ⊥) = biasAt rpb h I w R x := by
  subst hx
  unfold biasAt
  by_cases hR : rowStart I ≤ R.val ∧ R.val < rowStart I + 8
  · rw [if_pos hR] at hK
    rw [dif_pos hR, dif_pos (by unfold rowStart at hR; omega)]
    simp only [hK]
  · rw [if_neg hR] at hK
    rw [dif_neg hR, dif_neg (by omega)]

/-- An entry of the stacked bias tiles is the bias of its key. -/
theorem bias_apply (c : Dev nD) (t : Fin cfg0.N) (n : Fin 4) (r : Fin 512) (y : Fin 256) :
    biasBlock (iblk m c 9 t) (grid0.coords t 2).val ⟨2 * n.val, by omega⟩ ⟨2 * n.val + 1, by omega⟩ (ix2 r y)
      = biasAt (relBias m c) (headOf t) (rowOf t r) ⟨r.val % 64, by omega⟩ (bandRow (rowOf t r) n y)
          ⟨y.val % 64, by omega⟩ := by
  obtain ⟨-, -, -, -, -, -, -, -, -, -, -, -, -, ht⟩ := idx t
  rw [biasBlock_apply, iblk9, tiles_apply, rows_apply]
  refine bias_of_code (relBias m c) (headOf t) (rowOf t r) ⟨r.val % 64, by omega⟩ (bandRow (rowOf t r) n y)
    ⟨y.val % 64, by omega⟩ _ (Fin.ext (by simp only []; omega)) _ ?_
  have e := code_eq ⟨t.val % 16, by omega⟩ ⟨r.val / 64, by omega⟩
    (if y.val < 128 then ⟨2 * n.val, by omega⟩ else ⟨2 * n.val + 1, by omega⟩) ⟨y.val / 64 % 2, by omega⟩
  simp only [← ht] at e
  have hs : (⟨y.val / 64 % 2, by omega⟩ : Fin 2) = 0 ↔ y.val % 128 < 64 := by
    rw [Fin.ext_iff]
    simp only [Fin.val_zero]
    omega
  simp only [hs] at e
  have hI : (rowOf t r).val = 8 * (grid0.coords t 2).val + r.val / 64 := by
    rw [ht]
    simp only [rowOf]
    omega
  have hR : (bandRow (rowOf t r) n y).val = 4 * bandStart (grid0.coords t 2).val
      + 2 * (if y.val < 128 then (⟨2 * n.val, by omega⟩ : Fin 8) else ⟨2 * n.val + 1, by omega⟩).val
      + y.val / 64 % 2 := by
    have h8 : (rowOf t r).val / 8 = (grid0.coords t 2).val := by rw [hI]; omega
    simp only [bandRow, h8]
    split <;> simp only [] <;> omega
  rw [hR, hI]
  exact e

/-- A grid point's queries, normalised and scaled. -/
theorem query_apply (c : Dev nD) (t : Fin cfg0.N) (r : Fin 512) (d : Fin 128) :
    (k0_pay2 (iblk m c 0 t) (iblk m c 10 t) (ix2 r d) : EReal)
      = normed (part (proj m c) 0 (headOf t) (token (imageOf t) (rowOf t r) ⟨r.val % 64, by omega⟩)) (queryWeight m c) d
          * Ideal.ofBits .f32 0x3DB504F3#32 := by
  refine (queries_apply _ _ r d).trans (congrArg (· * Ideal.ofBits .f32 0x3DB504F3#32)
    (congrArg₂ (fun a b => normed a b d) (funext fun e => ?_) (funext fun e => ?_)))
  · rw [iblk0]
    refine congrArg (m ((c : Thread nD τ).loc main_arg0)) (congrArg₂ ix2 (Fin.ext ?_) (Fin.ext ?_))
    · simp only [token, imageOf, rowOf]
      omega
    · simp only [headOf]
      omega
  · rw [iblk10, row_queries]
    rfl

theorem bandRow_rowOf (t : Fin cfg0.N) (r : Fin 512) (n : Fin 4) (y : Fin 256) :
    (bandRow (rowOf t r) n y).val = 4 * bandStart (t.val % 16) + 4 * n.val + y.val / 64 := by
  have : (t.val % 16 * 8 + r.val / 64) / 8 = t.val % 16 := by omega
  simp only [bandRow, rowOf, this]

/-- A key block's keys, normalised. -/
theorem key_apply (c : Dev nD) (t : Fin cfg0.N) (n : Fin 4) (k : Vec Ideal S256x128 .f32)
    (hk : ∀ (y : Fin 256) (d : Fin 128), k (ix2 y d) = m ((c : Thread nD τ).loc main_arg0)
      (ix2 ⟨(t.val / 128 * 32 + bandStart (t.val % 16) + n.val) * 256 + y.val, by
          have := t_lt t; unfold bandStart; omega⟩
        ⟨(8 + t.val / 16 % 8) * 128 + d.val, by omega⟩)) (r : Fin 512) (y : Fin 256) (d : Fin 128) :
    (k0_pay3 k (iblk m c 11 t) (ix2 y d) : EReal)
      = normed (part (proj m c) 1 (headOf t) (token (imageOf t) (bandRow (rowOf t r) n y) ⟨y.val % 64, by omega⟩))
          (keyWeight m c) d := by
  refine (keys_apply _ _ y d).trans (congrArg₂ (fun a b => normed a b d) (funext fun e => ?_) (funext fun e => ?_))
  · rw [hk]
    refine congrArg (m ((c : Thread nD τ).loc main_arg0)) (congrArg₂ ix2 (Fin.ext ?_) (Fin.ext ?_))
    · simp only [token, imageOf, bandRow_rowOf]
      omega
    · simp only [headOf]
      omega
  · rw [iblk11, row_keys]
    rfl

/-- A block's scores with their biases are the band's. -/
theorem block_logit (c : Dev nD) (t : Fin cfg0.N) (n : Fin 4) (k : Vec Ideal S256x128 .f32)
    (hk : ∀ (y : Fin 256) (d : Fin 128), k (ix2 y d) = m ((c : Thread nD τ).loc main_arg0)
      (ix2 ⟨(t.val / 128 * 32 + bandStart (t.val % 16) + n.val) * 256 + y.val, by
          have := t_lt t; unfold bandStart; omega⟩
        ⟨(8 + t.val / 16 % 8) * 128 + d.val, by omega⟩)) (r : Fin 512) (y : Fin 256) :
    logits (k0_pay2 (iblk m c 0 t) (iblk m c 10 t)) (k0_pay3 k (iblk m c 11 t))
        (biasBlock (iblk m c 9 t) (grid0.coords t 2).val ⟨2 * n.val, by omega⟩ ⟨2 * n.val + 1, by omega⟩) (ix2 r y)
      = bandLogit (proj m c) (relBias m c) (queryWeight m c) (keyWeight m c) (imageOf t) (headOf t) (rowOf t r)
          ⟨r.val % 64, by omega⟩ (n, y) :=
  (logits_apply _ _ _ r y).trans (congrArg₂ (· + ·)
    ((Finset.sum_congr rfl fun d _ => congrArg₂ (· * ·) (query_apply m c t r d) (key_apply m c t n k hk r y d)).trans
      (scaled_dot _ _)) (bias_apply m c t n r y))

/-- A grid point's scores are the band's. -/
theorem pointLogits_apply (c : Dev nD) (t : Fin cfg0.N) (r : Fin 512) (n : Fin 4) (y : Fin 256) :
    (pointLogits m c t n (ix2 r y) : EReal)
      = bandLogit (proj m c) (relBias m c) (queryWeight m c) (keyWeight m c) (imageOf t) (headOf t) (rowOf t r)
          ⟨r.val % 64, by omega⟩ (n, y) := by
  match n with
  | 0 => exact block_logit m c t 0 _ (iblk1 m c t) r y
  | 1 => exact block_logit m c t 1 _ (iblk2 m c t) r y
  | 2 => exact block_logit m c t 2 _ (iblk3 m c t) r y
  | 3 => exact block_logit m c t 3 _ (iblk4 m c t) r y

set_option maxHeartbeats 1600000 in
/-- A grid point's values. -/
theorem value_apply (c : Dev nD) (t : Fin cfg0.N) (r : Fin 512) (n : Fin 4) (y : Fin 256) (d : Fin 128) :
    ((![iblk m c 5 t, iblk m c 6 t, iblk m c 7 t, iblk m c 8 t] : Fin 4 → Vec Ideal S256x128 .f32) n (ix2 y d) : EReal)
      = part (proj m c) 2 (headOf t) (token (imageOf t) (bandRow (rowOf t r) n y) ⟨y.val % 64, by omega⟩) d := by
  have h : ∀ (n : Fin 4) (k : Vec Ideal S256x128 .f32) (hk : ∀ (y : Fin 256) (d : Fin 128), k (ix2 y d)
        = m ((c : Thread nD τ).loc main_arg0)
          (ix2 ⟨(t.val / 128 * 32 + bandStart (t.val % 16) + n.val) * 256 + y.val, by
              have := t_lt t; unfold bandStart; omega⟩
            ⟨(16 + t.val / 16 % 8) * 128 + d.val, by omega⟩)), (k (ix2 y d) : EReal)
      = part (proj m c) 2 (headOf t) (token (imageOf t) (bandRow (rowOf t r) n y) ⟨y.val % 64, by omega⟩) d := by
    intro n k hk
    rw [hk]
    refine congrArg (m ((c : Thread nD τ).loc main_arg0)) (congrArg₂ ix2 (Fin.ext ?_) (Fin.ext ?_))
    · simp only [token, imageOf, bandRow_rowOf]
      omega
    · simp only [headOf]
      omega
  match n with
  | 0 => exact h 0 _ (iblk5 m c t)
  | 1 => exact h 1 _ (iblk6 m c t)
  | 2 => exact h 2 _ (iblk7 m c t)
  | 3 => exact h 3 _ (iblk8 m c t)

/-- The largest of four blocks' largest scores is the largest of all. -/
theorem rowTop_eq (l : Fin 4 → FVec Ideal S512x256 .f32) (r : Fin 512) :
    rowTop l r = Finset.univ.sup fun p : Fin 4 × Fin 256 => (l p.1 (ix2 r p.2) : EReal) := by
  have hb : ∀ n, (blockMax (l n) (ix2 r 0) : EReal) = Finset.univ.sup fun y : Fin 256 => (l n (ix2 r y) : EReal) :=
    fun n => (blockMax_apply (l n) r).trans (by rw [negInf]; rfl)
  unfold rowTop
  rw [hb, hb, hb, hb]
  refine le_antisymm ?_ (Finset.sup_le fun p _ => ?_)
  · have h : ∀ n : Fin 4, (Finset.univ.sup fun y : Fin 256 => (l n (ix2 r y) : EReal))
        ≤ Finset.univ.sup fun p : Fin 4 × Fin 256 => (l p.1 (ix2 r p.2) : EReal) := fun n =>
      Finset.sup_le fun y _ =>
        Finset.le_sup (f := fun p : Fin 4 × Fin 256 => (l p.1 (ix2 r p.2) : EReal)) (Finset.mem_univ (n, y))
    exact max_le (max_le (max_le (h 0) (h 1)) (h 2)) (h 3)
  · obtain ⟨n, y⟩ := p
    have h : (l n (ix2 r y) : EReal) ≤ Finset.univ.sup fun y : Fin 256 => (l n (ix2 r y) : EReal) :=
      Finset.le_sup (f := fun y : Fin 256 => (l n (ix2 r y) : EReal)) (Finset.mem_univ y)
    match n with
    | 0 => exact h.trans ((le_max_left _ _).trans ((le_max_left _ _).trans (le_max_left _ _)))
    | 1 => exact h.trans ((le_max_right _ _).trans ((le_max_left _ _).trans (le_max_left _ _)))
    | 2 => exact h.trans ((le_max_right _ _).trans (le_max_left _ _))
    | 3 => exact h.trans (le_max_right _ _)

/-- What a grid point leaves in its block of the result. -/
theorem point_apply (c : Dev nD) (t : Fin cfg0.N) (r : Fin 512) (d : Fin 128) :
    (outsAt0 m c t (ix2 r d) : EReal)
      = bandOut (proj m c) (relBias m c) (queryWeight m c) (keyWeight m c) (imageOf t) (headOf t) (rowOf t r)
          ⟨r.val % 64, by omega⟩ d := by
  rw [outsAt_eq]
  refine (attend_apply _ _ r d).trans ?_
  rw [rowTop_eq]
  simp only [pointLogits_apply, value_apply m c t r]
  unfold bandOut
  simp only [Fintype.sum_prod_type]

/-- The whole result: entry `(t, k)` is token `t`'s attention in head `k / 128` at its dimension `k % 128`. -/
def result (c : Dev nD) : S16384x1024.Idx → EReal := fun i =>
  bandOut (proj m c) (relBias m c) (queryWeight m c) (keyWeight m c) ⟨(i 0).val / 8192, by have : (i 0).val < 16384 := (i 0).isLt; omega⟩
    ⟨(i 1).val / 128, by have : (i 1).val < 1024 := (i 1).isLt; omega⟩ ⟨(i 0).val % 8192 / 64, by omega⟩
    ⟨(i 0).val % 64, by omega⟩ ⟨(i 1).val % 128, by omega⟩

theorem array_eq (c : Dev nD) : (dats m 0 c).arrAt 12 cfg0.N = result m c := by
  refine (dats m 0 c).arrAt_eq_of_covers 12 _ (by decide +kernel) fun t hf y => ?_
  blk_simp
  rw [after0_12]
  have hi : (win0_12.blk t).view.emb y = ix2 (n0 := 16384) (n1 := 1024)
      ⟨(t.val / 128 * 16 + t.val % 16) * 512 + (y 0).val, by
        have := t_lt t; have : (y 0).val < 512 := (y 0).isLt; omega⟩
      ⟨t.val / 16 % 8 * 128 + (y 1).val, by have : (y 1).val < 128 := (y 1).isLt; omega⟩ := by
    blk_ext [idx t]
  rw [hi]
  have hy : y = ix2 (y 0) (y 1) := by
    funext a
    match a with
    | 0 => rfl
    | 1 => rfl
  refine (congrArg (outsAt0 m c t) hy).trans ((point_apply m c t (y 0) (y 1)).trans ?_)
  have hr : (y 0).val < 512 := (y 0).isLt
  have hd : (y 1).val < 128 := (y 1).isLt
  have ht := t_lt t
  unfold result
  simp only [ix2_0, ix2_1]
  congr 1 <;> refine Fin.ext ?_ <;> simp only [imageOf, headOf, rowOf] <;> omega

end Cert.KernelIdeal.Band

end
-- ==== Proof.Window.lean ====
/- The reference of the attention, entry by entry: the window form. -/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal.Window

open Cert.ReferenceIdeal Cert.ReferenceIdeal.Value Idealize.ShloMosaic Idealize.ShloMosaic.TcCoe Idealize.SL.Sem
open Cert.KernelIdeal.Block Cert.KernelIdeal.Spec Cert.KernelIdeal.Math

/-- A word below the bound it is clamped to is itself. -/
theorem word_clamp {n k : Nat} (hn : n < 2 ^ 31) (h : n ≤ k) : min (BitVec.ofNat 32 n).toInt.toNat k = n := by
  have : (BitVec.ofNat 32 n).toInt = n := by
    rw [BitVec.toInt_eq_toNat_cond]
    simp only [BitVec.toNat_ofNat]
    rw [if_pos (by omega)]
    omega
  rw [this]
  omega

/-- The rows of the windows: row `a` of query row `I` is the image row its word names. -/
theorem gather_rows {α : Type} (X : S2x128x64x8x128.Idx → α) (idx : IVec S128x8x1 32) (b : Fin 2) (I : Fin 128) (a : Fin 8)
    (x : Fin 64) (h : Fin 8) (d : Fin 128) (R : Fin 128) (hR : idx (ix3 I a 0) = BitVec.ofNat 32 R.val) :
    Host.gather gather_S2x128x64x8x128_S128x8x1_S2x128x8x64x8x128_0345_1_n_n_1_2_21648128 X idx (ix6 b I a x h d)
      = X (ix5 b R x h d) := by
  unfold Host.gather
  refine congrArg X (funext fun k => Fin.ext ?_)
  match k with
  | ⟨0, _⟩ => exact (Nat.zero_add _).trans rfl
  | ⟨1, _⟩ =>
    have hsi : gather_S2x128x64x8x128_S128x8x1_S2x128x8x64x8x128_0345_1_n_n_1_2_21648128.siIdx (ix6 b I a x h d)
        ⟨0, by decide⟩ = ix3 I a 0 := by
      funext k
      match k with
      | ⟨0, _⟩ => rfl
      | ⟨1, _⟩ => rfl
      | ⟨2, _⟩ => rfl
    refine Eq.trans (show _ = min (idx (ix3 I a 0)).toInt.toNat 127 from
      congrArg (fun i => min (idx i).toInt.toNat 127) hsi) ?_
    rw [hR]
    exact word_clamp (by omega) (by omega)
  | ⟨2, _⟩ => exact (Nat.zero_add _).trans rfl
  | ⟨3, _⟩ => exact (Nat.zero_add _).trans rfl
  | ⟨4, _⟩ => exact (Nat.zero_add _).trans rfl

/-- The biases of the windows: the table's entry that the two words name. -/
theorem gather_bias {α : Type} (X : S8x15x31.Idx → α) (idx : IVec S128x64x8x64x2 32) (h : Fin 8) (I : Fin 128) (w : Fin 64)
    (a : Fin 8) (x : Fin 64) (r : Fin 15) (k : Fin 31) (hr : idx (ix5 I w a x 0) = BitVec.ofNat 32 r.val)
    (hk : idx (ix5 I w a x 1) = BitVec.ofNat 32 k.val) :
    Host.gather gather_S8x15x31_S128x64x8x64x2_S8x128x64x8x64_0_12_n_n_12_4_811 X idx (ix5 h I w a x)
      = X (ix3 h r k) := by
  unfold Host.gather
  have hsi : ∀ n, gather_S8x15x31_S128x64x8x64x2_S8x128x64x8x64_0_12_n_n_12_4_811.siIdx (ix5 h I w a x)
      n = ix5 I w a x ⟨n.val, n.isLt⟩ := by
    intro n
    funext k
    match k with
    | ⟨0, _⟩ => rfl
    | ⟨1, _⟩ => rfl
    | ⟨2, _⟩ => rfl
    | ⟨3, _⟩ => rfl
    | ⟨4, _⟩ => rfl
  refine congrArg X (funext fun k => Fin.ext ?_)
  match k with
  | ⟨0, _⟩ => exact (Nat.zero_add _).trans rfl
  | ⟨1, _⟩ =>
    refine Eq.trans (show _ = min (idx (ix5 I w a x 0)).toInt.toNat 14 from
      congrArg (fun i => min (idx i).toInt.toNat 14) (hsi ⟨0, by decide⟩)) ?_
    rw [hr]
    exact word_clamp (by omega) (by omega)
  | ⟨2, _⟩ =>
    refine Eq.trans (show _ = min (idx (ix5 I w a x 1)).toInt.toNat 30 from
      congrArg (fun i => min (idx i).toInt.toNat 30) (hsi ⟨1, by decide⟩)) ?_
    rw [hk]
    exact word_clamp (by omega) (by omega)

variable (V0 : Valuation τ sig (Elt Ideal))

theorem rowWord_apply (I : Fin 128) (a : Fin 8) :
    res_main_v46 V0 (ix2 I a) = BitVec.ofNat 32 (rowStart I + a.val) := by
  unfold res_main_v46 res_main_v37
  clean_types
  pointwise
  revert I a
  decide +kernel

theorem colWord_apply (w : Fin 64) : res_main_v67 V0 (ix1 w) = BitVec.ofNat 32 (colStart w) := by
  unfold res_main_v67 res_main_v64
  clean_types
  pointwise
  revert w
  decide +kernel

theorem rowCode_apply (I : Fin 128) (a : Fin 8) :
    res_main_v98 V0 (ix4 I 0 a 0) = BitVec.ofNat 32 (rowStart I + a.val + 7 - I.val) := by
  unfold res_main_v98 res_main_v37
  clean_types
  pointwise
  simp only [rowWord_apply]
  revert I a
  decide +kernel

theorem colCode_apply (w x : Fin 64) :
    res_main_v99 V0 (ix4 0 w 0 x) = BitVec.ofNat 32 (colCode w x) := by
  unfold res_main_v99 res_main_v64
  clean_types
  pointwise
  revert w x
  decide +kernel

/-- The head parts of the reference's projection, as the mathematics names them. -/
def projOf (t : Fin 16384) (k : Fin 11264) : EReal := V0 (Proc.devRef .tc main_arg0) (ix2 t k)
def biasOf (h : Fin 8) (k : Fin 15) (x : Fin 31) : EReal := V0 (Proc.devRef .tc main_arg1) (ix3 h k x)
def queryWeightOf (d : Fin 128) : EReal := V0 (Proc.devRef .tc main_arg2) (ix1 d)
def keyWeightOf (d : Fin 128) : EReal := V0 (Proc.devRef .tc main_arg3) (ix1 d)

theorem query_in (b : Fin 2) (s : Fin 8192) (h : Fin 8) (d : Fin 128) :
    (res_main_v5 V0 (ix4 b s h d) : EReal) = part (projOf V0) 0 h ⟨b.val * 8192 + s.val, by omega⟩ d := by
  unfold res_main_v5 res_main_v1
  clean_types
  pointwise
  refine congrArg (V0 (Proc.devRef .tc main_arg0)) (congrArg (ix2 _) (Fin.ext ?_))
  show h.val * 128 + d.val = (0 * 8 + h.val) * 128 + d.val
  omega

theorem key_in (b : Fin 2) (s : Fin 8192) (h : Fin 8) (d : Fin 128) :
    (res_main_v19 V0 (ix4 b s h d) : EReal) = part (projOf V0) 1 h ⟨b.val * 8192 + s.val, by omega⟩ d := by
  unfold res_main_v19 res_main_v1
  clean_types
  pointwise
  refine congrArg (V0 (Proc.devRef .tc main_arg0)) (congrArg (ix2 _) (Fin.ext ?_))
  show 1024 + (h.val * 128 + d.val) = (1 * 8 + h.val) * 128 + d.val
  omega

theorem select_if {p : Prop} [Decidable p] {c : BitVec 1} {A B A' B' : EReal} (hc : c = if p then 1#1 else 0#1) (hA : A = A')
    (hB : B = B') : Scalar.select c A B = if p then A' else B' := by
  subst hc hA hB
  split <;> rfl

/-- A row index that is not negative is not wrapped. -/
theorem row_word (I : Fin 128) (a : Fin 8) :
    Scalar.select (IntOp.cmpi CmpIPredicate.slt (BitVec.ofNat 32 (rowStart I + a.val)) 0#32)
      (IntOp.addi (BitVec.ofNat 32 (rowStart I + a.val)) 128#32) (BitVec.ofNat 32 (rowStart I + a.val))
      = BitVec.ofNat 32 (windowRow I a).val := by
  revert I a
  decide +kernel

/-- Whether column `x` lies in the window of column `w`. -/
theorem mask_word (w x : Fin 64) :
    IntOp.andi (IntOp.cmpi CmpIPredicate.sge (BitVec.ofNat 32 x.val) (BitVec.ofNat 32 (colStart w)))
      (IntOp.cmpi CmpIPredicate.slt (BitVec.ofNat 32 x.val) (IntOp.addi (BitVec.ofNat 32 (colStart w)) 16#32))
      = if colStart w ≤ x.val ∧ x.val < colStart w + 16 then 1#1 else 0#1 := by
  revert w x
  decide +kernel

theorem token_eq (b : Fin 2) (R : Fin 128) (x : Fin 64) (h : b.val * 8192 + (R.val * 64 + x.val) < 16384) :
    (⟨b.val * 8192 + (R.val * 64 + x.val), h⟩ : Fin 16384) = token b R x :=
  Fin.ext (Nat.add_assoc _ _ _).symm

theorem logit_apply (b : Fin 2) (h : Fin 8) (I : Fin 128) (w : Fin 64) (a : Fin 8) (x : Fin 64) :
    (res_main_v120 V0 (ix6 b h I w a x) : EReal)
      = windowLogit (projOf V0) (biasOf V0) (queryWeightOf V0) (keyWeightOf V0) b h I w (a, x) := by
  unfold res_main_v120
  clean_types
  pointwise
  unfold windowLogit
  refine select_if ?_ (congrArg₂ (· + ·) (congrArg (· * _) (Finset.sum_congr rfl fun d _ => congrArg₂ (· * ·) ?_ ?_)) ?_) negInf
  · simp only [colWord_apply]
    unfold res_main_v64
    pointwise
    exact mask_word w x
  · simp only [query_in, token_eq]
    unfold normed queryWeightOf
    rfl
  · refine (gather_rows _ _ b I a x h d (windowRow I a) ?_).trans ?_
    · pointwise
      simp only [rowWord_apply]
      exact row_word I a
    pointwise
    simp only [key_in, token_eq]
    unfold normed keyWeightOf
    rfl
  · refine (gather_bias _ _ h I w a x ⟨rowStart I + a.val + 7 - I.val, by unfold rowStart; omega⟩
      ⟨colCode w x, colCode_lt w x⟩ ?_ ?_).trans rfl
    · pointwise
      simp only [rowCode_apply]
      clear w x h b
      revert I a
      decide +kernel
    · pointwise
      simp only [colCode_apply]
      clear a I h b
      revert w x
      decide +kernel

end Cert.ReferenceIdeal.Window

end
-- ==== Proof.Softmax.lean ====
/- The softmax of the reference, read at one query: logits, their largest, and the exponentials. -/
module

public import proofs.«01_k».proof.Proof.Window

@[expose] public section

set_option maxRecDepth 16384

noncomputable section

namespace Cert.ReferenceIdeal.Result

open Cert.ReferenceIdeal Cert.ReferenceIdeal.Value Idealize.ShloMosaic Idealize.ShloMosaic.TcCoe Idealize.SL.Sem
open Cert.KernelIdeal.Block Cert.KernelIdeal.Spec Cert.KernelIdeal.Math Cert.ReferenceIdeal.Window

variable (V0 : Valuation τ sig (Elt Ideal))

/-- A key of the window from its place in the flattened window. -/
def flat : Fin 8 × Fin 64 ≃ Fin 512 := finProdFinEquiv

theorem flat_val (s : Fin 8 × Fin 64) : (flat s).val = s.1.val * 64 + s.2.val := by
  show s.2.val + 64 * s.1.val = s.1.val * 64 + s.2.val
  omega

/-- The logits of one query, the window flattened. -/
def flatLogit (b : Fin 2) (h : Fin 8) (I : Fin 128) (w : Fin 64) (y : Fin 512) : EReal :=
  res_main_v121 V0 (ix5 b h I w y)

theorem unflatten (X : S2x8x128x64x8x64.Idx → EReal) (hc : S2x8x128x64x8x64.ShapeCasts S2x8x128x64x512) (b : Fin 2)
    (h : Fin 8) (I : Fin 128) (w : Fin 64) (y : Fin 512) :
    shapeCast S2x8x128x64x512 X hc (ix5 b h I w y) = X (ix6 b h I w ⟨y.val / 64, by omega⟩ ⟨y.val % 64, by omega⟩) := by
  pointwise

theorem flat_rows (b : Fin 2) (h : Fin 8) (I : Fin 128) (w : Fin 64) (y : Fin 512) :
    flatLogit V0 b h I w y = res_main_v120 V0 (ix6 b h I w ⟨y.val / 64, by omega⟩ ⟨y.val % 64, by omega⟩) :=
  unflatten (res_main_v120 V0) _ b h I w y

theorem place_eq (X : S2x8x128x64x8x64.Idx → EReal) (b : Fin 2) (h : Fin 8) (I : Fin 128) (w : Fin 64)
    (s : Fin 8 × Fin 64) (y : Fin 512) (hs : y.val = s.1.val * 64 + s.2.val) :
    X (ix6 b h I w ⟨y.val / 64, by omega⟩ ⟨y.val % 64, by omega⟩) = X (ix6 b h I w s.1 s.2) := by
  have ha : (⟨y.val / 64, by omega⟩ : Fin 8) = s.1 := Fin.ext (by simp only []; omega)
  have hx : (⟨y.val % 64, by omega⟩ : Fin 64) = s.2 := Fin.ext (by simp only []; omega)
  rw [ha, hx]

theorem flat_logit (b : Fin 2) (h : Fin 8) (I : Fin 128) (w : Fin 64) (s : Fin 8 × Fin 64) :
    flatLogit V0 b h I w (flat s)
      = windowLogit (projOf V0) (biasOf V0) (queryWeightOf V0) (keyWeightOf V0) b h I w s :=
  (flat_rows V0 b h I w (flat s)).trans ((place_eq (res_main_v120 V0) b h I w s (flat s) (flat_val s)).trans
    (logit_apply V0 b h I w s.1 s.2))

theorem sup_flat {ι κ : Type} [Fintype ι] [Fintype κ] (f : ι → EReal) (l : κ → EReal) (e : κ ≃ ι) (h : ∀ s, f (e s) = l s) :
    Finset.univ.sup f = Finset.univ.sup l := by
  refine le_antisymm (Finset.sup_le fun y _ => ?_) (Finset.sup_le fun s _ => ?_)
  · obtain ⟨s, rfl⟩ := e.surjective y
    rw [h]
    exact Finset.le_sup (Finset.mem_univ s)
  · rw [← h]
    exact Finset.le_sup (f := f) (Finset.mem_univ (e s))

/-- A maximum along the last of five axes, from `-∞`. -/
theorem reduce_max (x : S2x8x128x64x512.Idx → EReal) (b : Fin 2) (h : Fin 8) (I : Fin 128) (w : Fin 64)
    (hr : S2x8x128x64x512.ReducesTo [4] S2x8x128x64) (hu : 0 < S_.numel) :
    Host.reduce (α := EReal) (FloatOps.maximumf (F := Ideal) (φ := .f32)) x (constant (F := Ideal) S_ .f32 0xFF800000#32) hr hu
      (ix4 b h I w) = Finset.univ.sup fun y : Fin 512 => x (ix5 b h I w y) := by
  have : Std.Commutative (α := EReal) (FloatOps.maximumf (F := Ideal) (φ := .f32)) := ⟨fun a b => max_comm (α := EReal) a b⟩
  have : Std.Associative (α := EReal) (FloatOps.maximumf (F := Ideal) (φ := .f32)) :=
    ⟨fun a b c => max_assoc (α := EReal) a b c⟩
  rw [Host.reduce_eq_fold]
  refine Eq.trans (b := (Finset.univ.filter fun i => hr.drop i = ix4 b h I w).sup (α := EReal) x) ?_ ?_
  · exact congrArg (fun z : EReal => Finset.fold max z x _) negInf
  · refine le_antisymm (Finset.sup_le fun i hi => ?_) (Finset.sup_le fun y _ => Finset.le_sup (α := EReal) (f := x) ?_)
    · have hd := (Finset.mem_filter.1 hi).2
      have : i = ix5 b h I w (i 4) := by
        funext k
        match k with
        | ⟨0, _⟩ => exact Fin.ext (congrArg (fun j => (j 0).val) hd)
        | ⟨1, _⟩ => exact Fin.ext (congrArg (fun j => (j 1).val) hd)
        | ⟨2, _⟩ => exact Fin.ext (congrArg (fun j => (j 2).val) hd)
        | ⟨3, _⟩ => exact Fin.ext (congrArg (fun j => (j 3).val) hd)
        | ⟨4, _⟩ => rfl
      rw [this]
      exact Finset.le_sup (α := EReal) (f := fun y : Fin 512 => x (ix5 b h I w y)) (Finset.mem_univ (i 4))
    · refine Finset.mem_filter.2 ⟨Finset.mem_univ _, ?_⟩
      funext k
      match k with
      | ⟨0, _⟩ => rfl
      | ⟨1, _⟩ => rfl
      | ⟨2, _⟩ => rfl
      | ⟨3, _⟩ => rfl

theorem exp_rows (X : FVec Ideal S2x8x128x64x512 .f32) (M : FVec Ideal S2x8x128x64 .f32) (b : Fin 2) (h : Fin 8)
    (I : Fin 128) (w : Fin 64) (y : Fin 512) :
    Host.exp (F := Ideal) (φ := .f32) (subf X (broadcastInDim S2x8x128x64x512 ![0, 1, 2, 3, 4]
      Gen.bcast_S2x8x128x64x1_S2x8x128x64x512_0_1_2_3_4 (broadcastInDim S2x8x128x64x1 ![0, 1, 2, 3]
        Gen.bcast_S2x8x128x64_S2x8x128x64x1_0_1_2_3 (maximumf (broadcastInDim S2x8x128x64 ![] Gen.bcast_S_S2x8x128x64
          (constant (F := Ideal) S_ .f32 0xFF800000#32)) M)))) (ix5 b h I w y)
      = Ideal.exp (X (ix5 b h I w y) - max (Ideal.ofBits .f32 0xFF800000#32) (M (ix4 b h I w))) := by
  pointwise

/-- The exponential of a logit less the largest logit. -/
theorem weight_apply (b : Fin 2) (h : Fin 8) (I : Fin 128) (w : Fin 64) (s : Fin 8 × Fin 64) :
    (res_main_v128 V0 (ix5 b h I w (flat s)) : EReal)
      = Ideal.exp (windowLogit (projOf V0) (biasOf V0) (queryWeightOf V0) (keyWeightOf V0) b h I w s
        - Finset.univ.sup (windowLogit (projOf V0) (biasOf V0) (queryWeightOf V0) (keyWeightOf V0) b h I w)) := by
  have hM := (reduce_max (res_main_v121 V0) b h I w Gen.reducesTo_S2x8x128x64x512_S2x8x128x64_d4 Gen.h_S_).trans
    (sup_flat (flatLogit V0 b h I w) _ flat (flat_logit V0 b h I w))
  refine (exp_rows (res_main_v121 V0) _ b h I w (flat s)).trans (congrArg Ideal.exp (congrArg₂ (· - ·)
    (flat_logit V0 b h I w s) ?_))
  refine (congrArg (max _) hM).trans ?_
  rw [negInf]
  exact max_eq_right bot_le

end Cert.ReferenceIdeal.Result

end
-- ==== Proof.Result.lean ====
/- The result of the reference, entry by entry. -/
module

public import proofs.«01_k».proof.Proof.Softmax

@[expose] public section

set_option maxRecDepth 16384

noncomputable section

namespace Cert.ReferenceIdeal.Result

open Cert.ReferenceIdeal Cert.ReferenceIdeal.Value Idealize.ShloMosaic Idealize.ShloMosaic.TcCoe Idealize.SL.Sem
open Cert.KernelIdeal.Block Cert.KernelIdeal.Spec Cert.KernelIdeal.Math Cert.ReferenceIdeal.Window

variable (V0 : Valuation τ sig (Elt Ideal))

theorem share_rows (X : FVec Ideal S2x8x128x64x512 .f32) (b : Fin 2) (h : Fin 8) (I : Fin 128) (w : Fin 64) (a : Fin 8)
    (x : Fin 64) (hc : S2x8x128x64x512.ShapeCasts S2x8x128x64x8x64) :
    shapeCast S2x8x128x64x8x64 (Host.divf (F := Ideal) (φ := .f32) X (broadcastInDim S2x8x128x64x512 ![0, 1, 2, 3, 4]
      Gen.bcast_S2x8x128x64x1_S2x8x128x64x512_0_1_2_3_4 (broadcastInDim S2x8x128x64x1 ![0, 1, 2, 3]
        Gen.bcast_S2x8x128x64_S2x8x128x64x1_0_1_2_3 (Host.reduceAdd X (constant (F := Ideal) S_ .f32 0x00000000#32)
          Gen.reducesTo_S2x8x128x64x512_S2x8x128x64_d4 Gen.h_S_)))) hc (ix6 b h I w a x)
      = Ideal.div (X (ix5 b h I w ⟨a.val * 64 + x.val, by omega⟩)) (∑ y : Fin 512, X (ix5 b h I w y)) := by
  pointwise

theorem dot_rows (A : FVec Ideal S2x128x8x64x8x128 .f32) (B : FVec Ideal S2x8x128x64x8x64 .f32) (t : Fin 16384) (k : Fin 1024)
    (h1 : S2x128x64x8x128.ShapeCasts S2x8192x1024) (h2 : S2x8192x1024.ShapeCasts S16384x1024) :
    shapeCast S16384x1024 (shapeCast S2x8192x1024 (transpose S2x128x64x8x128 [0, 1, 4, 2, 3] (Host.dotGeneral (F := Ideal)
      dot_S2x128x8x64x8x128_S2x8x128x64x8x64_S2x128x8x128x64_32_54_5_3_014_021 none A B)
        Gen.transposes_S2x128x8x128x64_S2x128x64x8x128_0_1_4_2_3) h1) h2 (ix2 t k)
      = ∑ x : Fin 64, ∑ a : Fin 8, A (ix6 ⟨t.val / 8192, by omega⟩ ⟨t.val / 64 % 128, by omega⟩ a x ⟨k.val / 128, by omega⟩
          ⟨k.val % 128, by omega⟩) * B (ix6 ⟨t.val / 8192, by omega⟩ ⟨k.val / 128, by omega⟩ ⟨t.val / 64 % 128, by omega⟩
          ⟨t.val % 64, by omega⟩ a x) := by
  pointwise

theorem value_rows (Z : S2x8192x3072.Idx → EReal) (b : Fin 2) (R : Fin 128) (x : Fin 64) (h : Fin 8) (d : Fin 128)
    (h0 : S2x8192x1024.ShapeCasts S2x8192x8x128) (h1 : S2x8192x8x128.ShapeCasts S2x128x64x8x128) :
    shapeCast S2x128x64x8x128 (shapeCast S2x8192x8x128 (extractStridedSlice S2x8192x1024 ![0, 0, 2048] Z
      Gen.slices_S2x8192x3072_S2x8192x1024_0_0_2048) h0) h1 (ix5 b R x h d)
      = Z (ix3 b ⟨R.val * 64 + x.val, by omega⟩ ⟨2048 + (h.val * 128 + d.val), by omega⟩) := by
  pointwise

variable (V0 : Valuation τ sig (Elt Ideal))

theorem value_in (b : Fin 2) (R : Fin 128) (x : Fin 64) (h : Fin 8) (d : Fin 128) :
    (res_main_v1 V0 (ix3 b ⟨R.val * 64 + x.val, by omega⟩ ⟨2048 + (h.val * 128 + d.val), by omega⟩) : EReal)
      = part (projOf V0) 2 h (token b R x) d := by
  unfold res_main_v1
  clean_types
  pointwise
  refine congrArg (V0 (Proc.devRef .tc main_arg0)) (congrArg₂ ix2 (token_eq b R x _) (Fin.ext ?_))
  show 2048 + (h.val * 128 + d.val) = (2 * 8 + h.val) * 128 + d.val
  omega

theorem index_rows (I : Fin 128) (a : Fin 8) :
    broadcastInDim S128x8x1 ![0, 1] Gen.bcast_S128x8_S128x8x1_0_1 (select (cmpi .slt (res_main_v46 V0)
      (broadcastInDim S128x8 ![] Gen.bcast_S_S128x8 (constantI S_ 32 0#32))) (addi (res_main_v46 V0)
      (broadcastInDim S128x8 ![] Gen.bcast_S_S128x8 (constantI S_ 32 128#32))) (res_main_v46 V0)) (ix3 I a 0)
      = BitVec.ofNat 32 (windowRow I a).val := by
  pointwise
  simp only [rowWord_apply]
  exact row_word I a

/-- The reference's result, entry by entry: the attention over the window. -/
theorem out_apply (t : Fin 16384) (k : Fin 1024) :
    (val3 V0 (Proc.devRef .tc main_v137) (ix2 t k) : EReal)
      = windowOut (projOf V0) (biasOf V0) (queryWeightOf V0) (keyWeightOf V0) ⟨t.val / 8192, by omega⟩
          ⟨k.val / 128, by omega⟩ ⟨t.val / 64 % 128, by omega⟩ ⟨t.val % 64, by omega⟩ ⟨k.val % 128, by omega⟩ := by
  refine (congrFun (val3_main_v137 V0) _).trans ((dot_rows _ _ t k _ _).trans (Finset.sum_comm.trans ?_))
  refine Eq.trans ?_ (Fintype.sum_prod_type _).symm
  refine Finset.sum_congr rfl fun a _ => Finset.sum_congr rfl fun x _ => ?_
  refine (mul_comm _ _).trans (congrArg₂ (· * ·) ((share_rows _ _ _ _ _ a x _).trans (congrArg₂ Ideal.div ?_ ?_)) ?_)
  · exact Eq.trans (congrArg (fun y => res_main_v128 V0 (ix5 _ _ _ _ y)) (Fin.ext (flat_val (a, x)).symm))
      (weight_apply V0 _ _ _ _ (a, x))
  · exact (flat.sum_comp _).symm.trans (Finset.sum_congr rfl fun s _ => weight_apply V0 _ _ _ _ s)
  · exact (gather_rows _ _ _ _ a x _ _ (windowRow _ a) (index_rows V0 _ a)).trans
      ((value_rows (res_main_v1 V0) _ _ x _ _ _ _).trans (value_in V0 _ _ x _ _))

end Cert.ReferenceIdeal.Result

end
-- ==== Proof.Finite.lean ====
/- What the precondition says: the biases and the norms' weights are real numbers. -/
module

public import proofs.«01_k».proof.Proof.Gen.Pre_finite
public import proofs.«01_k».proof.Proof.Math
public import Idealize.ShloMosaic.Lib.Pointwise

@[expose] public section

noncomputable section

namespace Cert.KernelIdeal.Finite

open Idealize.ShloMosaic Cert.KernelIdeal.Math Cert.Pre_finite

theorem real_of_abs {x : EReal} (h : Ideal.cmp .olt (max x (-x)) (Ideal.ofBits .f32 0x7F800000#32) = 1#1) : IsReal x := by
  have ht : (Ideal.ofBits .f32 0x7F800000#32 : EReal) = ⊤ := by simp [Ideal.ofBits, Ideal.ieee]
  rw [ht] at h
  induction x with
  | bot => simp [Ideal.cmp] at h
  | top => simp [Ideal.cmp] at h
  | coe r => exact ⟨r, rfl⟩

theorem bias_real (z : FVec Ideal S16384x11264 .f32) (rpb : FVec Ideal S8x15x31 .f32) (qw kw : FVec Ideal S128 .f32)
    (h : (fn (F := Ideal) z rpb qw kw).1 = fun _ => 1#1) (i : S8x15x31.Idx) : IsReal (rpb i) :=
  real_of_abs (congrFun h i)

theorem query_real (z : FVec Ideal S16384x11264 .f32) (rpb : FVec Ideal S8x15x31 .f32) (qw kw : FVec Ideal S128 .f32)
    (h : (fn (F := Ideal) z rpb qw kw).2.1 = fun _ => 1#1) (i : S128.Idx) : IsReal (qw i) :=
  real_of_abs (congrFun h i)

theorem key_real (z : FVec Ideal S16384x11264 .f32) (rpb : FVec Ideal S8x15x31 .f32) (qw kw : FVec Ideal S128 .f32)
    (h : (fn (F := Ideal) z rpb qw kw).2.2 = fun _ => 1#1) (i : S128.Idx) : IsReal (kw i) :=
  real_of_abs (congrFun h i)

end Cert.KernelIdeal.Finite

end
-- ==== Proof.Attention.lean ====
/- The attention's claims: its frames, and that kernel and reference give the same result. -/
module

public import proofs.«01_k».proof.Defs
public import proofs.«01_k».proof.Proof.Gen.Kernel.Frame
public import proofs.«01_k».proof.Proof.Gen.KernelIdeal.Value
public import proofs.«01_k».proof.Proof.Band
public import proofs.«01_k».proof.Proof.Result
public import proofs.«01_k».proof.Proof.Finite
public import Idealize.ShloMosaic.Lib.Claim

@[expose] public section

set_option maxRecDepth 16384

noncomputable section

namespace Cert.KernelIdeal.Attention

open Idealize.ShloMosaic Idealize.ShloMosaic.TcCoe Idealize.SL.Sem
open Cert.KernelIdeal.Spec Cert.KernelIdeal.Math Cert.KernelIdeal.Band Cert.KernelIdeal.Table Cert.ReferenceIdeal.Window

theorem kernel_frame : Cert.quiescent_Kernel := fun m ρ _ => Cert.Kernel.Gen.frame m ρ

theorem ideal_frame : Cert.quiescent_KernelIdeal := fun m ρ _ => Cert.KernelIdeal.Gen.frame m ρ

theorem ideal_frame_finite : Cert.quiescent_KernelIdeal_pre_finite := fun m ρ _ => Cert.KernelIdeal.Gen.frame m ρ

theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run m ρ)

theorem reference_frame : Cert.quiescent_ReferenceIdeal := fun m ρ _ => reference_run m ρ

theorem reference_frame_finite : Cert.quiescent_ReferenceIdeal_pre_finite := fun m ρ _ => reference_run m ρ

theorem preserves : Cert.preserves_Kernel_KernelIdeal := trivial

/-- The kernel's result is the window form of the attention when biases and weights are real. -/
theorem result_window (m : (ℓ : Loc Cert.KernelIdeal.nD Cert.KernelIdeal.τ Cert.KernelIdeal.sig) → Buf (Elt Ideal) ℓ)
    (h : Cert.Pre_KernelIdeal_finite m) (c : Dev Cert.KernelIdeal.nD) (t : Fin 16384) (k : Fin 1024) :
    result m c (ix2 t k)
      = windowOut (proj m c) (relBias m c) (queryWeight m c) (keyWeight m c) ⟨t.val / 8192, by omega⟩
          ⟨k.val / 128, by omega⟩ ⟨t.val / 64 % 128, by omega⟩ ⟨t.val % 64, by omega⟩ ⟨k.val % 128, by omega⟩ := by
  have hI : (⟨t.val / 64 % 128, by omega⟩ : Fin 128) = ⟨t.val % 8192 / 64, by omega⟩ := Fin.ext (by simp only []; omega)
  rw [hI]
  exact bandOut_eq _ _ _ _ (fun a k x => Finite.bias_real _ _ _ _ (h c).1 (ix3 a k x))
    (fun d => Finite.query_real _ _ _ _ (h c).2.1 (ix1 d)) (fun d => Finite.key_real _ _ _ _ (h c).2.2 (ix1 d)) _ _ _ _ _

/-- From equal arguments the reference's result is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.val3 (StableHlo.launchContents m' c) (Proc.devRef .tc Cert.ReferenceIdeal.main_v137) = result m c := by
  funext j
  obtain ⟨t, k, rfl⟩ : ∃ (t : Fin 16384) (k : Fin 1024), j = ix2 t k := ⟨j 0, j 1, by
    funext a
    match a with
    | ⟨0, _⟩ => rfl
    | ⟨1, _⟩ => rfl⟩
  have e0 : projOf (StableHlo.launchContents m' c) = proj m c := funext fun t => funext fun k => congrFun h0 (ix2 t k)
  have e1 : biasOf (StableHlo.launchContents m' c) = relBias m c :=
    funext fun a => funext fun k => funext fun x => congrFun h1 (ix3 a k x)
  have e2 : queryWeightOf (StableHlo.launchContents m' c) = queryWeight m c := funext fun d => congrFun h2 (ix1 d)
  have e3 : keyWeightOf (StableHlo.launchContents m' c) = keyWeight m c := funext fun d => congrFun h3 (ix1 d)
  refine (Cert.ReferenceIdeal.Result.out_apply _ t k).trans ?_
  rw [e0, e1, e2, e3]
  exact (result_window m h c t k).symm

theorem algebraic : Cert.algebraic_KernelIdeal_ReferenceIdeal_pre_finite := by
  intro m g m' g' hpre hagree
  refine ⟨fun c => result m c, ?_, ?_⟩
  · refine (θ_run Cert.KernelIdeal.defs _ _).mono (fun r h c => ?_) (Cert.KernelIdeal.Value.run_blocks (F := Ideal) m g)
    exact ⟨(h c).1.trans (array_eq m c), (h c).2⟩
  · refine (θ_run Cert.ReferenceIdeal.defs _ _).mono (fun r h c => ?_) (Cert.ReferenceIdeal.Value.run m' g')
    refine ⟨(h c).1.trans ((Cert.ReferenceIdeal.Value.val3_main_v137 _).symm.trans (same m m' hpre c (hagree c).1
      (hagree c).2.1 (hagree c).2.2.1 (hagree c).2.2.2)), (h c).2⟩

end Cert.KernelIdeal.Attention

end
-- ==== Proof.Norm.lean ====
/- The normalisation that the two projections share: one row of 2048 numbers over its root mean square, scaled and
   shifted channel by channel. -/
module

public import Idealize.ShloMosaic.Lib.Pointwise

@[expose] public section

noncomputable section

namespace Cert.Norm

open Idealize.ShloMosaic

/-- Channel `k` of a row: the row over its root mean square, times the weight, times one plus the scale, plus the
    shift. -/
def modulated (x w scale shift : Fin 2048 → EReal) (k : Fin 2048) : EReal :=
  x k * Ideal.rsqrt (Ideal.div (∑ e : Fin 2048, x e * x e) (Ideal.ofBits .f32 0x45000000#32)
    + Ideal.ofBits .f32 0x358637BD#32) * w k * (Ideal.ofBits .f32 0x3F800000#32 + scale k) + shift k

end Cert.Norm

end
-- ==== Proof.Project.lean ====
/- The input projection's kernel: what a grid point leaves in its carried rows and in its block of the result. -/
module

public import proofs.«01_k».proof.Proof.Gen.Kernel2Ideal.Value
public import proofs.«01_k».proof.Proof.Norm
public import Idealize.ShloMosaic.Lib.Pipeline.ValueKit

@[expose] public section

set_option maxRecDepth 16384

noncomputable section

namespace Cert.Kernel2Ideal.Project

open Cert.Kernel2Ideal Cert.Kernel2Ideal.Gen Cert.Norm Idealize.ShloMosaic Idealize.ShloMosaic.TcCoe Idealize.SL.Sem

theorem rows_apply (x : Vec Ideal S1024x2048 .f32) (w : Vec Ideal S1x2048 .f32) (s b : Vec Ideal S1x1x2048 .f32)
    (r : Fin 1024) (k : Fin 2048) :
    k0_pay1 x w s b (ix2 r k)
      = modulated (fun e => x (ix2 r e)) (fun e => w (ix2 0 e)) (fun e => s (ix3 0 0 e)) (fun e => b (ix3 0 0 e)) k := by
  pointwise [k0_pay1, modulated]

theorem product_apply (u : Vec Ideal S1024x2048 .bf16) (w : Vec Ideal S2048x1024 .bf16) (r n : Fin 1024) :
    k0_pay2 u w (ix2 r n) = ∑ k : Fin 2048, (u (ix2 r k) * w (ix2 k n) : EReal) := by
  pointwise [k0_pay2]

/-- Every window's block index at grid point `11 i + j`. -/
theorem idx : ∀ t : Fin cfg0.N,
    win0_0.index t = ![t.val / 11, 0]
    ∧ win0_1.index t = ![t.val / 88, 0, 0]
    ∧ win0_2.index t = ![0, 0]
    ∧ win0_3.index t = ![0, t.val % 11]
    ∧ win0_4.index t = ![t.val / 11, t.val % 11] :=
  (by decide +kernel : ∀ t : Fin grid0.N, _)

theorem t_lt (t : Fin cfg0.N) : t.val < 176 := t.isLt

variable (m : (ℓ : Loc nD τ sig) → Buf (Elt Ideal) ℓ)

theorem iblk0 (c : Dev nD) (t : Fin cfg0.N) (r : Fin 1024) (k : Fin 2048) :
    iblk m c 0 t (ix2 r k) = m ((c : Thread nD τ).loc main_arg0)
      (ix2 ⟨t.val / 11 * 1024 + r.val, by have := t_lt t; omega⟩ k) := by
  blk_ext! [iblk, V, idx t]

theorem iblk1 (c : Dev nD) (t : Fin cfg0.N) (n : Fin 6) (k : Fin 2048) :
    iblk m c 1 t (ix3 0 n k) = m ((c : Thread nD τ).loc main_arg1)
      (ix3 ⟨t.val / 88, by have := t_lt t; omega⟩ n k) := by
  blk_ext! [iblk, V, idx t]

theorem iblk2 (c : Dev nD) (t : Fin cfg0.N) (k : Fin 2048) :
    iblk m c 2 t (ix2 0 k) = m ((c : Thread nD τ).loc main_arg2) (ix1 k) := by
  have h : iblk m c 2 t (ix2 0 k) = V m c main_v0 (ix2 0 k) := by
    blk_ext [iblk, idx t]
  rw [h]
  simp only [V, List.flatten_cons, List.flatten_nil, List.append_nil, List.cons_append, List.nil_append]
  entry_read
  pointwise

theorem iblk3 (c : Dev nD) (t : Fin cfg0.N) (k : Fin 2048) (n : Fin 1024) :
    iblk m c 3 t (ix2 k n) = m ((c : Thread nD τ).loc main_arg3)
      (ix2 k ⟨t.val % 11 * 1024 + n.val, by omega⟩) := by
  blk_ext! [iblk, V, idx t]

theorem carried_A (c : Dev nD) (t : Fin cfg0.N) (h0 : t.val % 11 = 0) :
    (outsAt0 m c t.val t.isLt).2 = k0_pay1 (iblk m c 0 t) (iblk m c 2 t)
      (View.ld (iblk m c 1 t) (Rect.unit (s := S1x6x2048) ![0, 1, 0] S1x1x2048.size inb_S1x6x2048_S1x1x2048_0_1_0))
      (View.ld (iblk m c 1 t) (Rect.unit (s := S1x6x2048) ![0, 0, 0] S1x1x2048.size inb_S1x6x2048_S1x1x2048_0_0_0)) := by
  rw [outsAt0_A m c t h0]
  dsimp only
  unfold sout0_A_0
  frame_out
  rfl

theorem block_A (c : Dev nD) (t : Fin cfg0.N) (h0 : t.val % 11 = 0) :
    (outsAt0 m c t.val t.isLt).1 = k0_pay2 (outsAt0 m c t.val t.isLt).2 (iblk m c 3 t) := by
  rw [carried_A m c t h0, outsAt0_A m c t h0]
  dsimp only
  unfold out0_A_4
  frame_out
  rfl

theorem carried_B (c : Dev nD) (t : Fin cfg0.N) (h0 : ¬t.val % 11 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  frame_out

theorem block_B (c : Dev nD) (t : Fin cfg0.N) (h0 : ¬t.val % 11 = 0) :
    (outsAt0 m c t.val t.isLt).1 = k0_pay2 (outsAt0 m c t.val t.isLt).2 (iblk m c 3 t) := by
  rw [carried_B m c t h0, outsAt0_B m c t h0]
  dsimp only
  unfold out0_B_4
  frame_out
  exact congrArg (fun u => k0_pay2 u (iblk m c 3 t)) (Memref.IsWhole.read_unread _ _)

/-- At every grid point the block of the result is the product of the carried rows and the block of the weight. -/
theorem block_eq (c : Dev nD) (t : Fin cfg0.N) :
    (outsAt0 m c t.val t.isLt).1 = k0_pay2 (outsAt0 m c t.val t.isLt).2 (iblk m c 3 t) := by
  by_cases h0 : t.val % 11 = 0
  · exact block_A m c t h0
  · exact block_B m c t h0

/-- The normalised and modulated input: channel `k` of token `t`. -/
def input (c : Dev nD) (t : Fin 16384) (k : Fin 2048) : EReal :=
  modulated (fun e => m ((c : Thread nD τ).loc main_arg0) (ix2 t e)) (fun e => m ((c : Thread nD τ).loc main_arg2) (ix1 e))
    (fun e => m ((c : Thread nD τ).loc main_arg1) (ix3 ⟨t.val / 8192, by omega⟩ 1 e))
    (fun e => m ((c : Thread nD τ).loc main_arg1) (ix3 ⟨t.val / 8192, by omega⟩ 0 e)) k

/-- Row `1` of a point's six modulation rows. -/
theorem scale_row (x : Vec Ideal S1x6x2048 .f32) (e : Fin 2048) :
    View.ld x (Rect.unit (s := S1x6x2048) ![0, 1, 0] S1x1x2048.size inb_S1x6x2048_S1x1x2048_0_1_0) (ix3 0 0 e)
      = x (ix3 0 1 e) := by
  refine View.ld_unit_apply_of _ _ _ _ _ _ fun d => ?_
  match d with
  | ⟨0, _⟩ => rfl
  | ⟨1, _⟩ => rfl
  | ⟨2, _⟩ => exact (Nat.zero_add _).symm

/-- Row `0` of a point's six modulation rows. -/
theorem shift_row (x : Vec Ideal S1x6x2048 .f32) (e : Fin 2048) :
    View.ld x (Rect.unit (s := S1x6x2048) ![0, 0, 0] S1x1x2048.size inb_S1x6x2048_S1x1x2048_0_0_0) (ix3 0 0 e)
      = x (ix3 0 0 e) := by
  refine View.ld_unit_apply_of _ _ _ _ _ _ fun d => ?_
  match d with
  | ⟨0, _⟩ => rfl
  | ⟨1, _⟩ => rfl
  | ⟨2, _⟩ => exact (Nat.zero_add _).symm

theorem first_apply (c : Dev nD) (t : Fin cfg0.N) (h0 : t.val % 11 = 0) (r : Fin 1024) (k : Fin 2048) :
    ((outsAt0 m c t.val t.isLt).2 (ix2 r k) : EReal)
      = input m c ⟨t.val / 11 * 1024 + r.val, by have := t_lt t; omega⟩ k := by
  have hb : (⟨t.val / 88, by have := t_lt t; omega⟩ : Fin 2)
      = ⟨(t.val / 11 * 1024 + r.val) / 8192, by have := t_lt t; omega⟩ := Fin.ext (by simp only []; omega)
  rw [carried_A m c t h0]
  refine (rows_apply _ _ _ _ r k).trans ?_
  unfold input
  simp only [iblk0, iblk2, ← hb]
  exact congrArg₂ (fun s b => modulated _ _ s b k)
    (funext fun e => (scale_row (iblk m c 1 t) e).trans (iblk1 m c t 1 e))
    (funext fun e => (shift_row (iblk m c 1 t) e).trans (iblk1 m c t 0 e))

/-- The carried rows after grid point `11 i + j` are the normalised rows of row block `i`. -/
theorem carried_apply (c : Dev nD) (i : Nat) : ∀ (j : Nat) (hj : j < 11) (h : 11 * i + j < cfg0.N) (r : Fin 1024) (k : Fin 2048),
    ((outsAt0 m c (11 * i + j) h).2 (ix2 r k) : EReal)
      = input m c ⟨i * 1024 + r.val, by have := t_lt ⟨_, h⟩; simp only [] at this; omega⟩ k := by
  intro j
  induction j with
  | zero =>
    intro hj h r k
    refine (first_apply m c ⟨11 * i + 0, h⟩ (by simp only []; omega) r k).trans ?_
    refine congrArg (fun t => input m c t k) (Fin.ext ?_)
    simp only []
    omega
  | succ j ih =>
    intro hj h r k
    refine (congrFun (carried_B m c ⟨11 * i + (j + 1), h⟩ (by simp only []; omega)) (ix2 r k)).trans ?_
    exact ih (by omega) (by omega) r k

/-- What a grid point leaves in its block of the result. -/
theorem point_apply (c : Dev nD) (t : Fin cfg0.N) (r n : Fin 1024) :
    ((outsAt0 m c t.val t.isLt).1 (ix2 r n) : EReal)
      = ∑ k : Fin 2048, input m c ⟨t.val / 11 * 1024 + r.val, by have := t_lt t; omega⟩ k
          * m ((c : Thread nD τ).loc main_arg3) (ix2 k ⟨t.val % 11 * 1024 + n.val, by omega⟩) := by
  rw [block_eq]
  refine (product_apply _ _ r n).trans (Finset.sum_congr rfl fun k _ => congrArg₂ (· * ·) ?_ (iblk3 m c t k n))
  have ht : 11 * (t.val / 11) + t.val % 11 = t.val := Nat.div_add_mod _ _
  have key : ∀ (n : Nat) (h : n < cfg0.N), n = t.val →
      ((outsAt0 m c n h).2 (ix2 r k) : EReal) = (outsAt0 m c t.val t.isLt).2 (ix2 r k) := by
    intro n h e
    subst e
    rfl
  exact (key _ (lt_of_eq_of_lt ht t.isLt) ht).symm.trans
    (carried_apply m c (t.val / 11) (t.val % 11) (Nat.mod_lt _ (by decide)) _ r k)

/-- The whole result: the normalised input times the weight. -/
def result (c : Dev nD) : S16384x11264.Idx → EReal := fun i =>
  ∑ k : Fin 2048, input m c (i 0) k * m ((c : Thread nD τ).loc main_arg3) (ix2 k (i 1))

theorem array_eq (c : Dev nD) : (dats m 0 c).arrAt 4 cfg0.N = result m c := by
  refine (dats m 0 c).arrAt_eq_of_covers 4 _ (by decide +kernel) fun t hf y => ?_
  blk_simp
  rw [after0_4]
  have hi : (win0_4.blk t).view.emb y = ix2 (n0 := 16384) (n1 := 11264)
      ⟨t.val / 11 * 1024 + (y 0).val, by have := t_lt t; have : (y 0).val < 1024 := (y 0).isLt; omega⟩
      ⟨t.val % 11 * 1024 + (y 1).val, by have : (y 1).val < 1024 := (y 1).isLt; omega⟩ := by
    blk_ext [idx t]
  rw [hi]
  have hy : y = ix2 (y 0) (y 1) := by
    funext a
    match a with
    | 0 => rfl
    | 1 => rfl
  exact (congrArg (outsAt0 m c t.val t.isLt).1 hy).trans (point_apply m c t (y 0) (y 1))

end Cert.Kernel2Ideal.Project

end
-- ==== Proof.Input.lean ====
/- The input projection's reference, entry by entry. -/
module

public import proofs.«01_k».proof.Proof.Gen.Reference2Ideal.Run
public import proofs.«01_k».proof.Proof.Norm
public import Idealize.ShloMosaic.Lib.Tactic.CleanTypes

@[expose] public section

set_option maxRecDepth 16384

noncomputable section

namespace Cert.Reference2Ideal.Input

open Cert.Reference2Ideal Cert.Norm Idealize.ShloMosaic Idealize.ShloMosaic.TcCoe Idealize.SL.Sem

/-- The reference's normalised and modulated rows. -/
def rows (X : FVec Ideal S2x8192x2048 .f32) (M : FVec Ideal S2x6x2048 .f32) (w : FVec Ideal S2048 .f32) :
    FVec Ideal S2x8192x2048 .f32 :=
  addf (mulf (mulf (mulf X (broadcastInDim S2x8192x2048 ![0, 1, 2] Gen.bcast_S2x8192x1_S2x8192x2048_0_1_2
    (Host.rsqrt (addf (Host.divf (broadcastInDim S2x8192x1 ![0, 1] Gen.bcast_S2x8192_S2x8192x1_0_1
      (Host.reduceAdd (mulf X X) (constant S_ .f32 0x00000000#32) Gen.reducesTo_S2x8192x2048_S2x8192_d2 Gen.h_S_))
      (broadcastInDim S2x8192x1 ![] Gen.bcast_S_S2x8192x1 (constant S_ .f32 0x45000000#32)))
      (broadcastInDim S2x8192x1 ![] Gen.bcast_S_S2x8192x1 (constant S_ .f32 0x358637BD#32))))))
    (broadcastInDim S2x8192x2048 ![0, 1, 2] Gen.bcast_S1x1x2048_S2x8192x2048_0_1_2
      (broadcastInDim S1x1x2048 ![2] Gen.bcast_S2048_S1x1x2048_2 w)))
    (broadcastInDim S2x8192x2048 ![0, 1, 2] Gen.bcast_S2x1x2048_S2x8192x2048_0_1_2
      (addf (broadcastInDim S2x1x2048 ![] Gen.bcast_S_S2x1x2048 (constant S_ .f32 0x3F800000#32))
        (extractStridedSlice S2x1x2048 ![0, 1, 0] M Gen.slices_S2x6x2048_S2x1x2048_0_1_0))))
    (broadcastInDim S2x8192x2048 ![0, 1, 2] Gen.bcast_S2x1x2048_S2x8192x2048_0_1_2
      (extractStridedSlice S2x1x2048 ![0, 0, 0] M Gen.slices_S2x6x2048_S2x1x2048_0_0_0))

theorem rows_apply (X : FVec Ideal S2x8192x2048 .f32) (M : FVec Ideal S2x6x2048 .f32) (w : FVec Ideal S2048 .f32)
    (b : Fin 2) (s : Fin 8192) (k : Fin 2048) :
    rows X M w (ix3 b s k)
      = modulated (fun e => X (ix3 b s e)) (fun e => w (ix1 e)) (fun e => M (ix3 b 1 e)) (fun e => M (ix3 b 0 e)) k := by
  pointwise [rows, modulated]

theorem split_rows (X : FVec Ideal S16384x2048 .f32) (b : Fin 2) (s : Fin 8192) (k : Fin 2048)
    (h : S16384x2048.ShapeCasts S2x8192x2048) :
    shapeCast S2x8192x2048 X h (ix3 b s k) = X (ix2 ⟨b.val * 8192 + s.val, by omega⟩ k) := by
  pointwise

theorem dot_rows (U : FVec Ideal S2x8192x2048 .f32) (W : FVec Ideal S2048x11264 .bf16) (t : Fin 16384) (n : Fin 11264)
    (h : S2x8192x11264.ShapeCasts S16384x11264) :
    shapeCast S16384x11264 (Host.dotGeneral (F := Ideal) dot_S2x8192x2048_S2048x11264_S2x8192x11264_2_0_01_1_n_n none U
      (extf .f32 W Gen.bitsLt_bf16_f32)) h (ix2 t n)
      = ∑ k : Fin 2048, U (ix3 ⟨t.val / 8192, by omega⟩ ⟨t.val % 8192, by omega⟩ k) * W (ix2 k n) := by
  pointwise

/-- The reference's result, entry by entry: the normalised input times the weight. -/
theorem out_apply (X : FVec Ideal S16384x2048 .f32) (M : FVec Ideal S2x6x2048 .f32) (w : FVec Ideal S2048 .f32)
    (W : FVec Ideal S2048x11264 .bf16) (t : Fin 16384) (n : Fin 11264)
    (h0 : S16384x2048.ShapeCasts S2x8192x2048) (h : S2x8192x11264.ShapeCasts S16384x11264) :
    shapeCast S16384x11264 (Host.dotGeneral (F := Ideal) dot_S2x8192x2048_S2048x11264_S2x8192x11264_2_0_01_1_n_n none
      (rows (shapeCast S2x8192x2048 X h0) M w) (extf .f32 W Gen.bitsLt_bf16_f32)) h (ix2 t n)
      = ∑ k : Fin 2048, modulated (fun e => X (ix2 t e)) (fun e => w (ix1 e)) (fun e => M (ix3 ⟨t.val / 8192, by omega⟩ 1 e))
          (fun e => M (ix3 ⟨t.val / 8192, by omega⟩ 0 e)) k * W (ix2 k n) := by
  refine (dot_rows _ W t n h).trans (Finset.sum_congr rfl fun k _ => congrArg (· * (W (ix2 k n) : EReal)) ?_)
  refine (rows_apply _ M w _ _ k).trans ?_
  have ht : (⟨t.val / 8192 * 8192 + t.val % 8192, by omega⟩ : Fin 16384) = t := Fin.ext (by simp only []; omega)
  exact congrArg (fun x => modulated x _ _ _ k) (funext fun e => (split_rows X _ _ e h0).trans
    (congrArg (fun t => X (ix2 t e)) ht))

end Cert.Reference2Ideal.Input

end
-- ==== Proof.Projection.lean ====
/- The input projection's claims: its frames, and that kernel and reference give the same result. -/
module

public import proofs.«01_k».proof.Defs
public import proofs.«01_k».proof.Proof.Gen.Kernel2.Frame
public import proofs.«01_k».proof.Proof.Project
public import proofs.«01_k».proof.Proof.Input
public import Idealize.ShloMosaic.Lib.Claim

@[expose] public section

set_option maxRecDepth 16384

noncomputable section

namespace Cert.Kernel2Ideal.Projection

open Idealize.ShloMosaic Idealize.ShloMosaic.TcCoe Idealize.SL.Sem
open Cert.Kernel2Ideal.Project

theorem kernel_frame : Cert.quiescent_Kernel2 := fun m ρ _ => Cert.Kernel2.Gen.frame m ρ

theorem ideal_frame : Cert.quiescent_Kernel2Ideal := fun m ρ _ => Cert.Kernel2Ideal.Gen.frame m ρ

theorem reference_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem preserves : Cert.preserves_Kernel2_Kernel2Ideal := trivial

/-- From equal arguments the reference's result is the kernel's. -/
theorem same (m : (ℓ : Loc Cert.Kernel2Ideal.nD Cert.Kernel2Ideal.τ Cert.Kernel2Ideal.sig) → Buf (Elt Ideal) ℓ)
    (c : Dev Cert.Kernel2Ideal.nD) (X : FVec Ideal Cert.Reference2Ideal.S16384x2048 .f32)
    (M : FVec Ideal Cert.Reference2Ideal.S2x6x2048 .f32) (w : FVec Ideal Cert.Reference2Ideal.S2048 .f32)
    (W : FVec Ideal Cert.Reference2Ideal.S2048x11264 .bf16)
    (hX : X = m ((c.tc : Thread Cert.Kernel2Ideal.nD Cert.Kernel2Ideal.τ).loc Cert.Kernel2Ideal.main_arg0))
    (hM : M = m ((c.tc : Thread Cert.Kernel2Ideal.nD Cert.Kernel2Ideal.τ).loc Cert.Kernel2Ideal.main_arg1))
    (hw : w = m ((c.tc : Thread Cert.Kernel2Ideal.nD Cert.Kernel2Ideal.τ).loc Cert.Kernel2Ideal.main_arg2))
    (hW : W = m ((c.tc : Thread Cert.Kernel2Ideal.nD Cert.Kernel2Ideal.τ).loc Cert.Kernel2Ideal.main_arg3))
    (h0 : Cert.Reference2Ideal.S16384x2048.ShapeCasts Cert.Reference2Ideal.S2x8192x2048)
    (h : Cert.Reference2Ideal.S2x8192x11264.ShapeCasts Cert.Reference2Ideal.S16384x11264) :
    shapeCast Cert.Reference2Ideal.S16384x11264 (Host.dotGeneral (F := Ideal)
      Cert.Reference2Ideal.dot_S2x8192x2048_S2048x11264_S2x8192x11264_2_0_01_1_n_n none
      (Cert.Reference2Ideal.Input.rows (shapeCast Cert.Reference2Ideal.S2x8192x2048 X h0) M w)
      (extf .f32 W Cert.Reference2Ideal.Gen.bitsLt_bf16_f32)) h = result m c := by
  subst hX hM hw hW
  funext j
  obtain ⟨t, n, rfl⟩ : ∃ (t : Fin 16384) (n : Fin 11264), j = ix2 t n := ⟨j 0, j 1, by
    funext a
    match a with
    | ⟨0, _⟩ => rfl
    | ⟨1, _⟩ => rfl⟩
  exact Cert.Reference2Ideal.Input.out_apply _ _ _ _ t n h0 h

theorem algebraic : Cert.algebraic_Kernel2Ideal_Reference2Ideal := by
  intro m g m' g' hpre hagree
  refine ⟨fun c => result m c, ?_, ?_⟩
  · refine (θ_run Cert.Kernel2Ideal.defs _ _).mono (fun r h c => ?_) (Cert.Kernel2Ideal.Value.run_blocks (F := Ideal) m g)
    exact ⟨(h c).1.trans (array_eq m c), (h c).2⟩
  · refine (θ_run Cert.Reference2Ideal.defs _ _).mono (fun r h c => ?_) (Cert.Reference2Ideal.Value.run m' g')
    exact ⟨(h c).1.trans (same m c _ _ _ _ (hagree c).1 (hagree c).2.1 (hagree c).2.2.1 (hagree c).2.2.2 _ _), (h c).2⟩

end Cert.Kernel2Ideal.Projection

end
-- ==== Proof.Output.lean ====
/- The output projection's kernel: what a grid point leaves in its blocks of the two results. -/
module

public import proofs.«01_k».proof.Proof.Gen.Kernel3Ideal.Value
public import proofs.«01_k».proof.Proof.Norm
public import Idealize.ShloMosaic.Lib.Pipeline.ValueKit

@[expose] public section

set_option maxRecDepth 16384

noncomputable section

namespace Cert.Kernel3Ideal.Output

open Cert.Kernel3Ideal Cert.Kernel3Ideal.Gen Cert.Norm Idealize.ShloMosaic Idealize.ShloMosaic.TcCoe Idealize.SL.Sem

/-- A block of rows normalised, scaled and shifted. -/
def normRows (x : FVec Ideal S256x2048 .f32) (w : Vec Ideal S1x2048 .f32) (s b : Vec Ideal S1x1x2048 .f32) :
    FVec Ideal S256x2048 .bf16 :=
  truncf .bf16 (addf (mulf (mulf (mulf x (broadcastTo S256x2048 (rsqrt (addf (divf (shapeCast S256x1
    (multiReduction .add [1] S256 (mulf x x) 0x00000000#32 reduces_S256x2048_S256 (.inl rfl) rfl) shapeCasts_S256_S256x1)
    (broadcast S256x1 (Scalar.ofBits .f32 0x45000000#32))) (broadcast S256x1 (Scalar.ofBits .f32 0x358637BD#32))))
    broadcasts_S256x1_S256x2048))
    (broadcastTo S256x2048 (shapeCast S1x2048 w shapeCasts_S1x2048_S1x2048) broadcasts_S1x2048_S256x2048))
    (broadcastTo S256x2048 (addf (broadcast S1x2048 (Scalar.ofBits .f32 0x3F800000#32))
      (shapeCast S1x2048 s shapeCasts_S1x1x2048_S1x2048)) broadcasts_S1x2048_S256x2048))
    (broadcastTo S256x2048 (shapeCast S1x2048 b shapeCasts_S1x1x2048_S1x2048) broadcasts_S1x2048_S256x2048))
    bitsLt_bf16_f32

theorem normRows_eq (x : Vec Ideal S256x2048 .f32) (g : Vec Ideal S1x1x2048 .f32) (z : Vec Ideal S256x2048 .f32)
    (W : Vec Ideal S2048x2048 .bf16) (w : Vec Ideal S1x2048 .f32) (s b : Vec Ideal S1x1x2048 .f32) :
    k0_pay1 (k0_pay3 x g z W w s) (k0_pay4 b) = normRows (k0_pay2 x g z W) w s b := rfl

theorem normRows_apply (x : FVec Ideal S256x2048 .f32) (w : Vec Ideal S1x2048 .f32) (s b : Vec Ideal S1x1x2048 .f32)
    (r : Fin 256) (k : Fin 2048) :
    normRows x w s b (ix2 r k)
      = modulated (fun e => x (ix2 r e)) (fun e => w (ix2 0 e)) (fun e => s (ix3 0 0 e)) (fun e => b (ix3 0 0 e)) k := by
  pointwise [normRows, modulated]

theorem residual_apply (x : Vec Ideal S256x2048 .f32) (g : Vec Ideal S1x1x2048 .f32) (z : Vec Ideal S256x2048 .f32)
    (W : Vec Ideal S2048x2048 .bf16) (r : Fin 256) (n : Fin 2048) :
    k0_pay2 x g z W (ix2 r n)
      = (x (ix2 r n) + g (ix3 0 0 n) * ∑ k : Fin 2048, (z (ix2 r k) * W (ix2 k n) : EReal) : EReal) := by
  pointwise [k0_pay2]

/-- Every window's block index at every grid point. -/
theorem idx : ∀ t : Fin cfg0.N,
    win0_0.index t = ![t.val, 0]
    ∧ win0_1.index t = ![t.val, 0]
    ∧ win0_2.index t = ![t.val / 32, 0, 0]
    ∧ win0_3.index t = ![0, 0]
    ∧ win0_4.index t = ![0, 0]
    ∧ win0_5.index t = ![t.val, 0]
    ∧ win0_6.index t = ![t.val, 0] :=
  (by decide +kernel : ∀ t : Fin grid0.N, _)

theorem t_lt (t : Fin cfg0.N) : t.val < 64 := t.isLt

variable (m : (ℓ : Loc nD τ sig) → Buf (Elt Ideal) ℓ)

theorem iblk0 (c : Dev nD) (t : Fin cfg0.N) (r : Fin 256) (k : Fin 2048) :
    iblk m c 0 t (ix2 r k) = m ((c : Thread nD τ).loc main_arg0)
      (ix2 ⟨t.val * 256 + r.val, by have := t_lt t; omega⟩ k) := by
  blk_ext! [iblk, V, idx t]

theorem iblk1 (c : Dev nD) (t : Fin cfg0.N) (r : Fin 256) (k : Fin 2048) :
    iblk m c 1 t (ix2 r k) = m ((c : Thread nD τ).loc main_arg1)
      (ix2 ⟨t.val * 256 + r.val, by have := t_lt t; omega⟩ k) := by
  blk_ext! [iblk, V, idx t]

theorem iblk2 (c : Dev nD) (t : Fin cfg0.N) (n : Fin 6) (k : Fin 2048) :
    iblk m c 2 t (ix3 0 n k) = m ((c : Thread nD τ).loc main_arg2)
      (ix3 ⟨t.val / 32, by have := t_lt t; omega⟩ n k) := by
  blk_ext! [iblk, V, idx t]

theorem iblk3 (c : Dev nD) (t : Fin cfg0.N) (k : Fin 2048) :
    iblk m c 3 t (ix2 0 k) = m ((c : Thread nD τ).loc main_arg3) (ix1 k) := by
  have h : iblk m c 3 t (ix2 0 k) = V m c main_v0 (ix2 0 k) := by
    blk_ext [iblk, idx t]
  rw [h]
  simp only [V, List.flatten_cons, List.flatten_nil, List.append_nil, List.cons_append, List.nil_append]
  entry_read
  pointwise

theorem iblk4 (c : Dev nD) (t : Fin cfg0.N) (k n : Fin 2048) :
    iblk m c 4 t (ix2 k n) = m ((c : Thread nD τ).loc main_arg4) (ix2 k n) := by
  blk_ext! [iblk, V, idx t]

/-- One of a point's six modulation rows. -/
theorem mod_row (x : Vec Ideal S1x6x2048 .f32) (n : Fin 6) (e : Fin 2048)
    (h : ∀ d, (![0, n.val, 0] : Fin 3 → Nat) d + S1x1x2048.size d ≤ S1x6x2048.size d) :
    View.ld x (Rect.unit (s := S1x6x2048) ![0, n.val, 0] S1x1x2048.size h) (ix3 0 0 e) = x (ix3 0 n e) := by
  refine View.ld_unit_apply_of _ _ _ _ _ _ fun d => ?_
  match d with
  | ⟨0, _⟩ => rfl
  | ⟨1, _⟩ => rfl
  | ⟨2, _⟩ => exact (Nat.zero_add _).symm

theorem out5_eq (x0 x1 : Vec Ideal S256x2048 .f32) (x2 : Vec Ideal S1x6x2048 .f32) (x3 : Vec Ideal S1x2048 .f32)
    (x4 : Vec Ideal S2048x2048 .bf16) :
    out0_5 x0 x1 x2 x3 x4 = k0_pay2 x1 (View.ld x2 r0_1) x0 x4 := by
  unfold out0_5
  frame_out
  try rfl

theorem out6_eq (x0 x1 : Vec Ideal S256x2048 .f32) (x2 : Vec Ideal S1x6x2048 .f32) (x3 : Vec Ideal S1x2048 .f32)
    (x4 : Vec Ideal S2048x2048 .bf16) :
    out0_6 x0 x1 x2 x3 x4
      = normRows (k0_pay2 x1 (View.ld x2 r0_1) x0 x4) x3 (View.ld x2 r0_4) (View.ld x2 r0_5) := by
  unfold out0_6
  frame_out
  exact normRows_eq _ _ _ _ _ _ _

/-- Token `t`'s channel `n` after the residual sum, from the arrays. -/
def residualOf (Z X : S16384x2048.Idx → EReal) (M : S2x6x2048.Idx → EReal) (W : S2048x2048.Idx → EReal) (t : Fin 16384)
    (n : Fin 2048) : EReal :=
  X (ix2 t n) + M (ix3 ⟨t.val / 8192, by omega⟩ 2 n) * ∑ k : Fin 2048, Z (ix2 t k) * W (ix2 k n)

/-- The first result: token `t`'s channel `n` after the residual sum. -/
def residual (c : Dev nD) (t : Fin 16384) (n : Fin 2048) : EReal :=
  residualOf (m ((c : Thread nD τ).loc main_arg0)) (m ((c : Thread nD τ).loc main_arg1))
    (m ((c : Thread nD τ).loc main_arg2)) (m ((c : Thread nD τ).loc main_arg4)) t n

/-- The second result: the first one normalised and modulated. -/
def normedOut (c : Dev nD) (t : Fin 16384) (k : Fin 2048) : EReal :=
  modulated (residual m c t) (fun e => m ((c : Thread nD τ).loc main_arg3) (ix1 e))
    (fun e => m ((c : Thread nD τ).loc main_arg2) (ix3 ⟨t.val / 8192, by omega⟩ 4 e))
    (fun e => m ((c : Thread nD τ).loc main_arg2) (ix3 ⟨t.val / 8192, by omega⟩ 3 e)) k

/-- Row `r` of the block of grid point `t`. -/
def tokenOf (t : Fin cfg0.N) (r : Fin 256) : Fin 16384 := ⟨t.val * 256 + r.val, by have := t_lt t; omega⟩

theorem mod_apply (c : Dev nD) (t : Fin cfg0.N) (r : Fin 256) (n : Fin 6) (e : Fin 2048)
    (h : ∀ d, (![0, n.val, 0] : Fin 3 → Nat) d + S1x1x2048.size d ≤ S1x6x2048.size d) :
    View.ld (iblk m c 2 t) (Rect.unit (s := S1x6x2048) ![0, n.val, 0] S1x1x2048.size h) (ix3 0 0 e)
      = m ((c : Thread nD τ).loc main_arg2) (ix3 ⟨(tokenOf t r).val / 8192, by omega⟩ n e) := by
  refine (mod_row (iblk m c 2 t) n e h).trans ((iblk2 m c t n e).trans ?_)
  refine congrArg (fun b => m ((c : Thread nD τ).loc main_arg2) (ix3 b n e)) (Fin.ext ?_)
  simp only [tokenOf]
  omega

theorem first_apply (c : Dev nD) (t : Fin cfg0.N) (r : Fin 256) (n : Fin 2048) :
    (k0_pay2 (iblk m c 1 t) (View.ld (iblk m c 2 t) r0_1) (iblk m c 0 t) (iblk m c 4 t) (ix2 r n) : EReal)
      = residual m c (tokenOf t r) n := by
  refine (residual_apply _ _ _ _ r n).trans ?_
  unfold residual residualOf
  refine congrArg₂ (· + ·) (iblk1 m c t r n) (congrArg₂ (· * ·) (mod_apply m c t r 2 n _)
    (Finset.sum_congr rfl fun k _ => congrArg₂ (· * ·) (iblk0 m c t r k) (iblk4 m c t k n)))

theorem second_apply (c : Dev nD) (t : Fin cfg0.N) (r : Fin 256) (k : Fin 2048) :
    (normRows (k0_pay2 (iblk m c 1 t) (View.ld (iblk m c 2 t) r0_1) (iblk m c 0 t) (iblk m c 4 t)) (iblk m c 3 t)
      (View.ld (iblk m c 2 t) r0_4) (View.ld (iblk m c 2 t) r0_5) (ix2 r k) : EReal)
      = normedOut m c (tokenOf t r) k := by
  refine (normRows_apply _ _ _ _ r k).trans ?_
  unfold normedOut
  have e1 := funext fun e => first_apply m c t r e
  have e2 := funext fun e => iblk3 m c t e
  have e3 := funext fun e => mod_apply m c t r 4 e inb_S1x6x2048_S1x1x2048_0_4_0
  have e4 := funext fun e => mod_apply m c t r 3 e inb_S1x6x2048_S1x1x2048_0_3_0
  exact (congrArg (fun x => modulated x _ _ _ k) e1).trans ((congrArg (fun x => modulated _ x _ _ k) e2).trans
    ((congrArg (fun x => modulated _ _ x _ k) e3).trans (congrArg (fun x => modulated _ _ _ x k) e4)))

/-- The whole first result. -/
def result5 (c : Dev nD) : S16384x2048.Idx → EReal := fun i => residual m c (i 0) (i 1)

/-- The whole second result. -/
def result6 (c : Dev nD) : S16384x2048.Idx → EReal := fun i => normedOut m c (i 0) (i 1)

theorem array5_eq (c : Dev nD) : (dats m 0 c).arrAt 5 cfg0.N = result5 m c := by
  refine (dats m 0 c).arrAt_eq_of_covers 5 _ (by decide +kernel) fun t hf y => ?_
  blk_simp
  rw [after0_5]
  have hi : (win0_5.blk t).view.emb y = ix2 (n0 := 16384) (n1 := 2048)
      ⟨t.val * 256 + (y 0).val, by have := t_lt t; have : (y 0).val < 256 := (y 0).isLt; omega⟩ (y 1) := by
    blk_ext [idx t]
  rw [hi, out5_eq]
  have hy : y = ix2 (y 0) (y 1) := by
    funext a
    match a with
    | 0 => rfl
    | 1 => rfl
  exact (congrArg (k0_pay2 (iblk m c 1 t) (View.ld (iblk m c 2 t) r0_1) (iblk m c 0 t) (iblk m c 4 t)) hy).trans
    (first_apply m c t (y 0) (y 1))

theorem array6_eq (c : Dev nD) : (dats m 0 c).arrAt 6 cfg0.N = result6 m c := by
  refine (dats m 0 c).arrAt_eq_of_covers 6 _ (by decide +kernel) fun t hf y => ?_
  blk_simp
  rw [after0_6]
  have hi : (win0_6.blk t).view.emb y = ix2 (n0 := 16384) (n1 := 2048)
      ⟨t.val * 256 + (y 0).val, by have := t_lt t; have : (y 0).val < 256 := (y 0).isLt; omega⟩ (y 1) := by
    blk_ext [idx t]
  rw [hi, out6_eq]
  have hy : y = ix2 (y 0) (y 1) := by
    funext a
    match a with
    | 0 => rfl
    | 1 => rfl
  exact (congrArg (normRows (k0_pay2 (iblk m c 1 t) (View.ld (iblk m c 2 t) r0_1) (iblk m c 0 t) (iblk m c 4 t))
    (iblk m c 3 t) (View.ld (iblk m c 2 t) r0_4) (View.ld (iblk m c 2 t) r0_5)) hy).trans
    (second_apply m c t (y 0) (y 1))

end Cert.Kernel3Ideal.Output

end
-- ==== Proof.Residual.lean ====
/- The output projection's reference, entry by entry. -/
module

public import proofs.«01_k».proof.Proof.Gen.Reference3Ideal.Run
public import proofs.«01_k».proof.Proof.Norm
public import Idealize.ShloMosaic.Lib.Tactic.CleanTypes

@[expose] public section

set_option maxRecDepth 16384

noncomputable section

namespace Cert.Reference3Ideal.Residual

open Cert.Reference3Ideal Cert.Norm Idealize.ShloMosaic Idealize.ShloMosaic.TcCoe Idealize.SL.Sem

/-- The reference's normalised and modulated rows. -/
def rows (X : FVec Ideal S2x8192x2048 .f32) (M : FVec Ideal S2x6x2048 .f32) (w : FVec Ideal S2048 .f32) :
    FVec Ideal S2x8192x2048 .f32 :=
  addf (mulf (mulf (mulf X (broadcastInDim S2x8192x2048 ![0, 1, 2] Gen.bcast_S2x8192x1_S2x8192x2048_0_1_2
    (Host.rsqrt (addf (Host.divf (broadcastInDim S2x8192x1 ![0, 1] Gen.bcast_S2x8192_S2x8192x1_0_1
      (Host.reduceAdd (mulf X X) (constant S_ .f32 0x00000000#32) Gen.reducesTo_S2x8192x2048_S2x8192_d2 Gen.h_S_))
      (broadcastInDim S2x8192x1 ![] Gen.bcast_S_S2x8192x1 (constant S_ .f32 0x45000000#32)))
      (broadcastInDim S2x8192x1 ![] Gen.bcast_S_S2x8192x1 (constant S_ .f32 0x358637BD#32))))))
    (broadcastInDim S2x8192x2048 ![0, 1, 2] Gen.bcast_S1x1x2048_S2x8192x2048_0_1_2
      (broadcastInDim S1x1x2048 ![2] Gen.bcast_S2048_S1x1x2048_2 w)))
    (broadcastInDim S2x8192x2048 ![0, 1, 2] Gen.bcast_S2x1x2048_S2x8192x2048_0_1_2
      (addf (broadcastInDim S2x1x2048 ![] Gen.bcast_S_S2x1x2048 (constant S_ .f32 0x3F800000#32))
        (extractStridedSlice S2x1x2048 ![0, 4, 0] M Gen.slices_S2x6x2048_S2x1x2048_0_4_0))))
    (broadcastInDim S2x8192x2048 ![0, 1, 2] Gen.bcast_S2x1x2048_S2x8192x2048_0_1_2
      (extractStridedSlice S2x1x2048 ![0, 3, 0] M Gen.slices_S2x6x2048_S2x1x2048_0_3_0))

theorem rows_apply (X : FVec Ideal S2x8192x2048 .f32) (M : FVec Ideal S2x6x2048 .f32) (w : FVec Ideal S2048 .f32)
    (b : Fin 2) (s : Fin 8192) (k : Fin 2048) :
    rows X M w (ix3 b s k)
      = modulated (fun e => X (ix3 b s e)) (fun e => w (ix1 e)) (fun e => M (ix3 b 4 e)) (fun e => M (ix3 b 3 e)) k := by
  pointwise [rows, modulated]

theorem split_rows (X : FVec Ideal S16384x2048 .f32) (b : Fin 2) (s : Fin 8192) (k : Fin 2048)
    (h : S16384x2048.ShapeCasts S2x8192x2048) :
    shapeCast S2x8192x2048 X h (ix3 b s k) = X (ix2 ⟨b.val * 8192 + s.val, by omega⟩ k) := by
  pointwise

/-- The reference's residual sum. -/
def sums (Z X : FVec Ideal S2x8192x2048 .f32) (M : FVec Ideal S2x6x2048 .f32) (W : FVec Ideal S2048x2048 .bf16) :
    FVec Ideal S2x8192x2048 .f32 :=
  addf X (mulf (broadcastInDim S2x8192x2048 ![0, 1, 2] Gen.bcast_S2x1x2048_S2x8192x2048_0_1_2
      (extractStridedSlice S2x1x2048 ![0, 2, 0] M Gen.slices_S2x6x2048_S2x1x2048_0_2_0))
    (Host.dotGeneral dot_S2x8192x2048_S2048x2048_S2x8192x2048_2_0_01_1_n_n none Z (extf .f32 W Gen.bitsLt_bf16_f32)))

theorem sums_apply (Z X : FVec Ideal S2x8192x2048 .f32) (M : FVec Ideal S2x6x2048 .f32) (W : FVec Ideal S2048x2048 .bf16)
    (b : Fin 2) (s : Fin 8192) (n : Fin 2048) :
    sums Z X M W (ix3 b s n)
      = (X (ix3 b s n) + M (ix3 b 2 n) * ∑ k : Fin 2048, (Z (ix3 b s k) * W (ix2 k n) : EReal) : EReal) := by
  pointwise [sums]

theorem join_rows {φ : FTy} (X : FVec Ideal S2x8192x2048 φ) (t : Fin 16384) (n : Fin 2048)
    (h : S2x8192x2048.ShapeCasts S16384x2048) :
    shapeCast S16384x2048 X h (ix2 t n) = X (ix3 ⟨t.val / 8192, by omega⟩ ⟨t.val % 8192, by omega⟩ n) := by
  pointwise

theorem token_eq (t : Fin 16384) : (⟨t.val / 8192 * 8192 + t.val % 8192, by omega⟩ : Fin 16384) = t :=
  Fin.ext (by simp only []; omega)

/-- The residual sum at a token. -/
theorem sums_token (Z X : FVec Ideal S16384x2048 .f32) (M : FVec Ideal S2x6x2048 .f32) (W : FVec Ideal S2048x2048 .bf16)
    (t : Fin 16384) (n : Fin 2048) (h0 h1 : S16384x2048.ShapeCasts S2x8192x2048) :
    sums (shapeCast S2x8192x2048 Z h0) (shapeCast S2x8192x2048 X h1) M W
        (ix3 ⟨t.val / 8192, by omega⟩ ⟨t.val % 8192, by omega⟩ n)
      = (X (ix2 t n) + M (ix3 ⟨t.val / 8192, by omega⟩ 2 n) * ∑ k : Fin 2048, (Z (ix2 t k) * W (ix2 k n) : EReal) : EReal) := by
  have row : ∀ (Y : FVec Ideal S16384x2048 .f32) (h : S16384x2048.ShapeCasts S2x8192x2048) (k : Fin 2048),
      shapeCast S2x8192x2048 Y h (ix3 ⟨t.val / 8192, by omega⟩ ⟨t.val % 8192, by omega⟩ k) = Y (ix2 t k) :=
    fun Y h k => (split_rows Y _ _ k h).trans (congrArg (fun t => Y (ix2 t k)) (token_eq t))
  refine (sums_apply _ _ M W _ _ n).trans (congrArg₂ (· + ·) (row X h1 n) (congrArg (_ * ·) ?_))
  exact Finset.sum_congr rfl fun k _ => congrArg (· * (W (ix2 k n) : EReal)) (row Z h0 k)

end Cert.Reference3Ideal.Residual

end
-- ==== Proof.OutputProjection.lean ====
/- The output projection's claims: its frames, and that kernel and reference give the same results. -/
module

public import proofs.«01_k».proof.Defs
public import proofs.«01_k».proof.Proof.Gen.Kernel3.Frame
public import proofs.«01_k».proof.Proof.Output
public import proofs.«01_k».proof.Proof.Residual
public import Idealize.ShloMosaic.Lib.Claim

@[expose] public section

set_option maxRecDepth 16384

noncomputable section

namespace Cert.Kernel3Ideal.OutputProjection

open Idealize.ShloMosaic Idealize.ShloMosaic.TcCoe Idealize.SL.Sem
open Cert.Kernel3Ideal.Output Cert.Norm
open Cert.Reference3Ideal (S16384x2048 S2x8192x2048 S2x6x2048 S2048 S2048x2048)

theorem kernel_frame : Cert.quiescent_Kernel3 := fun m ρ _ => Cert.Kernel3.Gen.frame m ρ

theorem ideal_frame : Cert.quiescent_Kernel3Ideal := fun m ρ _ => Cert.Kernel3Ideal.Gen.frame m ρ

theorem reference_frame : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

theorem preserves : Cert.preserves_Kernel3_Kernel3Ideal := trivial

variable (m : (ℓ : Loc Cert.Kernel3Ideal.nD Cert.Kernel3Ideal.τ Cert.Kernel3Ideal.sig) → Buf (Elt Ideal) ℓ)
  (c : Dev Cert.Kernel3Ideal.nD) (Z X : FVec Ideal S16384x2048 .f32) (M : FVec Ideal S2x6x2048 .f32)
  (w : FVec Ideal S2048 .f32) (W : FVec Ideal S2048x2048 .bf16)

/-- An index of a result as a token and a channel. -/
theorem index_eq (j : S16384x2048.Idx) : ∃ (t : Fin 16384) (n : Fin 2048), j = ix2 t n := ⟨j 0, j 1, by
  funext a
  match a with
  | ⟨0, _⟩ => rfl
  | ⟨1, _⟩ => rfl⟩

/-- From equal arguments the reference's first result is the kernel's. -/
theorem same_first (hZ : Z = m ((c.tc : Thread Cert.Kernel3Ideal.nD Cert.Kernel3Ideal.τ).loc Cert.Kernel3Ideal.main_arg0))
    (hX : X = m ((c.tc : Thread Cert.Kernel3Ideal.nD Cert.Kernel3Ideal.τ).loc Cert.Kernel3Ideal.main_arg1))
    (hM : M = m ((c.tc : Thread Cert.Kernel3Ideal.nD Cert.Kernel3Ideal.τ).loc Cert.Kernel3Ideal.main_arg2))
    (hW : W = m ((c.tc : Thread Cert.Kernel3Ideal.nD Cert.Kernel3Ideal.τ).loc Cert.Kernel3Ideal.main_arg4))
    (h0 h1 : S16384x2048.ShapeCasts S2x8192x2048) (h : S2x8192x2048.ShapeCasts S16384x2048) :
    shapeCast S16384x2048 (Cert.Reference3Ideal.Residual.sums (shapeCast S2x8192x2048 Z h0) (shapeCast S2x8192x2048 X h1) M W) h
      = result5 m c := by
  subst hZ hX hM hW
  funext j
  obtain ⟨t, n, rfl⟩ := index_eq j
  exact (Cert.Reference3Ideal.Residual.join_rows _ t n h).trans (Cert.Reference3Ideal.Residual.sums_token _ _ _ _ t n h0 h1)

/-- From equal arguments the reference's second result is the kernel's. -/
theorem same_second (hZ : Z = m ((c.tc : Thread Cert.Kernel3Ideal.nD Cert.Kernel3Ideal.τ).loc Cert.Kernel3Ideal.main_arg0))
    (hX : X = m ((c.tc : Thread Cert.Kernel3Ideal.nD Cert.Kernel3Ideal.τ).loc Cert.Kernel3Ideal.main_arg1))
    (hM : M = m ((c.tc : Thread Cert.Kernel3Ideal.nD Cert.Kernel3Ideal.τ).loc Cert.Kernel3Ideal.main_arg2))
    (hw : w = m ((c.tc : Thread Cert.Kernel3Ideal.nD Cert.Kernel3Ideal.τ).loc Cert.Kernel3Ideal.main_arg3))
    (hW : W = m ((c.tc : Thread Cert.Kernel3Ideal.nD Cert.Kernel3Ideal.τ).loc Cert.Kernel3Ideal.main_arg4))
    (h0 h1 : S16384x2048.ShapeCasts S2x8192x2048) (h : S2x8192x2048.ShapeCasts S16384x2048) :
    truncf .bf16 (shapeCast S16384x2048 (Cert.Reference3Ideal.Residual.rows
      (Cert.Reference3Ideal.Residual.sums (shapeCast S2x8192x2048 Z h0) (shapeCast S2x8192x2048 X h1) M W) M w) h)
        Cert.Reference3Ideal.Gen.bitsLt_bf16_f32
      = result6 m c := by
  subst hZ hX hM hw hW
  funext j
  obtain ⟨t, n, rfl⟩ := index_eq j
  refine (Cert.Reference3Ideal.Residual.join_rows _ t n h).trans
    ((Cert.Reference3Ideal.Residual.rows_apply _ _ _ _ _ n).trans ?_)
  exact congrArg (fun x => modulated x _ _ _ n)
    (funext fun e => Cert.Reference3Ideal.Residual.sums_token _ _ _ _ t e h0 h1)

theorem algebraic : Cert.algebraic_Kernel3Ideal_Reference3Ideal := by
  intro m g m' g' hpre hagree
  refine ⟨fun c => result5 m c, fun c => result6 m c, ?_, ?_⟩
  · refine (θ_run Cert.Kernel3Ideal.defs _ _).mono (fun r h c => ?_) (Cert.Kernel3Ideal.Value.run_blocks (F := Ideal) m g)
    exact ⟨(h c).1.trans (array5_eq m c), (h c).2.1.trans (array6_eq m c), (h c).2.2⟩
  · refine (θ_run Cert.Reference3Ideal.defs _ _).mono (fun r h c => ?_) (Cert.Reference3Ideal.Value.run m' g')
    exact ⟨(h c).1.trans (same_first m c _ _ _ _ (hagree c).1 (hagree c).2.1 (hagree c).2.2.1 (hagree c).2.2.2.2 _ _ _),
      (h c).2.1.trans (same_second m c _ _ _ _ _ (hagree c).1 (hagree c).2.1 (hagree c).2.2.1 (hagree c).2.2.2.1
        (hagree c).2.2.2.2 _ _ _), (h c).2.2⟩

end Cert.Kernel3Ideal.OutputProjection

end
-- ==== Proof.Heads.lean ====
/- The merge kernel's sums over a head: the product with the matrix that is one where two channels share a head. -/
module

public import proofs.«01_k».proof.Proof.Gen.Kernel4Ideal.Value
public import proofs.«01_k».proof.Proof.Math
public import Idealize.ShloMosaic.Lib.Pipeline.ValueKit

@[expose] public section

set_option maxRecDepth 16384

noncomputable section

namespace Cert.Kernel4Ideal.Heads

open Cert.Kernel4Ideal Cert.Kernel4Ideal.Gen Cert.KernelIdeal.Math Idealize.ShloMosaic Idealize.ShloMosaic.TcCoe Idealize.SL.Sem

/-- The sum over the 64 channels of channel `n`'s head. -/
def headSum (x : Fin 1024 → EReal) (n : Fin 1024) : EReal := ∑ e : Fin 64, x ⟨n.val / 64 * 64 + e.val, by omega⟩

theorem headSum_real (x : Fin 1024 → EReal) (h : ∀ n, IsReal (x n)) (n : Fin 1024) : IsReal (headSum x n) :=
  IsReal.sum _ fun _ => h _

theorem sub_self_real {x : EReal} (h : IsReal x) : x - x = 0 := by
  obtain ⟨r, rfl⟩ := h
  rw [← EReal.coe_sub, sub_self, EReal.coe_zero]

/-- The matrix that is one where two channels of a group of 128 share a head, and zero elsewhere. -/
def IsHeads (hs : S128x128.Idx → EReal) : Prop :=
  ∀ e c : Fin 128, hs (ix2 e c) = if e.val / 64 = c.val / 64 then 1 else 0

theorem sum_heads (f : Fin 128 → EReal) (c : Fin 128) :
    (∑ e : Fin 128, f e * (if e.val / 64 = c.val / 64 then (1 : EReal) else 0))
      = ∑ e : Fin 64, f ⟨c.val / 64 * 64 + e.val, by omega⟩ := by
  rw [Fin.sum_univ_two_halves 64 64 rfl]
  have h : c.val / 64 = 0 ∨ c.val / 64 = 1 := by omega
  rcases h with h | h
  · simp [h, Nat.div_eq_of_lt, show ∀ e : Fin 64, (64 + e.val) / 64 = 1 from fun e => by omega]
  · simp [h, Nat.div_eq_of_lt, show ∀ e : Fin 64, (64 + e.val) / 64 = 1 from fun e => by omega]

/-- One group of 128 channels of the sums: the rounded part and the rest, each times the matrix. -/
def group (o : Nat) (h : S256x1024.Slices ![0, o] S256x128) (hi lo : FVec Ideal S256x1024 .bf16) (hs : FVec Ideal S128x128 .bf16) :
    FVec Ideal S256x128 .f32 :=
  addf (matmul dot_S256x128_S128x128_S256x128_1_0_0_1_n_n none (extractStridedSlice S256x128 ![0, o] hi h) hs
      (constant S256x128 .f32 0x00000000#32))
    (matmul dot_S256x128_S128x128_S256x128_1_0_0_1_n_n none (extractStridedSlice S256x128 ![0, o] lo h) hs
      (constant S256x128 .f32 0x00000000#32))

theorem group_apply (o : Nat) (ho : o + 128 ≤ 1024) (h : S256x1024.Slices ![0, o] S256x128) (hi lo : FVec Ideal S256x1024 .bf16)
    (hs : FVec Ideal S128x128 .bf16) (r : Fin 256) (c : Fin 128) :
    group o h hi lo hs (ix2 r c)
      = ((∑ e : Fin 128, (hi (ix2 r ⟨o + e.val, by omega⟩) * hs (ix2 e c) : EReal))
        + ∑ e : Fin 128, (lo (ix2 r ⟨o + e.val, by omega⟩) * hs (ix2 e c) : EReal) : EReal) := by
  pointwise [group]

/-- Over real numbers nothing is left of the rest, and a group's sums are the sums over the heads. -/
theorem group_eq (o : Nat) (ho : o + 128 ≤ 1024) (hd : o % 64 = 0) (h : S256x1024.Slices ![0, o] S256x128)
    (hi lo : FVec Ideal S256x1024 .bf16) (hs : FVec Ideal S128x128 .bf16) (hh : IsHeads hs) (r : Fin 256) (c : Fin 128)
    (hl : ∀ n, (lo (ix2 r n) : EReal) = 0) (n : Fin 1024) (hn : n.val = o + c.val) :
    group o h hi lo hs (ix2 r c) = headSum (fun n => hi (ix2 r n)) n := by
  refine (group_apply o ho h hi lo hs r c).trans ?_
  have hz : (∑ e : Fin 128, (lo (ix2 r ⟨o + e.val, by omega⟩) * hs (ix2 e c) : EReal)) = 0 :=
    Finset.sum_eq_zero fun e _ => by rw [hl, zero_mul]
  rw [hz, add_zero]
  unfold IsHeads at hh
  simp only [hh]
  refine (sum_heads (fun e => hi (ix2 r ⟨o + e.val, by omega⟩)) c).trans ?_
  unfold headSum
  refine Finset.sum_congr rfl fun e _ => congrArg (fun k => (hi (ix2 r k) : EReal)) (Fin.ext ?_)
  simp only []
  omega

/-- The kernel's sums over the heads, from the rounded part and the rest: eight groups side by side. -/
def joined (hi lo : FVec Ideal S256x1024 .bf16) (hs : FVec Ideal S128x128 .bf16) : FVec Ideal S256x1024 .f32 :=
  concatenate S256x1024 1 [⟨S256x128, group 0 slices_S256x1024_o0_0_S256x128 hi lo hs⟩,
    ⟨S256x128, group 128 slices_S256x1024_o0_128_S256x128 hi lo hs⟩,
    ⟨S256x128, group 256 slices_S256x1024_o0_256_S256x128 hi lo hs⟩,
    ⟨S256x128, group 384 slices_S256x1024_o0_384_S256x128 hi lo hs⟩,
    ⟨S256x128, group 512 slices_S256x1024_o0_512_S256x128 hi lo hs⟩,
    ⟨S256x128, group 640 slices_S256x1024_o0_640_S256x128 hi lo hs⟩,
    ⟨S256x128, group 768 slices_S256x1024_o0_768_S256x128 hi lo hs⟩,
    ⟨S256x128, group 896 slices_S256x1024_o0_896_S256x128 hi lo hs⟩]
    concatenates_S256x128_S256x128_S256x128_S256x128_S256x128_S256x128_S256x128_S256x128_S256x1024_d1

/-- Eight groups side by side, read at a channel. -/
theorem join_apply (x0 x1 x2 x3 x4 x5 x6 x7 : S256x128.Idx → EReal) (y : Fin 1024 → EReal) (r : Fin 256) (n : Fin 1024)
    (h0 : ∀ c : Fin 128, n.val = 0 + c.val → x0 (ix2 r c) = y n) (h1 : ∀ c : Fin 128, n.val = 128 + c.val → x1 (ix2 r c) = y n)
    (h2 : ∀ c : Fin 128, n.val = 256 + c.val → x2 (ix2 r c) = y n) (h3 : ∀ c : Fin 128, n.val = 384 + c.val → x3 (ix2 r c) = y n)
    (h4 : ∀ c : Fin 128, n.val = 512 + c.val → x4 (ix2 r c) = y n) (h5 : ∀ c : Fin 128, n.val = 640 + c.val → x5 (ix2 r c) = y n)
    (h6 : ∀ c : Fin 128, n.val = 768 + c.val → x6 (ix2 r c) = y n) (h7 : ∀ c : Fin 128, n.val = 896 + c.val → x7 (ix2 r c) = y n)
    (h) :
    concatenate S256x1024 1 [⟨S256x128, x0⟩, ⟨S256x128, x1⟩, ⟨S256x128, x2⟩, ⟨S256x128, x3⟩, ⟨S256x128, x4⟩, ⟨S256x128, x5⟩,
      ⟨S256x128, x6⟩, ⟨S256x128, x7⟩] h (ix2 r n) = y n := by
  pointwise
  split_ifs
  all_goals first
    | exact h0 _ (by simp only []; omega)
    | exact h1 _ (by simp only []; omega)
    | exact h2 _ (by simp only []; omega)
    | exact h3 _ (by simp only []; omega)
    | exact h4 _ (by simp only []; omega)
    | exact h5 _ (by simp only []; omega)
    | exact h6 _ (by simp only []; omega)
    | exact h7 _ (by simp only []; omega)

theorem joined_apply (hi lo : FVec Ideal S256x1024 .bf16) (hs : FVec Ideal S128x128 .bf16) (hh : IsHeads hs) (r : Fin 256)
    (hl : ∀ n, (lo (ix2 r n) : EReal) = 0) (n : Fin 1024) :
    joined hi lo hs (ix2 r n) = headSum (fun n => hi (ix2 r n)) n := by
  refine join_apply _ _ _ _ _ _ _ _ (headSum fun n => hi (ix2 r n)) r n
    (fun c hn => group_eq _ ?_ ?_ _ hi lo hs hh r c hl n hn) (fun c hn => group_eq _ ?_ ?_ _ hi lo hs hh r c hl n hn)
    (fun c hn => group_eq _ ?_ ?_ _ hi lo hs hh r c hl n hn) (fun c hn => group_eq _ ?_ ?_ _ hi lo hs hh r c hl n hn)
    (fun c hn => group_eq _ ?_ ?_ _ hi lo hs hh r c hl n hn) (fun c hn => group_eq _ ?_ ?_ _ hi lo hs hh r c hl n hn)
    (fun c hn => group_eq _ ?_ ?_ _ hi lo hs hh r c hl n hn) (fun c hn => group_eq _ ?_ ?_ _ hi lo hs hh r c hl n hn) _
  all_goals decide

/-- The kernel's sums over the heads of one array. -/
def sums (x : FVec Ideal S256x1024 .f32) (hs : FVec Ideal S128x128 .bf16) : FVec Ideal S256x1024 .f32 :=
  joined (truncf .bf16 x bitsLt_bf16_f32)
    (truncf .bf16 (subf x (extf .f32 (truncf .bf16 x bitsLt_bf16_f32) bitsLt_bf16_f32)) bitsLt_bf16_f32) hs

theorem sums_apply (x : FVec Ideal S256x1024 .f32) (hs : FVec Ideal S128x128 .bf16) (hh : IsHeads hs) (r : Fin 256)
    (hx : ∀ n, IsReal (x (ix2 r n))) (n : Fin 1024) :
    sums x hs (ix2 r n) = headSum (fun n => x (ix2 r n)) n := by
  refine joined_apply _ _ hs hh r (fun n => ?_) n
  exact sub_self_real (hx n)

end Cert.Kernel4Ideal.Heads

end
-- ==== Proof.Merge.lean ====
/- The merge's kernel: what a grid point leaves in its block of the result. -/
module

public import proofs.«01_k».proof.Proof.Heads

@[expose] public section

set_option maxRecDepth 16384

noncomputable section

namespace Cert.Kernel4Ideal.Merge

open Cert.Kernel4Ideal Cert.Kernel4Ideal.Gen Cert.Kernel4Ideal.Heads Cert.KernelIdeal.Math Idealize.ShloMosaic Idealize.ShloMosaic.TcCoe Idealize.SL.Sem

/-- A block of rows less the mean over each head. -/
def centred (o : FVec Ideal S256x1024 .f32) (hs : FVec Ideal S128x128 .bf16) : FVec Ideal S256x1024 .f32 :=
  subf o (mulf (sums o hs) (broadcast S256x1024 (Scalar.ofBits .f32 0x3C800000#32)))

/-- A block of centred rows over the root mean square of each head, scaled and shifted. -/
def normRows (x : FVec Ideal S256x1024 .f32) (hs : FVec Ideal S128x128 .bf16) (w b : Vec Ideal S1x1024 .f32) :
    FVec Ideal S256x1024 .f32 :=
  addf (mulf (mulf x (rsqrt (addf (mulf (sums (mulf x x) hs) (broadcast S256x1024 (Scalar.ofBits .f32 0x3C800000#32)))
      (broadcast S256x1024 (Scalar.ofBits .f32 0x3A27C5AC#32)))))
    (broadcastTo S256x1024 (shapeCast S1x1024 w shapeCasts_S1x1024_S1x1024) broadcasts_S1x1024_S256x1024))
    (broadcastTo S256x1024 (shapeCast S1x1024 b shapeCasts_S1x1024_S1x1024) broadcasts_S1x1024_S256x1024)

/-- A block of receptances times keys times the bonus weights. -/
def products (r k : FVec Ideal S256x1024 .f32) (rk : Vec Ideal S1x1024 .f32) : FVec Ideal S256x1024 .f32 :=
  mulf (mulf r k) (broadcastTo S256x1024 (shapeCast S1x1024 rk shapeCasts_S1x1024_S1x1024) broadcasts_S1x1024_S256x1024)

theorem centred_eq (hs : Vec Ideal S128x128 .bf16) (a b : Vec Ideal S256x1024 .f32) :
    k0_pay15 (k0_pay4 hs) (k0_pay5 a b) (k0_pay6 a b) (k0_pay7 a b) (k0_pay8 hs a b) (k0_pay9 hs a b) (k0_pay10 hs a b)
      (k0_pay11 hs a b) (k0_pay12 hs a b) (k0_pay13 hs a b) (k0_pay14 hs a b)
      = centred (addf (F := Ideal) (s := S256x1024) (φ := .f32) a b) (k0_pay4 hs) := rfl

theorem normRows_eq (v28 : FVec Ideal S128x128 .bf16) (v31 : FVec Ideal S256x1024 .f32) (v32 v35 : FVec Ideal S256x1024 .bf16)
    (v40 v45 v50 v55 v60 v65 v67 : FVec Ideal S256x128 .f32) (w b : Vec Ideal S1x1024 .f32) :
    k0_pay26 v28 (k0_pay15 v28 v31 v32 v35 v40 v45 v50 v55 v60 v65 v67) (k0_pay17 v28 v31 v32 v35 v40 v45 v50 v55 v60 v65 v67)
      (k0_pay18 v28 v31 v32 v35 v40 v45 v50 v55 v60 v65 v67) (k0_pay19 v28 v31 v32 v35 v40 v45 v50 v55 v60 v65 v67)
      (k0_pay20 v28 v31 v32 v35 v40 v45 v50 v55 v60 v65 v67) (k0_pay21 v28 v31 v32 v35 v40 v45 v50 v55 v60 v65 v67)
      (k0_pay22 v28 v31 v32 v35 v40 v45 v50 v55 v60 v65 v67) (k0_pay23 v28 v31 v32 v35 v40 v45 v50 v55 v60 v65 v67)
      (k0_pay24 v28 v31 v32 v35 v40 v45 v50 v55 v60 v65 v67) (k0_pay25 v28 v31 v32 v35 v40 v45 v50 v55 v60 v65 v67) w b
      = normRows (k0_pay15 v28 v31 v32 v35 v40 v45 v50 v55 v60 v65 v67) v28 w b := rfl

theorem bonus_eq (hs : FVec Ideal S128x128 .bf16) (y : FVec Ideal S256x1024 .f32) (v r k : Vec Ideal S256x1024 .f32)
    (rk : Vec Ideal S1x1024 .f32) :
    k0_pay31 hs y v (k0_pay28 r k rk) (k0_pay29 r k rk) (k0_pay30 r k rk) (constant S256x128 .f32 0x00000000#32)
      = addf y (mulf (sums (products r k rk) hs) v) := rfl

/-- The second branch's rows before the gate: normalised, with the bonus. -/
def branch (of_ ob r k v : Vec Ideal S256x1024 .f32) (hs : Vec Ideal S128x128 .bf16) (rk w b : Vec Ideal S1x1024 .f32) :
    FVec Ideal S256x1024 .f32 :=
  addf (normRows (centred (addf (F := Ideal) (s := S256x1024) (φ := .f32) of_ ob) (k0_pay4 hs)) (k0_pay4 hs) w b)
    (mulf (sums (products r k rk) (k0_pay4 hs)) v)

theorem out17_eq (m : (ℓ : Loc nD τ sig) → Buf (Elt Ideal) ℓ) (c : Dev nD) (t : Fin cfg0.N) :
    outsAt0 m c t = k0_pay3 (X0_7 m c t) (iblk m c 13 t) (X0_8 m c t) (iblk m c 14 t) (k0_pay2 (iblk m c 6 t)) (iblk m c 15 t)
      (k0_pay1 (branch (iblk m c 0 t) (iblk m c 1 t) (iblk m c 2 t) (iblk m c 3 t) (iblk m c 4 t) (iblk m c 9 t)
        (iblk m c 10 t) (iblk m c 11 t) (iblk m c 12 t)) (iblk m c 5 t)) (iblk m c 16 t) := by
  unfold outsAt0 out0_A_17
  frame_out
  unfold branch
  refine congrArg (fun u => k0_pay3 (X0_7 m c t) (iblk m c 13 t) (X0_8 m c t) (iblk m c 14 t) (k0_pay2 (iblk m c 6 t))
    (iblk m c 15 t) (k0_pay1 u (iblk m c 5 t)) (iblk m c 16 t)) ?_
  refine (bonus_eq _ _ _ _ _ _).trans (congrArg (fun y => addf y _) ((normRows_eq _ _ _ _ _ _ _ _ _ _ _ _ _).trans ?_))
  exact congrArg (fun x => normRows x _ _ _) (centred_eq _ _ _)

/-- The two gated products. -/
theorem gated_apply (za : Vec Ideal S256x2048 .f32) (ba : Vec Ideal S1x2048 .f32) (zb : Vec Ideal S256x2048 .f32)
    (bb : Vec Ideal S1x2048 .f32) (a : Vec Ideal S256x1024 .bf16) (wa : Vec Ideal S1024x2048 .bf16) (y : Vec Ideal S256x1024 .bf16)
    (wb : Vec Ideal S1024x2048 .bf16) (r : Fin 256) (n : Fin 2048) :
    k0_pay3 za ba zb bb a wa y wb (ix2 r n)
      = (Ideal.logistic (za (ix2 r n) + ba (ix2 0 n)) * (∑ k : Fin 1024, (a (ix2 r k) * wa (ix2 k n) : EReal))
        + Ideal.logistic (zb (ix2 r n) + bb (ix2 0 n)) * (∑ k : Fin 1024, (y (ix2 r k) * wb (ix2 k n) : EReal)) : EReal) := by
  pointwise [k0_pay3]

theorem gate_apply (x : FVec Ideal S256x1024 .f32) (g : Vec Ideal S256x1024 .f32) (r : Fin 256) (n : Fin 1024) :
    k0_pay1 x g (ix2 r n) = (x (ix2 r n) * g (ix2 r n) : EReal) := by
  pointwise [k0_pay1]

theorem round_apply (x : Vec Ideal S256x1024 .f32) (r : Fin 256) (n : Fin 1024) :
    (k0_pay2 x (ix2 r n) : EReal) = x (ix2 r n) := by
  pointwise [k0_pay2]

theorem heads_apply (x : Vec Ideal S128x128 .bf16) (e c : Fin 128) : (k0_pay4 x (ix2 e c) : EReal) = x (ix2 e c) := by
  pointwise [k0_pay4]

end Cert.Kernel4Ideal.Merge

end
-- ==== Proof.Branch.lean ====
/- The recurrence's branch at one token: the sum of its two directions normalised head by head, the bonus added, and the
   whole gated. -/
module

public import proofs.«01_k».proof.Proof.Merge

@[expose] public section

set_option maxRecDepth 16384

noncomputable section

namespace Cert.Kernel4Ideal.Branch

open Cert.Kernel4Ideal Cert.Kernel4Ideal.Gen Cert.Kernel4Ideal.Heads Cert.Kernel4Ideal.Merge Cert.KernelIdeal.Math
open Idealize.ShloMosaic

/-- The mean over channel `n`'s head. -/
def headMean (x : Fin 1024 → EReal) (n : Fin 1024) : EReal := Ideal.div (headSum x n) (Ideal.ofBits .f32 0x42800000#32)

/-- Channel `n` less the mean over its head. -/
def less (x : Fin 1024 → EReal) (n : Fin 1024) : EReal := x n - headMean x n

/-- Channel `n` normalised over its head, scaled and shifted. -/
def normed (x w b : Fin 1024 → EReal) (n : Fin 1024) : EReal :=
  less x n * Ideal.rsqrt (headMean (fun k => less x k * less x k) n + Ideal.ofBits .f32 0x3A27C5AC#32) * w n + b n

/-- Channel `n` of the branch: `p` are the products the bonus sums over a head. -/
def gated (x w b p v g : Fin 1024 → EReal) (n : Fin 1024) : EReal := (normed x w b n + headSum p n * v n) * g n

theorem head_width : (Ideal.ofBits .f32 0x42800000#32 : EReal) = ((64 : ℝ) : EReal) := by
  simp [Ideal.ofBits, Ideal.ieee]
  rw [← EReal.coe_mul]
  norm_num

theorem head_part : (Ideal.ofBits .f32 0x3C800000#32 : EReal) = (((64 : ℝ)⁻¹ : ℝ) : EReal) := by
  simp [Ideal.ofBits, Ideal.ieee]
  rw [← EReal.coe_mul]
  norm_num

/-- The kernel's product with a 64th is the mean. -/
theorem mean_eq (x : EReal) : x * Ideal.ofBits .f32 0x3C800000#32 = Ideal.div x (Ideal.ofBits .f32 0x42800000#32) := by
  rw [head_width, head_part, div_real x (by norm_num)]

theorem less_real (x : Fin 1024 → EReal) (h : ∀ n, IsReal (x n)) (n : Fin 1024) : IsReal (less x n) := by
  unfold less headMean
  rw [← mean_eq, head_part]
  obtain ⟨s, hs⟩ := headSum_real x h n
  obtain ⟨a, ha⟩ := h n
  exact ⟨a - s * (64 : ℝ)⁻¹, by rw [hs, ha, EReal.coe_sub, EReal.coe_mul]⟩

theorem centred_apply (o : FVec Ideal S256x1024 .f32) (hs : FVec Ideal S128x128 .bf16) (hh : IsHeads hs) (r : Fin 256)
    (ho : ∀ n, IsReal (o (ix2 r n))) (n : Fin 1024) : centred o hs (ix2 r n) = less (fun n => o (ix2 r n)) n := by
  have h : centred o hs (ix2 r n) = (o (ix2 r n) - sums o hs (ix2 r n) * Ideal.ofBits .f32 0x3C800000#32 : EReal) := by
    pointwise [centred]
  rw [h, sums_apply o hs hh r ho n, mean_eq]
  rfl

theorem normRows_apply (x : FVec Ideal S256x1024 .f32) (hs : FVec Ideal S128x128 .bf16) (hh : IsHeads hs)
    (w b : Vec Ideal S1x1024 .f32) (r : Fin 256) (hx : ∀ n, IsReal (x (ix2 r n))) (n : Fin 1024) :
    normRows x hs w b (ix2 r n)
      = (x (ix2 r n) * Ideal.rsqrt (headMean (fun k => x (ix2 r k) * x (ix2 r k)) n + Ideal.ofBits .f32 0x3A27C5AC#32)
          * w (ix2 0 n) + b (ix2 0 n) : EReal) := by
  have h : normRows x hs w b (ix2 r n)
      = (x (ix2 r n) * Ideal.rsqrt (sums (mulf x x) hs (ix2 r n) * Ideal.ofBits .f32 0x3C800000#32
          + Ideal.ofBits .f32 0x3A27C5AC#32) * w (ix2 0 n) + b (ix2 0 n) : EReal) := by
    pointwise [normRows]
  rw [h, sums_apply (mulf x x) hs hh r (fun n => (hx n).mul (hx n)) n, mean_eq]
  rfl

theorem products_apply (r k : FVec Ideal S256x1024 .f32) (rk : Vec Ideal S1x1024 .f32) (i : Fin 256) (n : Fin 1024) :
    products r k rk (ix2 i n) = (r (ix2 i n) * k (ix2 i n) * rk (ix2 0 n) : EReal) := by
  pointwise [products]

/-- The kernel's rows before the gate, at a channel. -/
theorem branch_apply (of_ ob r k v : Vec Ideal S256x1024 .f32) (hs : Vec Ideal S128x128 .bf16) (rk w b : Vec Ideal S1x1024 .f32)
    (hh : IsHeads (k0_pay4 hs)) (i : Fin 256) (hf : ∀ n, IsReal (of_ (ix2 i n))) (hb : ∀ n, IsReal (ob (ix2 i n)))
    (hr : ∀ n, IsReal (r (ix2 i n))) (hk : ∀ n, IsReal (k (ix2 i n))) (hrk : ∀ n, IsReal (rk (ix2 0 n))) (n : Fin 1024) :
    branch of_ ob r k v hs rk w b (ix2 i n)
      = (normed (fun n => of_ (ix2 i n) + ob (ix2 i n)) (fun n => w (ix2 0 n)) (fun n => b (ix2 0 n)) n
        + headSum (fun n => r (ix2 i n) * k (ix2 i n) * rk (ix2 0 n)) n * v (ix2 i n) : EReal) := by
  have h1 : ∀ n, centred (addf (F := Ideal) (s := S256x1024) (φ := .f32) of_ ob) (k0_pay4 hs) (ix2 i n)
      = less (fun n => of_ (ix2 i n) + ob (ix2 i n)) n :=
    fun n => centred_apply _ _ hh i (fun n => (hf n).add (hb n)) n
  have h2 := normRows_apply (centred (addf (F := Ideal) (s := S256x1024) (φ := .f32) of_ ob) (k0_pay4 hs)) (k0_pay4 hs) hh
    w b i (fun n => by rw [h1]; exact less_real _ (fun n => (hf n).add (hb n)) n) n
  have h3 := sums_apply (products r k rk) (k0_pay4 hs) hh i
    (fun n => by rw [products_apply]; exact ((hr n).mul (hk n)).mul (hrk n)) n
  unfold branch
  refine congrArg₂ (· + ·) (h2.trans ?_) (congrArg₂ (· * ·) (h3.trans ?_) rfl)
  · simp only [h1]
    rfl
  · simp only [products_apply]

end Cert.Kernel4Ideal.Branch

end
-- ==== Proof.Operands.lean ====
/- The merge's kernel: what each operand's block holds at a grid point. -/
module

public import proofs.«01_k».proof.Proof.Gen.Kernel4Ideal.Value
public import proofs.«01_k».proof.Proof.Branch
public import Idealize.ShloMosaic.Lib.Pipeline.ValueKit

@[expose] public section

set_option maxRecDepth 16384

noncomputable section

namespace Cert.Kernel4Ideal.Operands

open Cert.Kernel4Ideal Cert.Kernel4Ideal.Gen Cert.Kernel4Ideal.Heads Idealize.ShloMosaic Idealize.ShloMosaic.TcCoe Idealize.SL.Sem

/-- Every window's block index at every grid point. -/
theorem idx : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 3]
    ∧ win0_8.index t = ![t.val, 4]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 1]
    ∧ win0_15.index t = ![0, 0]
    ∧ win0_16.index t = ![0, 0]
    ∧ win0_17.index t = ![t.val, 0] :=
  (by decide +kernel : ∀ t : Fin grid0.N, _)

theorem t_lt (t : Fin cfg0.N) : t.val < 64 := t.isLt

/-- Row `r` of the block of grid point `t`. -/
def tokenOf (t : Fin cfg0.N) (r : Fin 256) : Fin 16384 := ⟨t.val * 256 + r.val, by have := t_lt t; omega⟩

variable (m : (ℓ : Loc nD τ sig) → Buf (Elt Ideal) ℓ)

theorem iblk0 (c : Dev nD) (t : Fin cfg0.N) (r : Fin 256) (k : Fin 1024) :
    iblk m c 0 t (ix2 r k) = m ((c : Thread nD τ).loc main_arg0) (ix2 (tokenOf t r) k) := by
  unfold tokenOf
  blk_ext! [iblk, V, idx t]

theorem iblk1 (c : Dev nD) (t : Fin cfg0.N) (r : Fin 256) (k : Fin 1024) :
    iblk m c 1 t (ix2 r k) = m ((c : Thread nD τ).loc main_arg1) (ix2 (tokenOf t r) k) := by
  unfold tokenOf
  blk_ext! [iblk, V, idx t]

theorem iblk2 (c : Dev nD) (t : Fin cfg0.N) (r : Fin 256) (k : Fin 1024) :
    iblk m c 2 t (ix2 r k) = m ((c : Thread nD τ).loc main_arg2) (ix2 (tokenOf t r) k) := by
  unfold tokenOf
  blk_ext! [iblk, V, idx t]

theorem iblk3 (c : Dev nD) (t : Fin cfg0.N) (r : Fin 256) (k : Fin 1024) :
    iblk m c 3 t (ix2 r k) = m ((c : Thread nD τ).loc main_arg3) (ix2 (tokenOf t r) k) := by
  unfold tokenOf
  blk_ext! [iblk, V, idx t]

theorem iblk4 (c : Dev nD) (t : Fin cfg0.N) (r : Fin 256) (k : Fin 1024) :
    iblk m c 4 t (ix2 r k) = m ((c : Thread nD τ).loc main_arg4) (ix2 (tokenOf t r) k) := by
  unfold tokenOf
  blk_ext! [iblk, V, idx t]

theorem iblk5 (c : Dev nD) (t : Fin cfg0.N) (r : Fin 256) (k : Fin 1024) :
    iblk m c 5 t (ix2 r k) = m ((c : Thread nD τ).loc main_arg5) (ix2 (tokenOf t r) k) := by
  unfold tokenOf
  blk_ext! [iblk, V, idx t]

theorem iblk6 (c : Dev nD) (t : Fin cfg0.N) (r : Fin 256) (k : Fin 1024) :
    iblk m c 6 t (ix2 r k) = m ((c : Thread nD τ).loc main_arg6) (ix2 (tokenOf t r) k) := by
  unfold tokenOf
  blk_ext! [iblk, V, idx t]

theorem block7 (c : Dev nD) (t : Fin cfg0.N) (r : Fin 256) (n : Fin 2048) :
    X0_7 m c t (ix2 r n) = m ((c : Thread nD τ).loc main_arg7) (ix2 (tokenOf t r) ⟨6144 + n.val, by omega⟩) := by
  unfold X0_7 Pipeline.Window.fill tokenOf
  rw [dif_pos (moved0_7 t _)]
  blk_ext! [iblk, V, idx t]

theorem block8 (c : Dev nD) (t : Fin cfg0.N) (r : Fin 256) (n : Fin 2048) :
    X0_8 m c t (ix2 r n) = m ((c : Thread nD τ).loc main_arg7) (ix2 (tokenOf t r) ⟨8192 + n.val, by omega⟩) := by
  unfold X0_8 Pipeline.Window.fill tokenOf
  rw [dif_pos (moved0_8 t _)]
  blk_ext! [iblk, V, idx t]

theorem iblk10 (c : Dev nD) (t : Fin cfg0.N) (k : Fin 1024) :
    iblk m c 10 t (ix2 0 k) = m ((c : Thread nD τ).loc main_arg8) (ix2 ⟨k.val / 64, by omega⟩ ⟨k.val % 64, by omega⟩) := by
  have h : iblk m c 10 t (ix2 0 k) = V m c main_v11 (ix2 0 k) := by
    blk_ext [iblk, idx t]
  rw [h]
  simp only [V, List.flatten_cons, List.flatten_nil, List.append_nil, List.cons_append, List.nil_append]
  entry_read
  pointwise

theorem iblk11 (c : Dev nD) (t : Fin cfg0.N) (k : Fin 1024) :
    iblk m c 11 t (ix2 0 k) = m ((c : Thread nD τ).loc main_arg9) (ix1 k) := by
  have h : iblk m c 11 t (ix2 0 k) = V m c main_v12 (ix2 0 k) := by
    blk_ext [iblk, idx t]
  rw [h]
  simp only [V, List.flatten_cons, List.flatten_nil, List.append_nil, List.cons_append, List.nil_append]
  entry_read
  pointwise

theorem iblk12 (c : Dev nD) (t : Fin cfg0.N) (k : Fin 1024) :
    iblk m c 12 t (ix2 0 k) = m ((c : Thread nD τ).loc main_arg10) (ix1 k) := by
  have h : iblk m c 12 t (ix2 0 k) = V m c main_v13 (ix2 0 k) := by
    blk_ext [iblk, idx t]
  rw [h]
  simp only [V, List.flatten_cons, List.flatten_nil, List.append_nil, List.cons_append, List.nil_append]
  entry_read
  pointwise

theorem iblk13 (c : Dev nD) (t : Fin cfg0.N) (n : Fin 2048) :
    iblk m c 13 t (ix2 0 n) = m ((c : Thread nD τ).loc main_arg11) (ix1 ⟨n.val, by omega⟩) := by
  have h : iblk m c 13 t (ix2 0 n) = V m c main_v14 (ix2 0 ⟨n.val, by omega⟩) := by
    blk_ext [iblk, idx t]
  rw [h]
  simp only [V, List.flatten_cons, List.flatten_nil, List.append_nil, List.cons_append, List.nil_append]
  entry_read
  pointwise

theorem iblk14 (c : Dev nD) (t : Fin cfg0.N) (n : Fin 2048) :
    iblk m c 14 t (ix2 0 n) = m ((c : Thread nD τ).loc main_arg11) (ix1 ⟨2048 + n.val, by omega⟩) := by
  have h : iblk m c 14 t (ix2 0 n) = V m c main_v15 (ix2 0 ⟨2048 + n.val, by omega⟩) := by
    blk_ext [iblk, idx t]
  rw [h]
  simp only [V, List.flatten_cons, List.flatten_nil, List.append_nil, List.cons_append, List.nil_append]
  entry_read
  pointwise

theorem iblk15 (c : Dev nD) (t : Fin cfg0.N) (k : Fin 1024) (n : Fin 2048) :
    iblk m c 15 t (ix2 k n) = m ((c : Thread nD τ).loc main_arg12) (ix2 k n) := by
  have h : iblk m c 15 t (ix2 k n) = V m c main_v9 (ix2 k n) := by
    blk_ext [iblk, idx t]
  rw [h]
  simp only [V, List.flatten_cons, List.flatten_nil, List.append_nil, List.cons_append, List.nil_append]
  entry_read
  pointwise

theorem iblk16 (c : Dev nD) (t : Fin cfg0.N) (k : Fin 1024) (n : Fin 2048) :
    iblk m c 16 t (ix2 k n) = m ((c : Thread nD τ).loc main_arg13) (ix2 k n) := by
  have h : iblk m c 16 t (ix2 k n) = V m c main_v10 (ix2 k n) := by
    blk_ext [iblk, idx t]
  rw [h]
  simp only [V, List.flatten_cons, List.flatten_nil, List.append_nil, List.cons_append, List.nil_append]
  entry_read
  pointwise

/-- The host's head number of every channel of a group: the channel over 64, rounded down. -/
def headNumber : IVec S128 32 :=
  select (andi
      (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- The host's indicator of two channels of one head. -/
def headMatrix : FVec Ideal S128x128 .bf16 :=
  uitofp .bf16 (cmpi .eq
    (broadcastInDim S128x128 ![0, 1] bcast_S128x1_S128x128_0_1 (broadcastInDim S128x1 ![0] bcast_S128_S128x1_0 headNumber))
    (broadcastInDim S128x128 ![0, 1] bcast_S1x128_S128x128_0_1 (broadcastInDim S1x128 ![1] bcast_S128_S1x128_1 headNumber)))

theorem headNumber_apply (e : Fin 128) : headNumber (ix1 e) = BitVec.ofNat 32 (e.val / 64) := by
  revert e; decide +kernel

theorem headMatrix_read (e x : Fin 128) :
    headMatrix (ix2 e x) = FloatOps.uitofp (F := Ideal) .bf16
      (IntOp.cmpi .eq (headNumber (ix1 e)) (headNumber (ix1 x))) := by
  pointwise [headMatrix]

theorem same_head : ∀ e x : Fin 128,
    IntOp.cmpi .eq (BitVec.ofNat 32 (e.val / 64)) (BitVec.ofNat 32 (x.val / 64)) = if e.val / 64 = x.val / 64 then 1#1 else 0#1 := by
  decide +kernel

theorem headMatrix_apply (e x : Fin 128) :
    (headMatrix (ix2 e x) : EReal) = if e.val / 64 = x.val / 64 then 1 else 0 := by
  rw [headMatrix_read, headNumber_apply, headNumber_apply, same_head]
  split <;> simp [FloatOps.uitofp]

theorem iblk9 (c : Dev nD) (t : Fin cfg0.N) (e x : Fin 128) : iblk m c 9 t (ix2 e x) = headMatrix (ix2 e x) := by
  have h : iblk m c 9 t (ix2 e x) = V m c main_v7 (ix2 e x) := by
    blk_ext [iblk, idx t]
  rw [h]
  simp only [V, List.flatten_cons, List.flatten_nil, List.append_nil, List.cons_append, List.nil_append]
  entry_read
  rfl

end Cert.Kernel4Ideal.Operands

end
-- ==== Proof.Merged.lean ====
/- The merge's kernel: the whole result from the arguments. -/
module

public import proofs.«01_k».proof.Proof.Operands

@[expose] public section

set_option maxRecDepth 16384

noncomputable section

namespace Cert.Kernel4Ideal.Merged

open Cert.Kernel4Ideal Cert.Kernel4Ideal.Gen Cert.Kernel4Ideal.Heads Cert.Kernel4Ideal.Merge Cert.Kernel4Ideal.Branch
open Cert.Kernel4Ideal.Operands Cert.KernelIdeal.Math Idealize.ShloMosaic Idealize.ShloMosaic.TcCoe Idealize.SL.Sem

/-- The recurrence's branch at channel `k` of token `t`, from the arrays. -/
def branchOf (OF OB R K V G : S16384x1024.Idx → EReal) (RK : S16x64.Idx → EReal) (w b : S1024.Idx → EReal) (t : Fin 16384)
    (k : Fin 1024) : EReal :=
  gated (fun e => OF (ix2 t e) + OB (ix2 t e)) (fun e => w (ix1 e)) (fun e => b (ix1 e))
    (fun e => R (ix2 t e) * K (ix2 t e) * RK (ix2 ⟨e.val / 64, by omega⟩ ⟨e.val % 64, by omega⟩))
    (fun e => V (ix2 t e)) (fun e => G (ix2 t e)) k

/-- Channel `n` of token `t` of the merge: the two branches' products with their weights, each times its gate. -/
def mergeOf (OF OB R K V G A : S16384x1024.Idx → EReal) (Z : S16384x11264.Idx → EReal) (RK : S16x64.Idx → EReal)
    (w b : S1024.Idx → EReal) (g : S4096.Idx → EReal) (WA WB : S1024x2048.Idx → EReal) (t : Fin 16384) (n : Fin 2048) : EReal :=
  Ideal.logistic (Z (ix2 t ⟨6144 + n.val, by omega⟩) + g (ix1 ⟨n.val, by omega⟩))
      * (∑ k : Fin 1024, A (ix2 t k) * WA (ix2 k n))
    + Ideal.logistic (Z (ix2 t ⟨8192 + n.val, by omega⟩) + g (ix1 ⟨2048 + n.val, by omega⟩))
      * (∑ k : Fin 1024, branchOf OF OB R K V G RK w b t k * WB (ix2 k n))

variable (m : (ℓ : Loc nD τ sig) → Buf (Elt Ideal) ℓ)

/-- The merge of the kernel's arguments. -/
def merged (c : Dev nD) (t : Fin 16384) (n : Fin 2048) : EReal :=
  mergeOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) t n

/-- What the merge asks of its arguments: both directions, receptances, keys and bonus weights are real. -/
structure Real (c : Dev nD) : Prop where
  forward : ∀ t k, IsReal (m ((c : Thread nD τ).loc main_arg0) (ix2 t k))
  backward : ∀ t k, IsReal (m ((c : Thread nD τ).loc main_arg1) (ix2 t k))
  receptance : ∀ t k, IsReal (m ((c : Thread nD τ).loc main_arg2) (ix2 t k))
  key : ∀ t k, IsReal (m ((c : Thread nD τ).loc main_arg3) (ix2 t k))
  bonus : ∀ h e, IsReal (m ((c : Thread nD τ).loc main_arg8) (ix2 h e))

theorem heads (c : Dev nD) (t : Fin cfg0.N) : IsHeads (k0_pay4 (iblk m c 9 t)) := fun e x =>
  (heads_apply _ e x).trans ((iblk9 m c t e x).trans (headMatrix_apply e x))

/-- The branch's rows at a grid point, gated. -/
theorem rows_apply (c : Dev nD) (h : Real m c) (t : Fin cfg0.N) (r : Fin 256) (k : Fin 1024) :
    (k0_pay1 (branch (iblk m c 0 t) (iblk m c 1 t) (iblk m c 2 t) (iblk m c 3 t) (iblk m c 4 t) (iblk m c 9 t)
        (iblk m c 10 t) (iblk m c 11 t) (iblk m c 12 t)) (iblk m c 5 t) (ix2 r k) : EReal)
      = branchOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg8)) (m ((c : Thread nD τ).loc main_arg9))
          (m ((c : Thread nD τ).loc main_arg10)) (tokenOf t r) k := by
  have e0 := fun e => iblk0 m c t r e
  have e1 := fun e => iblk1 m c t r e
  have e2 := fun e => iblk2 m c t r e
  have e3 := fun e => iblk3 m c t r e
  have e10 := fun e => iblk10 m c t e
  have e11 := fun e => iblk11 m c t e
  have e12 := fun e => iblk12 m c t e
  refine (gate_apply _ _ r k).trans ?_
  refine (congrArg₂ (· * ·) (branch_apply _ _ _ _ _ _ _ _ _ (heads m c t) r (fun e => ?_) (fun e => ?_) (fun e => ?_)
    (fun e => ?_) (fun e => ?_) k) rfl).trans ?_
  · rw [e0]; exact h.forward _ _
  · rw [e1]; exact h.backward _ _
  · rw [e2]; exact h.receptance _ _
  · rw [e3]; exact h.key _ _
  · rw [e10]; exact h.bonus _ _
  unfold branchOf gated
  simp only [e0, e1, e2, e3, e10, e11, e12]
  exact congrArg₂ (· * ·) (congrArg₂ (· + ·) rfl (congrArg₂ (· * ·) rfl (iblk4 m c t r k))) (iblk5 m c t r k)

theorem out_apply (c : Dev nD) (h : Real m c) (t : Fin cfg0.N) (r : Fin 256) (n : Fin 2048) :
    (outsAt0 m c t (ix2 r n) : EReal) = merged m c (tokenOf t r) n := by
  rw [out17_eq]
  refine (gated_apply _ _ _ _ _ _ _ _ r n).trans ?_
  unfold merged mergeOf
  refine congrArg₂ (· + ·)
    (congrArg₂ (· * ·) (congrArg Ideal.logistic (congrArg₂ (· + ·) (block7 m c t r n) (iblk13 m c t n)))
      (Finset.sum_congr rfl fun k _ => congrArg₂ (· * ·) ((round_apply _ r k).trans (iblk6 m c t r k)) (iblk15 m c t k n)))
    (congrArg₂ (· * ·) (congrArg Ideal.logistic (congrArg₂ (· + ·) (block8 m c t r n) (iblk14 m c t n)))
      (Finset.sum_congr rfl fun k _ => congrArg₂ (· * ·) (rows_apply m c h t r k) (iblk16 m c t k n)))

/-- The whole result. -/
def result (c : Dev nD) : S16384x2048.Idx → EReal := fun i => merged m c (i 0) (i 1)

theorem array_eq (c : Dev nD) (h : Real m c) : (dats m 0 c).arrAt 17 cfg0.N = result m c := by
  refine (dats m 0 c).arrAt_eq_of_covers 17 _ (by decide +kernel) fun t hf y => ?_
  blk_simp
  rw [after0_17]
  have hi : (win0_17.blk t).view.emb y = ix2 (n0 := 16384) (n1 := 2048)
      ⟨t.val * 256 + (y 0).val, by have := t_lt t; have : (y 0).val < 256 := (y 0).isLt; omega⟩ (y 1) := by
    blk_ext [idx t]
  rw [hi]
  have hy : y = ix2 (y 0) (y 1) := by
    funext a
    match a with
    | 0 => rfl
    | 1 => rfl
  exact (congrArg (outsAt0 m c t) hy).trans (out_apply m c h t (y 0) (y 1))

end Cert.Kernel4Ideal.Merged

end
-- ==== Proof.Branches.lean ====
/- The merge's reference, entry by entry. -/
module

public import proofs.«01_k».proof.Proof.Gen.Reference4Ideal.Run
public import proofs.«01_k».proof.Proof.Merged
public import Idealize.ShloMosaic.Lib.Tactic.CleanTypes

@[expose] public section

set_option maxRecDepth 16384

noncomputable section

namespace Cert.Reference4Ideal.Branches

open Cert.Reference4Ideal Idealize.ShloMosaic Idealize.ShloMosaic.TcCoe Idealize.SL.Sem
open Cert.Kernel4Ideal.Heads (headSum)
open Cert.Kernel4Ideal.Branch (headMean less normed gated)

/-- The sum over the channels of each head, once for each channel. -/
def sums (x : FVec Ideal S2x8192x16x64 .f32) : FVec Ideal S2x8192x16x1 .f32 :=
  broadcastInDim S2x8192x16x1 ![0, 1, 2] Gen.bcast_S2x8192x16_S2x8192x16x1_0_1_2
    (Host.reduceAdd x (constant S_ .f32 0x00000000#32) Gen.reducesTo_S2x8192x16x64_S2x8192x16_d3 Gen.h_S_)

/-- The mean over the channels of each head. -/
def means (x : FVec Ideal S2x8192x16x64 .f32) : FVec Ideal S2x8192x16x1 .f32 :=
  Host.divf (sums x) (broadcastInDim S2x8192x16x1 ![] Gen.bcast_S_S2x8192x16x1 (constant S_ .f32 0x42800000#32))

/-- The channels less the mean over their head. -/
def centred (x : FVec Ideal S2x8192x16x64 .f32) : FVec Ideal S2x8192x16x64 .f32 :=
  subf x (broadcastInDim S2x8192x16x64 ![0, 1, 2, 3] Gen.bcast_S2x8192x16x1_S2x8192x16x64_0_1_2_3 (means x))

/-- The channels over the root mean square of their head. -/
def scaled (x : FVec Ideal S2x8192x16x64 .f32) : FVec Ideal S2x8192x16x64 .f32 :=
  mulf x (broadcastInDim S2x8192x16x64 ![0, 1, 2, 3] Gen.bcast_S2x8192x16x1_S2x8192x16x64_0_1_2_3
    (Host.rsqrt (addf (means (mulf x x))
      (broadcastInDim S2x8192x16x1 ![] Gen.bcast_S_S2x8192x16x1 (constant S_ .f32 0x3A27C5AC#32)))))

/-- The bonus of each channel. -/
def bonus (r k v : FVec Ideal S2x8192x16x64 .f32) (rk : FVec Ideal S16x64 .f32) : FVec Ideal S2x8192x16x64 .f32 :=
  mulf (broadcastInDim S2x8192x16x64 ![0, 1, 2, 3] Gen.bcast_S2x8192x16x1_S2x8192x16x64_0_1_2_3
    (sums (mulf (mulf r k) (broadcastInDim S2x8192x16x64 ![0, 1, 2, 3] Gen.bcast_S1x1x16x64_S2x8192x16x64_0_1_2_3
      (broadcastInDim S1x1x16x64 ![2, 3] Gen.bcast_S16x64_S1x1x16x64_2_3 rk))))) v

/-- The branch's rows, gated. -/
def rows (o r k v : FVec Ideal S2x8192x16x64 .f32) (g : FVec Ideal S2x8192x1024 .f32) (rk : FVec Ideal S16x64 .f32)
    (w b : FVec Ideal S1024 .f32) : FVec Ideal S2x8192x1024 .f32 :=
  mulf (addf (addf (mulf (shapeCast S2x8192x1024 (scaled (centred o)) Gen.shapeCasts_S2x8192x16x64_S2x8192x1024)
      (broadcastInDim S2x8192x1024 ![0, 1, 2] Gen.bcast_S1x1x1024_S2x8192x1024_0_1_2
        (broadcastInDim S1x1x1024 ![2] Gen.bcast_S1024_S1x1x1024_2 w)))
      (broadcastInDim S2x8192x1024 ![0, 1, 2] Gen.bcast_S1x1x1024_S2x8192x1024_0_1_2
        (broadcastInDim S1x1x1024 ![2] Gen.bcast_S1024_S1x1x1024_2 b)))
      (shapeCast S2x8192x1024 (bonus r k v rk) Gen.shapeCasts_S2x8192x16x64_S2x8192x1024)) g

/-- The gates of both branches. -/
def gates (z : FVec Ideal S2x8192x11264 .f32) (g : FVec Ideal S4096 .f32) : FVec Ideal S2x8192x4096 .f32 :=
  Host.divf (broadcastInDim S2x8192x4096 ![] Gen.bcast_S_S2x8192x4096 (constant S_ .f32 0x3F800000#32))
    (addf (broadcastInDim S2x8192x4096 ![] Gen.bcast_S_S2x8192x4096 (constant S_ .f32 0x3F800000#32))
      (Host.exp (Host.negf (addf (extractStridedSlice S2x8192x4096 ![0, 0, 6144] z Gen.slices_S2x8192x11264_S2x8192x4096_0_0_6144)
        (broadcastInDim S2x8192x4096 ![0, 1, 2] Gen.bcast_S1x1x4096_S2x8192x4096_0_1_2
          (broadcastInDim S1x1x4096 ![2] Gen.bcast_S4096_S1x1x4096_2 g))))))

/-- The two gated products. -/
def both (s : FVec Ideal S2x8192x4096 .f32) (a y : FVec Ideal S2x8192x1024 .f32) (wa wb : FVec Ideal S1024x2048 .f32) :
    FVec Ideal S2x8192x2048 .f32 :=
  addf (mulf (extractStridedSlice S2x8192x2048 ![0, 0, 0] s Gen.slices_S2x8192x4096_S2x8192x2048_0_0_0)
      (Host.dotGeneral dot_S2x8192x1024_S1024x2048_S2x8192x2048_2_0_01_1_n_n none a wa))
    (mulf (extractStridedSlice S2x8192x2048 ![0, 0, 2048] s Gen.slices_S2x8192x4096_S2x8192x2048_0_0_2048)
      (Host.dotGeneral dot_S2x8192x1024_S1024x2048_S2x8192x2048_2_0_01_1_n_n none y wb))

/-- Head and channel of a head of channel `n`. -/
abbrev headOf (n : Fin 1024) : Fin 16 := ⟨n.val / 64, by omega⟩
abbrev partOf (n : Fin 1024) : Fin 64 := ⟨n.val % 64, by omega⟩

/-- A token's channels, from the array split into heads. -/
def flat (x : FVec Ideal S2x8192x16x64 .f32) (b : Fin 2) (s : Fin 8192) (n : Fin 1024) : EReal :=
  x (ix4 b s (headOf n) (partOf n))

theorem sums_apply (x : FVec Ideal S2x8192x16x64 .f32) (b : Fin 2) (s : Fin 8192) (n : Fin 1024) :
    (sums x (ix4 b s (headOf n) 0) : EReal) = headSum (flat x b s) n := by
  have h : (sums x (ix4 b s (headOf n) 0) : EReal) = ∑ e : Fin 64, (x (ix4 b s (headOf n) e) : EReal) := by
    pointwise [sums]
  rw [h]
  unfold headSum flat
  refine Finset.sum_congr rfl fun e _ => congrArg₂ (fun h e => (x (ix4 b s h e) : EReal)) (Fin.ext ?_) (Fin.ext ?_)
  · simp only [headOf]; omega
  · simp only [partOf]; omega

theorem means_apply (x : FVec Ideal S2x8192x16x64 .f32) (b : Fin 2) (s : Fin 8192) (n : Fin 1024) :
    (means x (ix4 b s (headOf n) 0) : EReal) = headMean (flat x b s) n := by
  have h : (means x (ix4 b s (headOf n) 0) : EReal)
      = Ideal.div (sums x (ix4 b s (headOf n) 0)) (Ideal.ofBits .f32 0x42800000#32) := by
    pointwise [means]
  rw [h, sums_apply]
  rfl

theorem centred_apply (x : FVec Ideal S2x8192x16x64 .f32) (b : Fin 2) (s : Fin 8192) (n : Fin 1024) :
    flat (centred x) b s n = less (flat x b s) n := by
  have h : flat (centred x) b s n = (flat x b s n - means x (ix4 b s (headOf n) 0) : EReal) := by
    pointwise [flat, centred]
  rw [h, means_apply]
  rfl

theorem scaled_apply (x : FVec Ideal S2x8192x16x64 .f32) (b : Fin 2) (s : Fin 8192) (n : Fin 1024) :
    flat (scaled x) b s n = (flat x b s n * Ideal.rsqrt (headMean (fun k => flat x b s k * flat x b s k) n
      + Ideal.ofBits .f32 0x3A27C5AC#32) : EReal) := by
  have h : flat (scaled x) b s n = (flat x b s n * Ideal.rsqrt (means (mulf x x) (ix4 b s (headOf n) 0)
      + Ideal.ofBits .f32 0x3A27C5AC#32) : EReal) := by
    pointwise [flat, scaled]
  rw [h, means_apply]
  rfl

theorem bonus_apply (r k v : FVec Ideal S2x8192x16x64 .f32) (rk : FVec Ideal S16x64 .f32) (b : Fin 2) (s : Fin 8192)
    (n : Fin 1024) :
    flat (bonus r k v rk) b s n
      = (headSum (fun e => flat r b s e * flat k b s e * rk (ix2 (headOf e) (partOf e))) n * flat v b s n : EReal) := by
  have h : flat (bonus r k v rk) b s n
      = (sums (mulf (mulf r k) (broadcastInDim S2x8192x16x64 ![0, 1, 2, 3] Gen.bcast_S1x1x16x64_S2x8192x16x64_0_1_2_3
        (broadcastInDim S1x1x16x64 ![2, 3] Gen.bcast_S16x64_S1x1x16x64_2_3 rk))) (ix4 b s (headOf n) 0) * flat v b s n : EReal) := by
    pointwise [flat, bonus]
  rw [h, sums_apply]
  refine congrArg (fun x => (headSum x n * flat v b s n : EReal)) (funext fun e => ?_)
  pointwise [flat]

theorem rows_apply (o r k v : FVec Ideal S2x8192x16x64 .f32) (g : FVec Ideal S2x8192x1024 .f32) (rk : FVec Ideal S16x64 .f32)
    (w b : FVec Ideal S1024 .f32) (a : Fin 2) (s : Fin 8192) (n : Fin 1024) :
    (rows o r k v g rk w b (ix3 a s n) : EReal)
      = gated (flat o a s) (fun e => w (ix1 e)) (fun e => b (ix1 e))
          (fun e => flat r a s e * flat k a s e * rk (ix2 (headOf e) (partOf e))) (flat v a s) (fun e => g (ix3 a s e)) n := by
  have h : (rows o r k v g rk w b (ix3 a s n) : EReal)
      = (flat (scaled (centred o)) a s n * w (ix1 n) + b (ix1 n) + flat (bonus r k v rk) a s n) * g (ix3 a s n) := by
    pointwise [flat, rows]
  have hc : flat (centred o) a s = less (flat o a s) := funext fun n => centred_apply o a s n
  rw [h, scaled_apply, bonus_apply, hc]
  rfl

theorem one_bits : (Ideal.ofBits .f32 0x3F800000#32 : EReal) = 1 := by
  simp [Ideal.ofBits, Ideal.ieee]
  rw [← EReal.coe_mul]
  norm_num

theorem gates_apply (z : FVec Ideal S2x8192x11264 .f32) (g : FVec Ideal S4096 .f32) (b : Fin 2) (s : Fin 8192) (n : Fin 4096) :
    (gates z g (ix3 b s n) : EReal) = Ideal.logistic (z (ix3 b s ⟨6144 + n.val, by omega⟩) + g (ix1 n)) := by
  have h : (gates z g (ix3 b s n) : EReal) = Ideal.div (Ideal.ofBits .f32 0x3F800000#32)
      (Ideal.ofBits .f32 0x3F800000#32 + Ideal.exp (-(z (ix3 b s ⟨6144 + n.val, by omega⟩) + g (ix1 n)))) := by
    pointwise [gates]
  rw [h, one_bits]
  rfl

theorem both_apply (s : FVec Ideal S2x8192x4096 .f32) (a y : FVec Ideal S2x8192x1024 .f32) (wa wb : FVec Ideal S1024x2048 .f32)
    (b : Fin 2) (t : Fin 8192) (n : Fin 2048) :
    (both s a y wa wb (ix3 b t n) : EReal)
      = s (ix3 b t ⟨n.val, by omega⟩) * (∑ k : Fin 1024, (a (ix3 b t k) * wa (ix2 k n) : EReal))
        + s (ix3 b t ⟨2048 + n.val, by omega⟩) * (∑ k : Fin 1024, (y (ix3 b t k) * wb (ix2 k n) : EReal)) := by
  pointwise [both]

end Cert.Reference4Ideal.Branches

end
-- ==== Proof.Merging.lean ====
/- The merge's claims: its frames, and that kernel and reference give the same result. -/
module

public import proofs.«01_k».proof.Defs
public import proofs.«01_k».proof.Proof.Gen.Kernel4.Frame
public import proofs.«01_k».proof.Proof.Gen.Pre_finite4
public import proofs.«01_k».proof.Proof.Finite
public import proofs.«01_k».proof.Proof.Branches
public import Idealize.ShloMosaic.Lib.Claim

@[expose] public section

set_option maxRecDepth 16384

noncomputable section

namespace Cert.Kernel4Ideal.Merging

open Idealize.ShloMosaic Idealize.ShloMosaic.TcCoe Idealize.SL.Sem
open Cert.Kernel4Ideal.Merged Cert.Kernel4Ideal.Branch Cert.Reference4Ideal.Branches Cert.KernelIdeal.Math Cert.KernelIdeal.Finite
open Cert.Reference4Ideal (S16384x1024 S16384x2048 S16384x11264 S16x64 S1024 S4096 S1024x2048 S2x8192x1024 S2x8192x2048
  S2x8192x11264 S2x8192x16x64)

theorem kernel_frame : Cert.quiescent_Kernel4 := fun m ρ _ => Cert.Kernel4.Gen.frame m ρ

theorem ideal_frame : Cert.quiescent_Kernel4Ideal := fun m ρ _ => Cert.Kernel4Ideal.Gen.frame m ρ

theorem ideal_frame_finite : Cert.quiescent_Kernel4Ideal_pre_finite4 := fun m ρ _ => Cert.Kernel4Ideal.Gen.frame m ρ

theorem reference_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem reference_frame_finite : Cert.quiescent_Reference4Ideal_pre_finite4 := fun m ρ _ => reference_frame m ρ trivial

theorem preserves : Cert.preserves_Kernel4_Kernel4Ideal := trivial

/-- The precondition says that what the merge sums over a head is real. -/
theorem real (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) : Real m c where
  forward t k := real_of_abs (congrFun (h c).1 (ix2 t k))
  backward t k := real_of_abs (congrFun (h c).2.1 (ix2 t k))
  receptance t k := real_of_abs (congrFun (h c).2.2.1 (ix2 t k))
  key t k := real_of_abs (congrFun (h c).2.2.2.1 (ix2 t k))
  bonus a e := real_of_abs (congrFun (h c).2.2.2.2 (ix2 a e))

theorem split_heads (X : FVec Ideal S16384x1024 .f32) (b : Fin 2) (s : Fin 8192) (h : Fin 16) (e : Fin 64)
    (hc : S16384x1024.ShapeCasts S2x8192x16x64) :
    shapeCast S2x8192x16x64 X hc (ix4 b s h e) = X (ix2 ⟨b.val * 8192 + s.val, by omega⟩ ⟨h.val * 64 + e.val, by omega⟩) := by
  pointwise

theorem split_heads_of_rows (X : FVec Ideal S2x8192x1024 .f32) (b : Fin 2) (s : Fin 8192) (h : Fin 16) (e : Fin 64)
    (hc : S2x8192x1024.ShapeCasts S2x8192x16x64) :
    shapeCast S2x8192x16x64 X hc (ix4 b s h e) = X (ix3 b s ⟨h.val * 64 + e.val, by omega⟩) := by
  pointwise

theorem split_rows (X : FVec Ideal S16384x1024 .f32) (b : Fin 2) (s : Fin 8192) (k : Fin 1024)
    (hc : S16384x1024.ShapeCasts S2x8192x1024) :
    shapeCast S2x8192x1024 X hc (ix3 b s k) = X (ix2 ⟨b.val * 8192 + s.val, by omega⟩ k) := by
  pointwise

theorem split_gate (X : FVec Ideal S16384x11264 .f32) (b : Fin 2) (s : Fin 8192) (k : Fin 11264)
    (hc : S16384x11264.ShapeCasts S2x8192x11264) :
    shapeCast S2x8192x11264 X hc (ix3 b s k) = X (ix2 ⟨b.val * 8192 + s.val, by omega⟩ k) := by
  pointwise

theorem join_rows (X : FVec Ideal S2x8192x2048 .f32) (t : Fin 16384) (n : Fin 2048) (h : S2x8192x2048.ShapeCasts S16384x2048) :
    shapeCast S16384x2048 X h (ix2 t n) = X (ix3 ⟨t.val / 8192, by omega⟩ ⟨t.val % 8192, by omega⟩ n) := by
  pointwise

theorem token_eq (t : Fin 16384) : (⟨t.val / 8192 * 8192 + t.val % 8192, by omega⟩ : Fin 16384) = t :=
  Fin.ext (by simp only []; omega)

theorem channel_eq (n : Fin 1024) : (⟨n.val / 64 * 64 + n.val % 64, by omega⟩ : Fin 1024) = n :=
  Fin.ext (by simp only []; omega)

/-- A token's channels after the split into heads. -/
theorem flat_heads (X : FVec Ideal S16384x1024 .f32) (t : Fin 16384) (hc : S16384x1024.ShapeCasts S2x8192x16x64) :
    flat (shapeCast S2x8192x16x64 X hc) ⟨t.val / 8192, by omega⟩ ⟨t.val % 8192, by omega⟩ = fun n => X (ix2 t n) :=
  funext fun n => (split_heads X _ _ _ _ hc).trans (congrArg₂ (fun t n => X (ix2 t n)) (token_eq t) (channel_eq n))

theorem flat_rows (X : FVec Ideal S16384x1024 .f32) (t : Fin 16384) (h0 : S16384x1024.ShapeCasts S2x8192x1024)
    (h1 : S2x8192x1024.ShapeCasts S2x8192x16x64) :
    flat (shapeCast S2x8192x16x64 (shapeCast S2x8192x1024 X h0) h1) ⟨t.val / 8192, by omega⟩ ⟨t.val % 8192, by omega⟩
      = fun n => X (ix2 t n) :=
  funext fun n => (split_heads_of_rows _ _ _ _ _ h1).trans ((split_rows X _ _ _ h0).trans
    (congrArg₂ (fun t n => X (ix2 t n)) (token_eq t) (channel_eq n)))

theorem row (X : FVec Ideal S16384x1024 .f32) (t : Fin 16384) (k : Fin 1024) (hc : S16384x1024.ShapeCasts S2x8192x1024) :
    shapeCast S2x8192x1024 X hc (ix3 ⟨t.val / 8192, by omega⟩ ⟨t.val % 8192, by omega⟩ k) = X (ix2 t k) :=
  (split_rows X _ _ k hc).trans (congrArg (fun t => X (ix2 t k)) (token_eq t))

theorem gate_row (X : FVec Ideal S16384x11264 .f32) (t : Fin 16384) (k : Fin 11264)
    (hc : S16384x11264.ShapeCasts S2x8192x11264) :
    shapeCast S2x8192x11264 X hc (ix3 ⟨t.val / 8192, by omega⟩ ⟨t.val % 8192, by omega⟩ k) = X (ix2 t k) :=
  (split_gate X _ _ k hc).trans (congrArg (fun t => X (ix2 t k)) (token_eq t))

/-- The reference's branch at a token. -/
theorem branch_token (OF OB R K V G : FVec Ideal S16384x1024 .f32) (RK : FVec Ideal S16x64 .f32) (w b : FVec Ideal S1024 .f32)
    (t : Fin 16384) (k : Fin 1024) (h0 : S16384x1024.ShapeCasts S2x8192x16x64) (h1 : S16384x1024.ShapeCasts S2x8192x1024)
    (h2 : S2x8192x1024.ShapeCasts S2x8192x16x64) :
    (rows (addf (shapeCast S2x8192x16x64 OF h0) (shapeCast S2x8192x16x64 OB h0))
        (shapeCast S2x8192x16x64 (shapeCast S2x8192x1024 R h1) h2) (shapeCast S2x8192x16x64 (shapeCast S2x8192x1024 K h1) h2)
        (shapeCast S2x8192x16x64 (shapeCast S2x8192x1024 V h1) h2) (shapeCast S2x8192x1024 G h1) RK w b
        (ix3 ⟨t.val / 8192, by omega⟩ ⟨t.val % 8192, by omega⟩ k) : EReal)
      = branchOf OF OB R K V G RK w b t k := by
  refine (rows_apply _ _ _ _ _ _ _ _ _ _ k).trans ?_
  have ho : flat (addf (shapeCast S2x8192x16x64 OF h0) (shapeCast S2x8192x16x64 OB h0)) ⟨t.val / 8192, by omega⟩
      ⟨t.val % 8192, by omega⟩ = fun n => (OF (ix2 t n) + OB (ix2 t n) : EReal) :=
    funext fun n => congrArg₂ (· + ·) (congrFun (flat_heads OF t h0) n) (congrFun (flat_heads OB t h0) n)
  have hg : (fun e : Fin 1024 => (shapeCast S2x8192x1024 G h1 (ix3 ⟨t.val / 8192, by omega⟩ ⟨t.val % 8192, by omega⟩ e) : EReal))
      = fun e => G (ix2 t e) := funext fun e => row G t e h1
  rw [ho, flat_rows R t h1 h2, flat_rows K t h1 h2, flat_rows V t h1 h2, hg]
  rfl

/-- The reference's result, from the arrays. -/
def referenceOf (OF OB R K V G A : FVec Ideal S16384x1024 .f32) (Z : FVec Ideal S16384x11264 .f32) (RK : FVec Ideal S16x64 .f32) (w b : FVec Ideal S1024 .f32) (g : FVec Ideal S4096 .f32)
    (WA WB : FVec Ideal S1024x2048 .f32) : FVec Ideal S16384x2048 .f32 :=
  shapeCast S16384x2048 (both
    (gates (shapeCast S2x8192x11264 Z Cert.Reference4Ideal.Gen.shapeCasts_S16384x11264_S2x8192x11264) g)
    (shapeCast S2x8192x1024 A Cert.Reference4Ideal.Gen.shapeCasts_S16384x1024_S2x8192x1024)
    (rows (addf (shapeCast S2x8192x16x64 OF Cert.Reference4Ideal.Gen.shapeCasts_S16384x1024_S2x8192x16x64)
        (shapeCast S2x8192x16x64 OB Cert.Reference4Ideal.Gen.shapeCasts_S16384x1024_S2x8192x16x64))
      (shapeCast S2x8192x16x64 (shapeCast S2x8192x1024 R Cert.Reference4Ideal.Gen.shapeCasts_S16384x1024_S2x8192x1024)
        Cert.Reference4Ideal.Gen.shapeCasts_S2x8192x1024_S2x8192x16x64)
      (shapeCast S2x8192x16x64 (shapeCast S2x8192x1024 K Cert.Reference4Ideal.Gen.shapeCasts_S16384x1024_S2x8192x1024)
        Cert.Reference4Ideal.Gen.shapeCasts_S2x8192x1024_S2x8192x16x64)
      (shapeCast S2x8192x16x64 (shapeCast S2x8192x1024 V Cert.Reference4Ideal.Gen.shapeCasts_S16384x1024_S2x8192x1024)
        Cert.Reference4Ideal.Gen.shapeCasts_S2x8192x1024_S2x8192x16x64)
      (shapeCast S2x8192x1024 G Cert.Reference4Ideal.Gen.shapeCasts_S16384x1024_S2x8192x1024) RK w b) WA WB)
    Cert.Reference4Ideal.Gen.shapeCasts_S2x8192x2048_S16384x2048

theorem reference_apply (OF OB R K V G A : FVec Ideal S16384x1024 .f32) (Z : FVec Ideal S16384x11264 .f32) (RK : FVec Ideal S16x64 .f32) (w b : FVec Ideal S1024 .f32) (g : FVec Ideal S4096 .f32)
    (WA WB : FVec Ideal S1024x2048 .f32)
    (t : Fin 16384) (n : Fin 2048) :
    (referenceOf OF OB R K V G A Z RK w b g WA WB (ix2 t n) : EReal) = mergeOf OF OB R K V G A Z RK w b g WA WB t n := by
  unfold referenceOf mergeOf
  refine (join_rows _ t n _).trans ((both_apply _ _ _ _ _ _ _ n).trans ?_)
  refine congrArg₂ (· + ·) (congrArg₂ (· * ·) ((gates_apply _ _ _ _ _).trans ?_)
      (Finset.sum_congr rfl fun k _ => congrArg (· * (WA (ix2 k n) : EReal)) (row A t k _)))
    (congrArg₂ (· * ·) ((gates_apply _ _ _ _ _).trans ?_)
      (Finset.sum_congr rfl fun k _ => congrArg (· * (WB (ix2 k n) : EReal)) (branch_token OF OB R K V G RK w b t k _ _ _)))
  · exact congrArg (fun x => Ideal.logistic (x + g (ix1 ⟨n.val, by omega⟩))) (gate_row Z t _ _)
  · refine congrArg (fun x => Ideal.logistic (x + g (ix1 ⟨2048 + n.val, by omega⟩))) ((gate_row Z t _ _).trans ?_)
    exact congrArg (fun k => Z (ix2 t k)) (Fin.ext (by simp only []; omega))

/-- From equal arguments the reference's result is the kernel's. -/
theorem same (m : (ℓ : Loc Cert.Kernel4Ideal.nD Cert.Kernel4Ideal.τ Cert.Kernel4Ideal.sig) → Buf (Elt Ideal) ℓ)
    (c : Dev Cert.Kernel4Ideal.nD)
    (OF OB R K V G A : FVec Ideal S16384x1024 .f32) (Z : FVec Ideal S16384x11264 .f32) (RK : FVec Ideal S16x64 .f32) (w b : FVec Ideal S1024 .f32) (g : FVec Ideal S4096 .f32)
    (WA WB : FVec Ideal S1024x2048 .f32)
    (h0 : OF = m ((c.tc : Thread Cert.Kernel4Ideal.nD Cert.Kernel4Ideal.τ).loc Cert.Kernel4Ideal.main_arg0))
    (h1 : OB = m ((c.tc : Thread Cert.Kernel4Ideal.nD Cert.Kernel4Ideal.τ).loc Cert.Kernel4Ideal.main_arg1))
    (h2 : R = m ((c.tc : Thread Cert.Kernel4Ideal.nD Cert.Kernel4Ideal.τ).loc Cert.Kernel4Ideal.main_arg2))
    (h3 : K = m ((c.tc : Thread Cert.Kernel4Ideal.nD Cert.Kernel4Ideal.τ).loc Cert.Kernel4Ideal.main_arg3))
    (h4 : V = m ((c.tc : Thread Cert.Kernel4Ideal.nD Cert.Kernel4Ideal.τ).loc Cert.Kernel4Ideal.main_arg4))
    (h5 : G = m ((c.tc : Thread Cert.Kernel4Ideal.nD Cert.Kernel4Ideal.τ).loc Cert.Kernel4Ideal.main_arg5))
    (h6 : A = m ((c.tc : Thread Cert.Kernel4Ideal.nD Cert.Kernel4Ideal.τ).loc Cert.Kernel4Ideal.main_arg6))
    (h7 : Z = m ((c.tc : Thread Cert.Kernel4Ideal.nD Cert.Kernel4Ideal.τ).loc Cert.Kernel4Ideal.main_arg7))
    (h8 : RK = m ((c.tc : Thread Cert.Kernel4Ideal.nD Cert.Kernel4Ideal.τ).loc Cert.Kernel4Ideal.main_arg8))
    (h9 : w = m ((c.tc : Thread Cert.Kernel4Ideal.nD Cert.Kernel4Ideal.τ).loc Cert.Kernel4Ideal.main_arg9))
    (h10 : b = m ((c.tc : Thread Cert.Kernel4Ideal.nD Cert.Kernel4Ideal.τ).loc Cert.Kernel4Ideal.main_arg10))
    (h11 : g = m ((c.tc : Thread Cert.Kernel4Ideal.nD Cert.Kernel4Ideal.τ).loc Cert.Kernel4Ideal.main_arg11))
    (h12 : WA = m ((c.tc : Thread Cert.Kernel4Ideal.nD Cert.Kernel4Ideal.τ).loc Cert.Kernel4Ideal.main_arg12))
    (h13 : WB = m ((c.tc : Thread Cert.Kernel4Ideal.nD Cert.Kernel4Ideal.τ).loc Cert.Kernel4Ideal.main_arg13)) :
    referenceOf OF OB R K V G A Z RK w b g WA WB = result m c := by
  subst h0 h1 h2 h3 h4 h5 h6 h7 h8 h9 h10 h11 h12 h13
  funext j
  obtain ⟨t, n, rfl⟩ : ∃ (t : Fin 16384) (n : Fin 2048), j = ix2 t n := ⟨j 0, j 1, by
    funext a
    match a with
    | ⟨0, _⟩ => rfl
    | ⟨1, _⟩ => rfl⟩
  exact reference_apply _ _ _ _ _ _ _ _ _ _ _ _ _ _ t n

/-- The reference's result is the one its arrays give. -/
theorem reference_eq (m' : (ℓ : Loc Cert.Reference4Ideal.nD Cert.Reference4Ideal.τ Cert.Reference4Ideal.sig) → Buf (Elt Ideal) ℓ)
    (c : Dev Cert.Reference4Ideal.nD) :
    Cert.Reference4Ideal.Value.res_out0 m' c = referenceOf
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7))
      (m' ((c.tc : Thread Cert.Reference4Ideal.nD Cert.Reference4Ideal.τ).loc Cert.Reference4Ideal.main_arg8))
      (m' ((c.tc : Thread Cert.Reference4Ideal.nD Cert.Reference4Ideal.τ).loc Cert.Reference4Ideal.main_arg9))
      (m' ((c.tc : Thread Cert.Reference4Ideal.nD Cert.Reference4Ideal.τ).loc Cert.Reference4Ideal.main_arg10))
      (m' ((c.tc : Thread Cert.Reference4Ideal.nD Cert.Reference4Ideal.τ).loc Cert.Reference4Ideal.main_arg11))
      (m' ((c.tc : Thread Cert.Reference4Ideal.nD Cert.Reference4Ideal.τ).loc Cert.Reference4Ideal.main_arg12))
      (m' ((c.tc : Thread Cert.Reference4Ideal.nD Cert.Reference4Ideal.τ).loc Cert.Reference4Ideal.main_arg13)) := by
  unfold Cert.Reference4Ideal.Value.res_out0 Cert.Reference4Ideal.Value.res_main_v65
  rfl

theorem algebraic : Cert.algebraic_Kernel4Ideal_Reference4Ideal_pre_finite4 := by
  intro m g m' g' hpre hagree
  refine ⟨fun c => result m c, ?_, ?_⟩
  · refine (θ_run Cert.Kernel4Ideal.defs _ _).mono (fun r h c => ?_) (Cert.Kernel4Ideal.Value.run_blocks (F := Ideal) m g)
    exact ⟨(h c).1.trans (array_eq m c (real m hpre c)), (h c).2⟩
  · refine (θ_run Cert.Reference4Ideal.defs _ _).mono (fun r h c => ?_) (Cert.Reference4Ideal.Value.run m' g')
    obtain ⟨h0, h1, h2, h3, h4, h5, h6, h7, h8, h9, h10, h11, h12, h13⟩ := hagree c
    exact ⟨(h c).1.trans ((reference_eq m' c).trans
      (same m c _ _ _ _ _ _ _ _ _ _ _ _ _ _ h0 h1 h2 h3 h4 h5 h6 h7 h8 h9 h10 h11 h12 h13)), (h c).2⟩

end Cert.Kernel4Ideal.Merging

end
-- ==== Proof.ShiftBody.lean ====
/- The token shift's kernel over the ideal numbers: one run of its body from the blocks it reads, what it leaves in each
   result's block, the run over the whole grid, and that the arguments end as they were. -/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel5Ideal.Body

open Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1680000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 11).trans (((dats 0 c).arrAt_in 11 rfl _).trans ((hA c 11).trans (V_main_arg0 m c))),
      ((h c).2 main_arg1 (Pipeline.mem_restRefs_of main_arg1 (by decide) (by decide))).trans (V_main_arg1 m c),
      ((h c).1 14).trans (((dats 0 c).arrAt_in 14 rfl _).trans ((hA c 14).trans (V_main_arg2 m c))),
      ((h c).2 main_arg3 (Pipeline.mem_restRefs_of main_arg3 (by decide) (by decide))).trans (V_main_arg3 m c),
      ((h c).1 16).trans (((dats 0 c).arrAt_in 16 rfl _).trans ((hA c 16).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

abbrev r0_0 : Rect S2x3072 := Rect.unit (s := S2x3072) ![0, 0] S1x1024.size inb_S2x3072_S1x1024_0_0
abbrev r0_1 : Rect S2x3072 := Rect.unit (s := S2x3072) ![1, 0] S1x1024.size inb_S2x3072_S1x1024_1_0
abbrev r0_2 : Rect S256x1024 := Rect.unit (s := S256x1024) ![0, 0] S256x1024.size inb_S256x1024_S256x1024_0_0
abbrev r0_3 : Rect S8x1024 := Rect.unit (s := S8x1024) ![7, 0] S1x1024.size inb_S8x1024_S1x1024_7_0
abbrev r0_4 : Rect S8x1024 := Rect.unit (s := S8x1024) ![0, 0] S1x1024.size inb_S8x1024_S1x1024_0_0
abbrev r0_5 : Rect S2x3072 := Rect.unit (s := S2x3072) ![0, 1024] S1x1024.size inb_S2x3072_S1x1024_0_1024
abbrev r0_6 : Rect S2x3072 := Rect.unit (s := S2x3072) ![1, 1024] S1x1024.size inb_S2x3072_S1x1024_1_1024
abbrev r0_7 : Rect S2x3072 := Rect.unit (s := S2x3072) ![0, 2048] S1x1024.size inb_S2x3072_S1x1024_0_2048
abbrev r0_8 : Rect S2x3072 := Rect.unit (s := S2x3072) ![1, 2048] S1x1024.size inb_S2x3072_S1x1024_1_2048
abbrev r0_9 : Rect S2x1024 := Rect.unit (s := S2x1024) ![0, 0] S1x1024.size inb_S2x1024_S1x1024_0_0
abbrev r0_10 : Rect S2x1024 := Rect.unit (s := S2x1024) ![1, 0] S1x1024.size inb_S2x1024_S1x1024_1_0
abbrev r0_11 : Rect S2x128x1024 := Rect.unit (s := S2x128x1024) ![0, 0, 0] S1x128x1024.size inb_S2x128x1024_S1x128x1024_0_0_0
abbrev r0_12 : Rect S2x256x1024 := Rect.unit (s := S2x256x1024) ![0, 0, 0] S1x256x1024.size inb_S2x256x1024_S1x256x1024_0_0_0
abbrev r0_13 : Rect S2x128x1024 := Rect.unit (s := S2x128x1024) ![1, 0, 0] S1x128x1024.size inb_S2x128x1024_S1x128x1024_1_0_0
abbrev r0_14 : Rect S2x256x1024 := Rect.unit (s := S2x256x1024) ![1, 0, 0] S1x256x1024.size inb_S2x256x1024_S1x256x1024_1_0_0
abbrev r0_15 : Rect S1x1024 := Rect.unit (s := S1x1024) ![0, 0] S1x1024.size inb_S1x1024_S1x1024_0_0
abbrev r0_16 : Rect S128x128 := Rect.unit (s := S128x128) ![0, 0] S128x128.size inb_S128x128_S128x128_0_0

/-! ## What the body leaves in each output window's buffer -/

/-! ### Values of the body that the stores' payloads, spelt out, would write more than once

    Each is a vector the body binds (often a part call's result), stated over the input windows' blocks and
    numbered on from the skeleton's payload functions (`k0_pay39` …, after `k0_pay38`), so that
    `out0_W` and the values after it name it instead of spelling it out. -/

def k0_pay39 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : IVec S256x1 32 :=
  iota .tc S256x1 32 [0] iota_S256x1_d0_w32 -- `v22`
def k0_pay40 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : FVec F S256x1024 .f32 :=
  k0_pay13 (k0_pay39 i x0 x1 x2 x3 x4 x5 x6 x7 x8 x9 x10 x11 x12 x13 x14 x15 x16 x17 x18 x19 x20) (k0_pay7 (View.ld x12 r0_5)) (k0_pay8 (View.ld x12 r0_6)) (View.ld x1 r0_2) (k0_pay9 (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 31#32) (View.ld x9 r0_4)) (k0_pay10 (View.ld x1 r0_2)) (k0_pay11 (k0_pay39 i x0 x1 x2 x3 x4 x5 x6 x7 x8 x9 x10 x11 x12 x13 x14 x15 x16 x17 x18 x19 x20)) (k0_pay12 (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32) (View.ld x5 r0_3)) -- `v92`
def k0_pay41 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : FVec F S256x1024 .f32 :=
  k0_pay21 (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32) (k0_pay39 i x0 x1 x2 x3 x4 x5 x6 x7 x8 x9 x10 x11 x12 x13 x14 x15 x16 x17 x18 x19 x20) (View.ld x13 r0_9) (View.ld x3 r0_2) (View.ld x7 r0_3) -- `v158`
def k0_pay42 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : FVec F S256x1024 .f32 :=
  k0_pay22 (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 31#32) (k0_pay39 i x0 x1 x2 x3 x4 x5 x6 x7 x8 x9 x10 x11 x12 x13 x14 x15 x16 x17 x18 x19 x20) (View.ld x3 r0_2) (View.ld x11 r0_4) -- `v159`
def k0_pay43 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : FVec F S256x1024 .f32 :=
  k0_pay23 (View.ld x13 r0_10) -- `v160`
def k0_pay44 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : FVec F S256x1024 .f32 :=
  k0_pay24 (k0_pay41 i x0 x1 x2 x3 x4 x5 x6 x7 x8 x9 x10 x11 x12 x13 x14 x15 x16 x17 x18 x19 x20) (k0_pay42 i x0 x1 x2 x3 x4 x5 x6 x7 x8 x9 x10 x11 x12 x13 x14 x15 x16 x17 x18 x19 x20) (k0_pay43 i x0 x1 x2 x3 x4 x5 x6 x7 x8 x9 x10 x11 x12 x13 x14 x15 x16 x17 x18 x19 x20) -- `v162`

/-- Window 21's staging buffer after the body, from the input windows' blocks: its 1 store as pieces, LAST
    FIRST (Lib/Pipeline/FrameBody.lean `View.canon`; the payloads are the skeleton's and the values stated above). -/
def out0_21 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : Vec F S256x1024 .f32 :=
  View.canon [⟨r0_2, k0_pay6 (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 31#32) (k0_pay39 i x0 x1 x2 x3 x4 x5 x6 x7 x8 x9 x10 x11 x12 x13 x14 x15 x16 x17 x18 x19 x20) (k0_pay2 (View.ld x12 r0_0)) (k0_pay3 (View.ld x12 r0_1)) (View.ld x0 r0_2) (k0_pay4 i (View.ld x4 r0_3)) (View.ld x8 r0_4) (k0_pay5 (F := F))⟩]

/-- Its stores tile the buffer (checked by evaluation), so they cover it. -/
theorem cover0_21 (p0 : Vec F S256x1024 .f32) (y : S256x1024.Idx) :
    ∃ pc ∈ ([⟨r0_2, p0⟩] : List (View.Piece (Elt F) S256x1024 .f32)), y ∈ pc.1.set :=
  View.cover_of_tiled [⟨r0_2, p0⟩] S256x1024.size (by rfl) y

/-- Window 22's staging buffer after the body, from the input windows' blocks: its 1 store as pieces, LAST
    FIRST (Lib/Pipeline/FrameBody.lean `View.canon`; the payloads are the skeleton's and the values stated above). -/
def out0_22 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : Vec F S256x1024 .f32 :=
  View.canon [⟨r0_2, k0_pay40 i x0 x1 x2 x3 x4 x5 x6 x7 x8 x9 x10 x11 x12 x13 x14 x15 x16 x17 x18 x19 x20⟩]

/-- Its stores tile the buffer (checked by evaluation), so they cover it. -/
theorem cover0_22 (p0 : Vec F S256x1024 .f32) (y : S256x1024.Idx) :
    ∃ pc ∈ ([⟨r0_2, p0⟩] : List (View.Piece (Elt F) S256x1024 .f32)), y ∈ pc.1.set :=
  View.cover_of_tiled [⟨r0_2, p0⟩] S256x1024.size (by rfl) y

/-- Window 23's staging buffer after the body, from the input windows' blocks: its 1 store as pieces, LAST
    FIRST (Lib/Pipeline/FrameBody.lean `View.canon`; the payloads are the skeleton's and the values stated above). -/
def out0_23 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : Vec F S256x1024 .f32 :=
  View.canon [⟨r0_2, k0_pay20 (k0_pay14 (View.ld x12 r0_7)) (k0_pay15 (View.ld x12 r0_8)) (View.ld x2 r0_2) (k0_pay16 (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 31#32) (View.ld x10 r0_4)) (k0_pay17 (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32) (k0_pay39 i x0 x1 x2 x3 x4 x5 x6 x7 x8 x9 x10 x11 x12 x13 x14 x15 x16 x17 x18 x19 x20) (View.ld x2 r0_2) (View.ld x6 r0_3)) (k0_pay18 (View.ld x2 r0_2)) (k0_pay19 (k0_pay39 i x0 x1 x2 x3 x4 x5 x6 x7 x8 x9 x10 x11 x12 x13 x14 x15 x16 x17 x18 x19 x20))⟩]

/-- Its stores tile the buffer (checked by evaluation), so they cover it. -/
theorem cover0_23 (p0 : Vec F S256x1024 .f32) (y : S256x1024.Idx) :
    ∃ pc ∈ ([⟨r0_2, p0⟩] : List (View.Piece (Elt F) S256x1024 .f32)), y ∈ pc.1.set :=
  View.cover_of_tiled [⟨r0_2, p0⟩] S256x1024.size (by rfl) y

/-- Window 24's staging buffer after the body, from the input windows' blocks: its 1 store as pieces, LAST
    FIRST (Lib/Pipeline/FrameBody.lean `View.canon`; the payloads are the skeleton's and the values stated above). -/
def out0_24 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : Vec F S256x1024 .f32 :=
  View.canon [⟨r0_2, k0_pay1 (k0_pay33 (k0_pay40 i x0 x1 x2 x3 x4 x5 x6 x7 x8 x9 x10 x11 x12 x13 x14 x15 x16 x17 x18 x19 x20) (View.ld x19 r0_15)) (k0_pay38 (k0_pay34 (k0_pay40 i x0 x1 x2 x3 x4 x5 x6 x7 x8 x9 x10 x11 x12 x13 x14 x15 x16 x17 x18 x19 x20) (View.ld x19 r0_15)) (k0_pay35 (View.ld x20 r0_16)) (k0_pay36 (k0_pay40 i x0 x1 x2 x3 x4 x5 x6 x7 x8 x9 x10 x11 x12 x13 x14 x15 x16 x17 x18 x19 x20) (View.ld x19 r0_15)) (k0_pay37 (k0_pay40 i x0 x1 x2 x3 x4 x5 x6 x7 x8 x9 x10 x11 x12 x13 x14 x15 x16 x17 x18 x19 x20) (View.ld x19 r0_15)))⟩]

/-- Its stores tile the buffer (checked by evaluation), so they cover it. -/
theorem cover0_24 (p0 : Vec F S256x1024 .f32) (y : S256x1024.Idx) :
    ∃ pc ∈ ([⟨r0_2, p0⟩] : List (View.Piece (Elt F) S256x1024 .f32)), y ∈ pc.1.set :=
  View.cover_of_tiled [⟨r0_2, p0⟩] S256x1024.size (by rfl) y

/-- Window 25's staging buffer after the body, from the input windows' blocks: its 2 stores as pieces, LAST
    FIRST (Lib/Pipeline/FrameBody.lean `View.canon`; the payloads are the skeleton's and the values stated above). -/
def out0_25 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : Vec F S2x256x1024 .f32 :=
  View.canon [⟨r0_14, k0_pay31 (k0_pay44 i x0 x1 x2 x3 x4 x5 x6 x7 x8 x9 x10 x11 x12 x13 x14 x15 x16 x17 x18 x19 x20) (View.ld x16 r0_10) (View.ld x17 r0_13)⟩,
    ⟨r0_12, k0_pay27 (k0_pay44 i x0 x1 x2 x3 x4 x5 x6 x7 x8 x9 x10 x11 x12 x13 x14 x15 x16 x17 x18 x19 x20) (View.ld x16 r0_9) (View.ld x17 r0_11)⟩]

/-- Its stores tile the buffer (checked by evaluation), so they cover it. -/
theorem cover0_25 (p0 : Vec F S1x256x1024 .f32) (p1 : Vec F S1x256x1024 .f32) (y : S2x256x1024.Idx) :
    ∃ pc ∈ ([⟨r0_14, p0⟩, ⟨r0_12, p1⟩] : List (View.Piece (Elt F) S2x256x1024 .f32)), y ∈ pc.1.set :=
  View.cover_of_tiled [⟨r0_14, p0⟩, ⟨r0_12, p1⟩] S1x256x1024.size (by rfl) y

/-- Window 26's staging buffer after the body, from the input windows' blocks: its 2 stores as pieces, LAST
    FIRST (Lib/Pipeline/FrameBody.lean `View.canon`; the payloads are the skeleton's and the values stated above). -/
def out0_26 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : Vec F S2x256x1024 .f32 :=
  View.canon [⟨r0_14, k0_pay30 (k0_pay28 (k0_pay44 i x0 x1 x2 x3 x4 x5 x6 x7 x8 x9 x10 x11 x12 x13 x14 x15 x16 x17 x18 x19 x20) (View.ld x14 r0_10) (View.ld x15 r0_13)) (k0_pay29 (F := F))⟩,
    ⟨r0_12, k0_pay26 (k0_pay25 (k0_pay41 i x0 x1 x2 x3 x4 x5 x6 x7 x8 x9 x10 x11 x12 x13 x14 x15 x16 x17 x18 x19 x20) (k0_pay42 i x0 x1 x2 x3 x4 x5 x6 x7 x8 x9 x10 x11 x12 x13 x14 x15 x16 x17 x18 x19 x20) (k0_pay43 i x0 x1 x2 x3 x4 x5 x6 x7 x8 x9 x10 x11 x12 x13 x14 x15 x16 x17 x18 x19 x20) (View.ld x14 r0_9) (View.ld x15 r0_11))⟩]

/-- Its stores tile the buffer (checked by evaluation), so they cover it. -/
theorem cover0_26 (p0 : Vec F S1x256x1024 .f32) (p1 : Vec F S1x256x1024 .f32) (y : S2x256x1024.Idx) :
    ∃ pc ∈ ([⟨r0_14, p0⟩, ⟨r0_12, p1⟩] : List (View.Piece (Elt F) S2x256x1024 .f32)), y ∈ pc.1.set :=
  View.cover_of_tiled [⟨r0_14, p0⟩, ⟨r0_12, p1⟩] S1x256x1024.size (by rfl) y

/-- Window 27's staging buffer after the body, from the input windows' blocks: its 1 store as pieces, LAST
    FIRST (Lib/Pipeline/FrameBody.lean `View.canon`; the payloads are the skeleton's and the values stated above). -/
def out0_27 (i : grid0.Coords) (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) : Vec F S256x1024 .f32 :=
  View.canon [⟨r0_2, k0_pay32 (k0_pay44 i x0 x1 x2 x3 x4 x5 x6 x7 x8 x9 x10 x11 x12 x13 x14 x15 x16 x17 x18 x19 x20) (View.ld x18 r0_2)⟩]

/-- Its stores tile the buffer (checked by evaluation), so they cover it. -/
theorem cover0_27 (p0 : Vec F S256x1024 .f32) (y : S256x1024.Idx) :
    ∃ pc ∈ ([⟨r0_2, p0⟩] : List (View.Piece (Elt F) S256x1024 .f32)), y ∈ pc.1.set :=
  View.cover_of_tiled [⟨r0_2, p0⟩] S256x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S2x3072 .f32) (harg13 : arg13.IsWhole) (arg14 : Memref sig .tc .vmem S2x1024 .f32) (harg14 : arg14.IsWhole) (arg15 : Memref sig .tc .vmem S2x1024 .f32) (harg15 : arg15.IsWhole) (arg16 : Memref sig .tc .vmem S2x128x1024 .bf16) (harg16 : arg16.IsWhole) (arg17 : Memref sig .tc .vmem S2x1024 .f32) (harg17 : arg17.IsWhole) (arg18 : Memref sig .tc .vmem S2x128x1024 .bf16) (harg18 : arg18.IsWhole) (arg19 : Memref sig .tc .vmem S256x1024 .bf16) (harg19 : arg19.IsWhole) (arg20 : Memref sig .tc .vmem S1x1024 .f32) (harg20 : arg20.IsWhole) (arg21 : Memref sig .tc .vmem S128x128 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S2x256x1024 .f32) (harg26 : arg26.IsWhole) (arg27 : Memref sig .tc .vmem S2x256x1024 .f32) (harg27 : arg27.IsWhole) (arg28 : Memref sig .tc .vmem S256x1024 .f32) (harg28 : arg28.IsWhole)
    (x0 : Vec F S256x1024 .f32) (x1 : Vec F S256x1024 .f32) (x2 : Vec F S256x1024 .f32) (x3 : Vec F S256x1024 .f32) (x4 : Vec F S8x1024 .f32) (x5 : Vec F S8x1024 .f32) (x6 : Vec F S8x1024 .f32) (x7 : Vec F S8x1024 .f32) (x8 : Vec F S8x1024 .f32) (x9 : Vec F S8x1024 .f32) (x10 : Vec F S8x1024 .f32) (x11 : Vec F S8x1024 .f32) (x12 : Vec F S2x3072 .f32) (x13 : Vec F S2x1024 .f32) (x14 : Vec F S2x1024 .f32) (x15 : Vec F S2x128x1024 .bf16) (x16 : Vec F S2x1024 .f32) (x17 : Vec F S2x128x1024 .bf16) (x18 : Vec F S256x1024 .bf16) (x19 : Vec F S1x1024 .f32) (x20 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 i x0 x1 x2 x3 x4 x5 x6 x7 x8 x9 x10 x11 x12 x13 x14 x15 x16 x17 x18 x19 x20) ∗ owns (c : Thread nD τ) arg23 fullShare (out0_22 i x0 x1 x2 x3 x4 x5 x6 x7 x8 x9 x10 x11 x12 x13 x14 x15 x16 x17 x18 x19 x20) ∗ owns (c : Thread nD τ) arg24 fullShare (out0_23 i x0 x1 x2 x3 x4 x5 x6 x7 x8 x9 x10 x11 x12 x13 x14 x15 x16 x17 x18 x19 x20) ∗ owns (c : Thread nD τ) arg25 fullShare (out0_24 i x0 x1 x2 x3 x4 x5 x6 x7 x8 x9 x10 x11 x12 x13 x14 x15 x16 x17 x18 x19 x20) ∗ owns (c : Thread nD τ) arg26 fullShare (out0_25 i x0 x1 x2 x3 x4 x5 x6 x7 x8 x9 x10 x11 x12 x13 x14 x15 x16 x17 x18 x19 x20) ∗ owns (c : Thread nD τ) arg27 fullShare (out0_26 i x0 x1 x2 x3 x4 x5 x6 x7 x8 x9 x10 x11 x12 x13 x14 x15 x16 x17 x18 x19 x20) ∗ owns (c : Thread nD τ) arg28 fullShare (out0_27 i x0 x1 x2 x3 x4 x5 x6 x7 x8 x9 x10 x11 x12 x13 x14 x15 x16 x17 x18 x19 x20)) -∗ K ⟨⟩))
      ⊢ wp frame (wpE (defs₀ (F := F)) Variants.none c none) E (cc0_rwkv_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_rwkv_prep_eq_skeleton]; unfold cc0_rwkv_prep_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _ _)).trans ?_
    rfl
  isplitl [H26]
  · iexists _; isplitr
    swap; · iexact H26
    ipureintro
    refine (View.read_writes_eq_canon _ _ _ (cover0_26 _ _)).trans ?_
    rfl
  iexists _; isplitr
  swap; · iexact H27
  ipureintro
  refine (View.read_writes_eq_canon _ _ _ (cover0_27 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 28, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 3200000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel5Ideal.Body

end
-- ==== Proof.ShiftRun.lean ====
/- The token shift's kernel over the whole grid: its seven results named by their blocks, its arguments as they were. -/
module

public import proofs.«01_k».proof.Proof.ShiftBody
public import Idealize.ShloMosaic.Lib.Pipeline.Value

@[expose] public section

noncomputable section

namespace Cert.Kernel5Ideal.Body

open Cert.Kernel5Ideal Cert.Kernel5Ideal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- Every run ends with each result the array its blocks make up, and with the arguments unchanged. -/
theorem run_blocks : θ_run defs (onTc (τ := τ) (main (F := F))) ⟨m, fun _ => 0, ρ⟩ fun r => ∀ c : Dev nD,
      r.2.mem ((c : Thread nD τ).loc main_v27_0) = (dats m 0 c).arrAt 21 cfg0.N
      ∧ r.2.mem ((c : Thread nD τ).loc main_v27_1) = (dats m 0 c).arrAt 22 cfg0.N
      ∧ r.2.mem ((c : Thread nD τ).loc main_v27_2) = (dats m 0 c).arrAt 23 cfg0.N
      ∧ r.2.mem ((c : Thread nD τ).loc main_v27_3) = (dats m 0 c).arrAt 24 cfg0.N
      ∧ r.2.mem ((c : Thread nD τ).loc main_v27_4) = (dats m 0 c).arrAt 25 cfg0.N
      ∧ r.2.mem ((c : Thread nD τ).loc main_v27_5) = (dats m 0 c).arrAt 26 cfg0.N
      ∧ r.2.mem ((c : Thread nD τ).loc main_v27_6) = (dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (θ_run_and (run_main m ρ) (unchanged m ρ))
  exact ⟨(h.1 c).1 21, (h.1 c).1 22, (h.1 c).1 23, (h.1 c).1 24, (h.1 c).1 25, (h.1 c).1 26, (h.1 c).1 27, h.2 c⟩

end Cert.Kernel5Ideal.Body

end
-- ==== Proof.Shift.lean ====
/- The token shift's kernel: one block of rows mixed with the rows before and after them. -/
module

public import proofs.«01_k».proof.Proof.ShiftBody
public import Idealize.ShloMosaic.Lib.KernelVsHost
public import Idealize.ShloMosaic.Lib.Pipeline.ValueKit

@[expose] public section

set_option maxRecDepth 16384

noncomputable section

namespace Cert.Kernel5Ideal.Shift

open Cert.Kernel5Ideal Cert.Kernel5Ideal.Gen Idealize.ShloMosaic Idealize.ShloMosaic.TcCoe Idealize.SL.Sem

/-- Column `q` of token `t`, mixed with the tokens before and after it in its sequence; a sequence has 8192 tokens, and
    what lies outside it counts as zero. -/
def moved (Z : S16384x11264.Idx → EReal) (a b : EReal) (t : Fin 16384) (q : Fin 11264) : EReal :=
  Z (ix2 t q)
    + a * ((if t.val % 8192 = 0 then 0 else Z (ix2 ⟨t.val - 1, by omega⟩ q)) - Z (ix2 t q))
    + b * ((if h : t.val % 8192 = 8191 then 0 else Z (ix2 ⟨t.val + 1, by omega⟩ q)) - Z (ix2 t q))

theorem t_lt (t : Fin cfg0.N) : t.val < 64 := t.isLt

/-- Row `r` of the block of grid point `t`. -/
def tokenOf (t : Fin cfg0.N) (r : Fin 256) : Fin 16384 := ⟨t.val * 256 + r.val, by have := t_lt t; omega⟩

/-- The rows' numbers. -/
def rows : IVec S256x1 32 := iota .tc S256x1 32 [0] iota_S256x1_d0_w32

/-- The block's number within its sequence: the grid point's remainder by 32. -/
def place (i : grid0.Coords) : BitVec 32 :=
  Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))

theorem first_block : ∀ t : Fin cfg0.N, Scalar.cmpi .eq (place (grid0.coords t)) 0#32 = if t.val % 32 = 0 then 1#1 else 0#1 :=
  (by decide +kernel : ∀ t : Fin grid0.N, _)

theorem last_block : ∀ t : Fin cfg0.N, Scalar.cmpi .eq (place (grid0.coords t)) 31#32 = if t.val % 32 = 31 then 1#1 else 0#1 :=
  (by decide +kernel : ∀ t : Fin grid0.N, _)

theorem first_row : ∀ r : Fin 256, IntOp.cmpi .eq (BitVec.ofNat 32 r.val) 0#32 = if r.val = 0 then 1#1 else 0#1 := by
  decide +kernel

theorem last_row : ∀ r : Fin 256, IntOp.cmpi .eq (BitVec.ofNat 32 r.val) 255#32 = if r.val = 255 then 1#1 else 0#1 := by
  decide +kernel

theorem first_apply (r : Fin 256) (n : Fin 1024) : k0_pay11 rows (ix2 r n) = if r.val = 0 then 1#1 else 0#1 := by
  have h : k0_pay11 rows (ix2 r n) = IntOp.cmpi .eq (BitVec.ofNat 32 r.val) 0#32 := by pointwise [k0_pay11, rows]
  rw [h, first_row]

theorem last_apply (r : Fin 256) (n : Fin 1024) : k0_pay19 rows (ix2 r n) = if r.val = 255 then 1#1 else 0#1 := by
  have h : k0_pay19 rows (ix2 r n) = IntOp.cmpi .eq (BitVec.ofNat 32 r.val) 255#32 := by pointwise [k0_pay19, rows]
  rw [h, last_row]

theorem back_apply (y : Vec Ideal S256x1024 .f32) (r : Fin 256) (n : Fin 1024) (h : r.val ≠ 0) :
    k0_pay10 y (ix2 r n) = y (ix2 ⟨r.val - 1, by omega⟩ n) :=
  dynamicRotate_apply _ _ _ rotates_S256x1024_d0 _ _ fun b => match b with
    | ⟨0, _⟩ => by
      show r.val - 1 = (r.val + 256 - 1 % 256) % 256
      omega
    | ⟨1, _⟩ => rfl

theorem ahead_apply (y : Vec Ideal S256x1024 .f32) (r : Fin 256) (n : Fin 1024) (h : r.val ≠ 255) :
    k0_pay18 y (ix2 r n) = y (ix2 ⟨r.val + 1, by omega⟩ n) :=
  dynamicRotate_apply _ _ _ rotates_S256x1024_d0 _ _ fun b => match b with
    | ⟨0, _⟩ => by
      show r.val + 1 = (r.val + 256 - 255 % 256) % 256
      omega
    | ⟨1, _⟩ => rfl

/-- The rows before: the block's, one further down, and above them the last row of the block before. -/
def before (i : grid0.Coords) (y : Vec Ideal S256x1024 .f32) (p : Vec Ideal S1x1024 .f32) : FVec Ideal S256x1024 .f32 :=
  select (k0_pay11 rows)
    (broadcastTo S256x1024 (k0_pay12 (Scalar.cmpi .eq (place i) 0#32) p) broadcasts_S1x1024_S256x1024) (k0_pay10 y)

/-- The rows after: the block's, one further up, and below them the first row of the block after. -/
def later (i : grid0.Coords) (y : Vec Ideal S256x1024 .f32) (q : Vec Ideal S1x1024 .f32) : FVec Ideal S256x1024 .f32 :=
  select (k0_pay19 rows)
    (broadcastTo S256x1024 (shapeCast S1x1024 (k0_pay16 (Scalar.cmpi .eq (place i) 31#32) q) shapeCasts_S1x1024_S1x1024)
      broadcasts_S1x1024_S256x1024) (k0_pay18 y)

/-- The block mixed with the rows before and the rows after. -/
def shifted (i : grid0.Coords) (a b : Vec Ideal S1x1024 .f32) (y : Vec Ideal S256x1024 .f32) (p q : Vec Ideal S1x1024 .f32) :
    FVec Ideal S256x1024 .f32 :=
  addf (addf y (mulf (broadcastTo S256x1024 (k0_pay2 a) broadcasts_S1x1024_S256x1024) (subf (before i y p) y)))
    (mulf (broadcastTo S256x1024 (k0_pay2 b) broadcasts_S1x1024_S256x1024) (subf (later i y q) y))

theorem edge_before (b : BitVec 1) (p : Vec Ideal S1x1024 .f32) (r : Fin 256) (n : Fin 1024) :
    (broadcastTo S256x1024 (k0_pay12 b p) broadcasts_S1x1024_S256x1024 (ix2 r n) : EReal) = if b = 1#1 then 0 else p (ix2 0 n) := by
  by_cases h : b = 1#1
  · subst h
    rw [if_pos rfl]
    have e : k0_pay12 (1#1) p = shapeCast S1x1024 (broadcast S1x1024 (Scalar.ofBits .f32 0x00000000#32)) shapeCasts_S1x1024_S1x1024 := rfl
    rw [e]
    pointwise
  · rw [if_neg h]
    have e : k0_pay12 b p = shapeCast S1x1024 p shapeCasts_S1x1024_S1x1024 := by
      unfold k0_pay12 Scalar.select
      simp only []
      rw [if_neg (show ¬ b = 1 from h)]
    rw [e]
    pointwise

theorem edge_later (b : BitVec 1) (p : Vec Ideal S1x1024 .f32) (r : Fin 256) (n : Fin 1024) :
    (broadcastTo S256x1024 (shapeCast S1x1024 (k0_pay16 b p) shapeCasts_S1x1024_S1x1024)
      broadcasts_S1x1024_S256x1024 (ix2 r n) : EReal) = if b = 1#1 then 0 else p (ix2 0 n) := edge_before b p r n

theorem before_apply (t : Fin cfg0.N) (y : Vec Ideal S256x1024 .f32) (p : Vec Ideal S1x1024 .f32) (r : Fin 256) (n : Fin 1024) :
    (before (grid0.coords t) y p (ix2 r n) : EReal)
      = if r.val = 0 then (if t.val % 32 = 0 then 0 else p (ix2 0 n)) else y (ix2 ⟨r.val - 1, by omega⟩ n) := by
  unfold before
  show Scalar.select (k0_pay11 rows (ix2 r n)) _ _ = _
  rw [first_apply]
  by_cases h : r.val = 0
  · rw [if_pos h, if_pos h]
    refine (if_pos rfl).trans ((edge_before _ p r n).trans ?_)
    rw [first_block]
    by_cases g : t.val % 32 = 0
    · rw [if_pos g, if_pos g, if_pos rfl]
    · rw [if_neg g, if_neg g, if_neg (by decide)]
  · rw [if_neg h, if_neg h]
    exact (if_neg (by decide)).trans (back_apply y r n h)

theorem later_apply (t : Fin cfg0.N) (y : Vec Ideal S256x1024 .f32) (p : Vec Ideal S1x1024 .f32) (r : Fin 256) (n : Fin 1024) :
    (later (grid0.coords t) y p (ix2 r n) : EReal)
      = if h : r.val = 255 then (if t.val % 32 = 31 then 0 else p (ix2 0 n)) else y (ix2 ⟨r.val + 1, by omega⟩ n) := by
  unfold later
  show Scalar.select (k0_pay19 rows (ix2 r n)) _ _ = _
  rw [last_apply]
  by_cases h : r.val = 255
  · rw [if_pos h, dif_pos h]
    refine (if_pos rfl).trans ((edge_later _ p r n).trans ?_)
    rw [last_block]
    by_cases g : t.val % 32 = 31
    · rw [if_pos g, if_pos g, if_pos rfl]
    · rw [if_neg g, if_neg g, if_neg (by decide)]
  · rw [if_neg h, dif_neg h]
    exact (if_neg (by decide)).trans (ahead_apply y r n h)

theorem shifted_apply (i : grid0.Coords) (a b : Vec Ideal S1x1024 .f32) (y : Vec Ideal S256x1024 .f32) (p q : Vec Ideal S1x1024 .f32)
    (r : Fin 256) (n : Fin 1024) :
    (shifted i a b y p q (ix2 r n) : EReal)
      = y (ix2 r n) + a (ix2 0 n) * (before i y p (ix2 r n) - y (ix2 r n))
        + b (ix2 0 n) * (later i y q (ix2 r n) - y (ix2 r n)) := by
  pointwise [shifted, k0_pay2]

/-- A block read from the columns of `Z`, with its edge rows, mixes as its tokens do. -/
theorem shifted_moved (Z : S16384x11264.Idx → EReal) (t : Fin cfg0.N) (a b : Vec Ideal S1x1024 .f32) (y : Vec Ideal S256x1024 .f32)
    (p q : Vec Ideal S1x1024 .f32) (n : Fin 1024) (k : Fin 11264)
    (hy : ∀ r : Fin 256, (y (ix2 r n) : EReal) = Z (ix2 (tokenOf t r) k))
    (hp : t.val % 32 ≠ 0 → (p (ix2 0 n) : EReal) = Z (ix2 ⟨t.val * 256 - 1, by have := t_lt t; omega⟩ k))
    (hq : (h : t.val % 32 ≠ 31) → (q (ix2 0 n) : EReal) = Z (ix2 ⟨t.val * 256 + 256, by have := t_lt t; omega⟩ k)) (r : Fin 256) :
    (shifted (grid0.coords t) a b y p q (ix2 r n) : EReal) = moved Z (a (ix2 0 n)) (b (ix2 0 n)) (tokenOf t r) k := by
  rw [shifted_apply, before_apply, later_apply, hy]
  have ht := t_lt t
  have hr := r.isLt
  have e1 : (if r.val = 0 then (if t.val % 32 = 0 then (0 : EReal) else p (ix2 0 n)) else y (ix2 ⟨r.val - 1, by omega⟩ n))
      = if (tokenOf t r).val % 8192 = 0 then 0 else Z (ix2 ⟨(tokenOf t r).val - 1, by omega⟩ k) := by
    by_cases h : r.val = 0
    · rw [if_pos h]
      by_cases g : t.val % 32 = 0
      · rw [if_pos g, if_pos (by unfold tokenOf; simp only []; omega)]
      · rw [if_neg g, if_neg (by unfold tokenOf; simp only []; omega), hp g]
        exact congrArg (fun x => Z (ix2 x k)) (Fin.ext (by unfold tokenOf; simp only []; omega))
    · rw [if_neg h, if_neg (by unfold tokenOf; simp only []; omega), hy]
      exact congrArg (fun x => Z (ix2 x k)) (Fin.ext (by unfold tokenOf; simp only []; omega))
  have e2 : (if h : r.val = 255 then (if t.val % 32 = 31 then (0 : EReal) else q (ix2 0 n)) else y (ix2 ⟨r.val + 1, by omega⟩ n))
      = if h : (tokenOf t r).val % 8192 = 8191 then 0 else Z (ix2 ⟨(tokenOf t r).val + 1, by omega⟩ k) := by
    by_cases h : r.val = 255
    · rw [dif_pos h]
      by_cases g : t.val % 32 = 31
      · rw [if_pos g, dif_pos (by unfold tokenOf; simp only []; omega)]
      · rw [if_neg g, dif_neg (by unfold tokenOf; simp only []; omega), hq g]
        exact congrArg (fun x => Z (ix2 x k)) (Fin.ext (by unfold tokenOf; simp only []; omega))
    · rw [dif_neg h, dif_neg (by unfold tokenOf; simp only []; omega), hy]
      exact congrArg (fun x => Z (ix2 x k)) (Fin.ext (by unfold tokenOf; simp only []; omega))
  rw [e1, e2]
  rfl

end Cert.Kernel5Ideal.Shift

end
-- ==== Proof.LowRank.lean ====
/- The token shift's kernel: the products of the low-rank columns, and its seven results from the blocks it reads. -/
module

public import proofs.«01_k».proof.Proof.Shift
public import proofs.«01_k».proof.Proof.Heads

@[expose] public section

set_option maxRecDepth 16384

noncomputable section

namespace Cert.Kernel5Ideal.LowRank

open Cert.Kernel5Ideal Cert.Kernel5Ideal.Gen Cert.Kernel5Ideal.Body Cert.Kernel5Ideal.Shift
open Idealize.ShloMosaic Idealize.ShloMosaic.TcCoe Idealize.SL.Sem
open Cert.Kernel4Ideal.Heads (headSum IsHeads sums sums_apply)
open Cert.KernelIdeal.Math (IsReal)

/-- The logarithm of the decay of an activation: minus the exponential of minus its negative's softplus, less one half. -/
def decay (x : EReal) : EReal :=
  0 - Ideal.exp (0 - (max (0 - x) 0 + Ideal.log (1 + Ideal.exp (0 - max (0 - x) (-(0 - x))))) - Ideal.ofBits .f32 0x3F000000#32)

theorem decay_first (a b c : FVec Ideal S256x1024 .f32) (w : Vec Ideal S1x1024 .f32) (W : Vec Ideal S1x128x1024 .bf16) (r : Fin 256)
    (n : Fin 1024) :
    (k0_pay26 (k0_pay25 a b c w W) (ix3 0 r n) : EReal)
      = decay (w (ix2 0 n) + ∑ e : Fin 128, Ideal.tanh (k0_pay24 a b c (ix2 r ⟨0 + e.val, by omega⟩)) * W (ix3 0 e n)) := by
  have h : (k0_pay26 (k0_pay25 a b c w W) (ix3 0 r n) : EReal) = k0_pay25 a b c w W (ix2 r n) := by pointwise [k0_pay26]
  rw [h]
  unfold decay
  pointwise [k0_pay25]
  rfl

theorem decay_second (l : FVec Ideal S256x1024 .f32) (w : Vec Ideal S1x1024 .f32) (W : Vec Ideal S1x128x1024 .bf16) (r : Fin 256)
    (n : Fin 1024) :
    (k0_pay30 (k0_pay28 l w W) k0_pay29 (ix3 0 r n) : EReal)
      = decay (w (ix2 0 n) + ∑ e : Fin 128, Ideal.tanh (l (ix2 r ⟨128 + e.val, by omega⟩)) * W (ix3 0 e n)) := by
  unfold decay
  pointwise [k0_pay30, k0_pay28, k0_pay29]
  rfl

theorem rate_first (l : FVec Ideal S256x1024 .f32) (w : Vec Ideal S1x1024 .f32) (W : Vec Ideal S1x128x1024 .bf16) (r : Fin 256)
    (n : Fin 1024) :
    (k0_pay27 l w W (ix3 0 r n) : EReal)
      = Ideal.logistic (w (ix2 0 n) + ∑ e : Fin 128, l (ix2 r ⟨256 + e.val, by omega⟩) * W (ix3 0 e n)) := by
  pointwise [k0_pay27]

theorem rate_second (l : FVec Ideal S256x1024 .f32) (w : Vec Ideal S1x1024 .f32) (W : Vec Ideal S1x128x1024 .bf16) (r : Fin 256)
    (n : Fin 1024) :
    (k0_pay31 l w W (ix3 0 r n) : EReal)
      = Ideal.logistic (w (ix2 0 n) + ∑ e : Fin 128, l (ix2 r ⟨384 + e.val, by omega⟩) * W (ix3 0 e n)) := by
  pointwise [k0_pay31]

theorem gate_apply (l : FVec Ideal S256x1024 .f32) (W : Vec Ideal S256x1024 .bf16) (r : Fin 256) (n : Fin 1024) :
    (k0_pay32 l W (ix2 r n) : EReal)
      = ∑ e : Fin 256, Ideal.logistic (l (ix2 r ⟨512 + e.val, by omega⟩)) * W (ix2 e n) := by
  pointwise [k0_pay32]

/-- The keys, scaled and brought to length one over each head. -/
def unit (k : FVec Ideal S256x1024 .f32) (w : Vec Ideal S1x1024 .f32) (hs : Vec Ideal S128x128 .bf16) : FVec Ideal S256x1024 .f32 :=
  k0_pay1 (k0_pay33 k w) (k0_pay38 (k0_pay34 k w) (k0_pay35 hs) (k0_pay36 k w) (k0_pay37 k w))

theorem scaled_apply (k : FVec Ideal S256x1024 .f32) (w : Vec Ideal S1x1024 .f32) (r : Fin 256) (n : Fin 1024) :
    (k0_pay33 k w (ix2 r n) : EReal) = k (ix2 r n) * w (ix2 0 n) := by
  pointwise [k0_pay33]

theorem heads_apply (hs : Vec Ideal S128x128 .bf16) (e x : Fin 128) : k0_pay35 hs (ix2 e x) = hs (ix2 e x) := by
  pointwise [k0_pay35]

theorem lengths (k : FVec Ideal S256x1024 .f32) (w : Vec Ideal S1x1024 .f32) (hs : Vec Ideal S128x128 .bf16) :
    k0_pay38 (k0_pay34 k w) (k0_pay35 hs) (k0_pay36 k w) (k0_pay37 k w)
      = sqrt (sums (mulf (k0_pay33 k w) (k0_pay33 k w)) (k0_pay35 hs)) := rfl

/-- A channel over its head's length, or over a small constant where that is more. -/
def unitOf (x : Fin 1024 → EReal) (n : Fin 1024) : EReal :=
  Ideal.div (x n) (max (Ideal.sqrt (headSum (fun n => x n * x n) n)) (Ideal.ofBits .f32 0x2B8CBCCC#32))

theorem unit_apply (k : FVec Ideal S256x1024 .f32) (w : Vec Ideal S1x1024 .f32) (hs : Vec Ideal S128x128 .bf16)
    (hh : IsHeads (k0_pay35 hs)) (r : Fin 256) (hx : ∀ n, IsReal (k (ix2 r n) * w (ix2 0 n))) (n : Fin 1024) :
    (unit k w hs (ix2 r n) : EReal) = unitOf (fun n => k (ix2 r n) * w (ix2 0 n)) n := by
  unfold unit unitOf
  rw [lengths]
  have e : (sums (mulf (k0_pay33 k w) (k0_pay33 k w)) (k0_pay35 hs) (ix2 r n) : EReal)
      = headSum (fun n => k (ix2 r n) * w (ix2 0 n) * (k (ix2 r n) * w (ix2 0 n))) n := by
    refine (sums_apply _ _ hh r (fun n => ?_) n).trans (congrArg (fun f => headSum f n) (funext fun n => ?_))
    · show IsReal (k0_pay33 k w (ix2 r n) * k0_pay33 k w (ix2 r n))
      rw [scaled_apply]
      exact (hx n).mul (hx n)
    · show (k0_pay33 k w (ix2 r n) * k0_pay33 k w (ix2 r n) : EReal) = _
      rw [scaled_apply]
  simp only []
  rw [← e, ← scaled_apply]
  pointwise [k0_pay1]

/-- Of two slabs stored one after the other, each lies where it was stored. -/
theorem slab_second (p q : Vec Ideal S1x256x1024 .f32) (r : Fin 256) (n : Fin 1024) :
    (View.canon (Val := Elt Ideal) [⟨r0_14, p⟩, ⟨r0_12, q⟩] (ix3 1 r n) : EReal) = p (ix3 0 r n) := by
  have e : (ix3 1 r n : S2x256x1024.Idx) = r0_14.emb (ix3 0 r n) := by
    funext a
    refine Fin.ext ?_
    match a with
    | ⟨0, _⟩ => rfl
    | ⟨1, _⟩ => show r.val = 0 + 1 * r.val; omega
    | ⟨2, _⟩ => show n.val = 0 + 1 * n.val; omega
  rw [e]
  exact View.canon_cons_emb (Val := Elt Ideal) r0_14 p _ _

theorem slab_first (p q : Vec Ideal S1x256x1024 .f32) (r : Fin 256) (n : Fin 1024) :
    (View.canon (Val := Elt Ideal) [⟨r0_14, p⟩, ⟨r0_12, q⟩] (ix3 0 r n) : EReal) = q (ix3 0 r n) := by
  have e : (ix3 0 r n : S2x256x1024.Idx) = r0_12.emb (ix3 0 r n) := by
    funext a
    refine Fin.ext ?_
    match a with
    | ⟨0, _⟩ => rfl
    | ⟨1, _⟩ => show r.val = 0 + 1 * r.val; omega
    | ⟨2, _⟩ => show n.val = 0 + 1 * n.val; omega
  refine (View.canon_cons_of_not_mem (Val := Elt Ideal) ⟨r0_14, p⟩ _ (fun h => ?_)).trans ?_
  · have g := ((Rect.mem_set_unit (inb := inb_S2x256x1024_S1x256x1024_1_0_0)).1 h 0).1
    exact absurd (show 1 ≤ 0 from g) (by decide)
  · rw [e]
    exact View.canon_cons_emb (Val := Elt Ideal) r0_12 q _ _

variable (i : grid0.Coords) (x0 x1 x2 x3 : Vec Ideal S256x1024 .f32) (x4 x5 x6 x7 x8 x9 x10 x11 : Vec Ideal S8x1024 .f32)
  (x12 : Vec Ideal S2x3072 .f32) (x13 x14 : Vec Ideal S2x1024 .f32) (x15 : Vec Ideal S2x128x1024 .bf16)
  (x16 : Vec Ideal S2x1024 .f32) (x17 : Vec Ideal S2x128x1024 .bf16) (x18 : Vec Ideal S256x1024 .bf16)
  (x19 : Vec Ideal S1x1024 .f32) (x20 : Vec Ideal S128x128 .bf16)

theorem keys_eq : k0_pay40 i x0 x1 x2 x3 x4 x5 x6 x7 x8 x9 x10 x11 x12 x13 x14 x15 x16 x17 x18 x19 x20
    = shifted i (View.ld x12 r0_5) (View.ld x12 r0_6) (View.ld x1 r0_2) (View.ld x5 r0_3) (View.ld x9 r0_4) := rfl

theorem columns_eq : k0_pay44 i x0 x1 x2 x3 x4 x5 x6 x7 x8 x9 x10 x11 x12 x13 x14 x15 x16 x17 x18 x19 x20
    = shifted i (View.ld x13 r0_9) (View.ld x13 r0_10) (View.ld x3 r0_2) (View.ld x7 r0_3) (View.ld x11 r0_4) := rfl

theorem out21_eq : out0_21 i x0 x1 x2 x3 x4 x5 x6 x7 x8 x9 x10 x11 x12 x13 x14 x15 x16 x17 x18 x19 x20
    = shifted i (View.ld x12 r0_0) (View.ld x12 r0_1) (View.ld x0 r0_2) (View.ld x4 r0_3) (View.ld x8 r0_4) :=
  View.canon_cons_unit_lit (Val := Elt Ideal) inb_S256x1024_S256x1024_0_0 _ [] (by decide)

theorem out22_eq : out0_22 i x0 x1 x2 x3 x4 x5 x6 x7 x8 x9 x10 x11 x12 x13 x14 x15 x16 x17 x18 x19 x20
    = shifted i (View.ld x12 r0_5) (View.ld x12 r0_6) (View.ld x1 r0_2) (View.ld x5 r0_3) (View.ld x9 r0_4) :=
  View.canon_cons_unit_lit (Val := Elt Ideal) inb_S256x1024_S256x1024_0_0 _ [] (by decide)

theorem out23_eq : out0_23 i x0 x1 x2 x3 x4 x5 x6 x7 x8 x9 x10 x11 x12 x13 x14 x15 x16 x17 x18 x19 x20
    = shifted i (View.ld x12 r0_7) (View.ld x12 r0_8) (View.ld x2 r0_2) (View.ld x6 r0_3) (View.ld x10 r0_4) :=
  View.canon_cons_unit_lit (Val := Elt Ideal) inb_S256x1024_S256x1024_0_0 _ [] (by decide)

theorem out24_eq : out0_24 i x0 x1 x2 x3 x4 x5 x6 x7 x8 x9 x10 x11 x12 x13 x14 x15 x16 x17 x18 x19 x20
    = unit (shifted i (View.ld x12 r0_5) (View.ld x12 r0_6) (View.ld x1 r0_2) (View.ld x5 r0_3) (View.ld x9 r0_4))
        (View.ld x19 r0_15) (View.ld x20 r0_16) :=
  View.canon_cons_unit_lit (Val := Elt Ideal) inb_S256x1024_S256x1024_0_0 _ [] (by decide)

theorem out27_eq : out0_27 i x0 x1 x2 x3 x4 x5 x6 x7 x8 x9 x10 x11 x12 x13 x14 x15 x16 x17 x18 x19 x20
    = k0_pay32 (shifted i (View.ld x13 r0_9) (View.ld x13 r0_10) (View.ld x3 r0_2) (View.ld x7 r0_3) (View.ld x11 r0_4))
        (View.ld x18 r0_2) :=
  View.canon_cons_unit_lit (Val := Elt Ideal) inb_S256x1024_S256x1024_0_0 _ [] (by decide)

end Cert.Kernel5Ideal.LowRank

end
-- ==== Proof.ShiftBlocks.lean ====
/- The token shift's kernel: the blocks its grid points read, entry by entry. -/
module

public import proofs.«01_k».proof.Proof.LowRank
public import proofs.«01_k».proof.Proof.Operands

@[expose] public section

set_option maxRecDepth 16384

noncomputable section

namespace Cert.Kernel5Ideal.Blocks

open Cert.Kernel5Ideal Cert.Kernel5Ideal.Gen Cert.Kernel5Ideal.Body Cert.Kernel5Ideal.Shift Cert.Kernel5Ideal.LowRank
open Idealize.ShloMosaic Idealize.ShloMosaic.TcCoe Idealize.SL.Sem

/-! ## What the loads read -/

theorem mix0 (x : Vec Ideal S2x3072 .f32) (n : Fin 1024) :
    View.ld x r0_0 (ix2 0 n) = x (ix2 0 ⟨0 + n.val, by omega⟩) :=
  View.ld_unit_apply_of _ _ _ _ _ _ fun d => match d with
    | ⟨0, _⟩ => rfl
    | ⟨1, _⟩ => rfl

theorem mix1 (x : Vec Ideal S2x3072 .f32) (n : Fin 1024) :
    View.ld x r0_1 (ix2 0 n) = x (ix2 1 ⟨0 + n.val, by omega⟩) :=
  View.ld_unit_apply_of _ _ _ _ _ _ fun d => match d with
    | ⟨0, _⟩ => rfl
    | ⟨1, _⟩ => rfl

theorem mix5 (x : Vec Ideal S2x3072 .f32) (n : Fin 1024) :
    View.ld x r0_5 (ix2 0 n) = x (ix2 0 ⟨1024 + n.val, by omega⟩) :=
  View.ld_unit_apply_of _ _ _ _ _ _ fun d => match d with
    | ⟨0, _⟩ => rfl
    | ⟨1, _⟩ => rfl

theorem mix6 (x : Vec Ideal S2x3072 .f32) (n : Fin 1024) :
    View.ld x r0_6 (ix2 0 n) = x (ix2 1 ⟨1024 + n.val, by omega⟩) :=
  View.ld_unit_apply_of _ _ _ _ _ _ fun d => match d with
    | ⟨0, _⟩ => rfl
    | ⟨1, _⟩ => rfl

theorem mix7 (x : Vec Ideal S2x3072 .f32) (n : Fin 1024) :
    View.ld x r0_7 (ix2 0 n) = x (ix2 0 ⟨2048 + n.val, by omega⟩) :=
  View.ld_unit_apply_of _ _ _ _ _ _ fun d => match d with
    | ⟨0, _⟩ => rfl
    | ⟨1, _⟩ => rfl

theorem mix8 (x : Vec Ideal S2x3072 .f32) (n : Fin 1024) :
    View.ld x r0_8 (ix2 0 n) = x (ix2 1 ⟨2048 + n.val, by omega⟩) :=
  View.ld_unit_apply_of _ _ _ _ _ _ fun d => match d with
    | ⟨0, _⟩ => rfl
    | ⟨1, _⟩ => rfl

theorem row9 (x : Vec Ideal S2x1024 .f32) (n : Fin 1024) : View.ld x r0_9 (ix2 0 n) = x (ix2 0 n) :=
  View.ld_unit_apply_of _ _ _ _ _ _ fun d => match d with
    | ⟨0, _⟩ => rfl
    | ⟨1, _⟩ => (Nat.zero_add _).symm

theorem row10 (x : Vec Ideal S2x1024 .f32) (n : Fin 1024) : View.ld x r0_10 (ix2 0 n) = x (ix2 1 n) :=
  View.ld_unit_apply_of _ _ _ _ _ _ fun d => match d with
    | ⟨0, _⟩ => rfl
    | ⟨1, _⟩ => (Nat.zero_add _).symm

theorem slab11 (x : Vec Ideal S2x128x1024 .bf16) (e : Fin 128) (n : Fin 1024) : View.ld x r0_11 (ix3 0 e n) = x (ix3 0 e n) :=
  View.ld_unit_apply_of _ _ _ _ _ _ fun d => match d with
    | ⟨0, _⟩ => rfl
    | ⟨1, _⟩ => (Nat.zero_add _).symm
    | ⟨2, _⟩ => (Nat.zero_add _).symm

theorem slab13 (x : Vec Ideal S2x128x1024 .bf16) (e : Fin 128) (n : Fin 1024) : View.ld x r0_13 (ix3 0 e n) = x (ix3 1 e n) :=
  View.ld_unit_apply_of _ _ _ _ _ _ fun d => match d with
    | ⟨0, _⟩ => rfl
    | ⟨1, _⟩ => (Nat.zero_add _).symm
    | ⟨2, _⟩ => (Nat.zero_add _).symm

theorem last (x : Vec Ideal S8x1024 .f32) (n : Fin 1024) : View.ld x r0_3 (ix2 0 n) = x (ix2 7 n) :=
  View.ld_unit_apply_of _ _ _ _ _ _ fun d => match d with
    | ⟨0, _⟩ => rfl
    | ⟨1, _⟩ => (Nat.zero_add _).symm

theorem first (x : Vec Ideal S8x1024 .f32) (n : Fin 1024) : View.ld x r0_4 (ix2 0 n) = x (ix2 0 n) :=
  View.ld_unit_apply_of _ _ _ _ _ _ fun d => match d with
    | ⟨0, _⟩ => rfl
    | ⟨1, _⟩ => (Nat.zero_add _).symm

theorem whole (x : Vec Ideal S256x1024 .f32) : View.ld x r0_2 = x := View.ld_unit_lit inb_S256x1024_S256x1024_0_0 x (by decide)

theorem whole_bf16 (x : Vec Ideal S256x1024 .bf16) : View.ld x r0_2 = x := View.ld_unit_lit inb_S256x1024_S256x1024_0_0 x (by decide)

theorem whole_row (x : Vec Ideal S1x1024 .f32) : View.ld x r0_15 = x := View.ld_unit_lit inb_S1x1024_S1x1024_0_0 x (by decide)

theorem whole_heads (x : Vec Ideal S128x128 .bf16) : View.ld x r0_16 = x := View.ld_unit_lit inb_S128x128_S128x128_0_0 x (by decide)

/-! ## What the host prepares -/

/-- Ninety-six of the low-rank columns' mixing weights, padded to a hundred and twenty-eight with zeros. -/
def lane (M : FVec Ideal S2x3712 .f32) (o : Nat) (h : S2x640.Slices ![0, o] S2x96) : FVec Ideal S2x128 .f32 :=
  pad S2x128 ![0, 0] ![0, 32] ![0, 0]
    (extractStridedSlice S2x96 ![0, o] (extractStridedSlice S2x640 ![0, 3072] M slices_S2x3712_S2x640_0_3072) h)
    (sitofp .f32 (constantI S_ 32 0#32)) pads_S2x96_S2x128_000_0320 h_S_

/-- The low-rank columns' mixing weights, side by side. -/
def joined (M : FVec Ideal S2x3712 .f32) : FVec Ideal S2x768 .f32 :=
  concatenate S2x768 1 [⟨S2x128, lane M 0 slices_S2x640_S2x96_0_0⟩, ⟨S2x128, lane M 96 slices_S2x640_S2x96_0_96⟩,
      ⟨S2x128, lane M 192 slices_S2x640_S2x96_0_192⟩, ⟨S2x128, lane M 288 slices_S2x640_S2x96_0_288⟩,
      ⟨S2x256, extractStridedSlice S2x256 ![0, 384] (extractStridedSlice S2x640 ![0, 3072] M slices_S2x3712_S2x640_0_3072)
        slices_S2x640_S2x256_0_384⟩] concatenates_S2x128_S2x128_S2x128_S2x128_S2x256_S2x768_d1

/-- The same, padded to the block's width. -/
def packed (M : FVec Ideal S2x3712 .f32) : FVec Ideal S2x1024 .f32 :=
  pad S2x1024 ![0, 0] ![0, 256] ![0, 0] (joined M) (sitofp .f32 (constantI S_ 32 0#32)) pads_S2x768_S2x1024_000_02560 h_S_

/-- Low-rank weights, padded with zeros to a hundred and twenty-eight rows. -/
def padded (W : FVec Ideal S2x96x1024 .f32) : FVec Ideal S2x128x1024 .bf16 :=
  truncf .bf16 (pad S2x128x1024 ![0, 0, 0] ![0, 32, 0] ![0, 0, 0] W (sitofp .f32 (constantI S_ 32 0#32))
    pads_S2x96x1024_S2x128x1024_000_0320_000 h_S_) bitsLt_bf16_f32

theorem zero_int : (FloatOps.sitofp (F := Ideal) .f32 (0#32) : EReal) = 0 := by
  show ((((0#32 : BitVec 32).toInt : ℤ) : ℝ) : EReal) = 0
  simp

theorem padded_apply (W : FVec Ideal S2x96x1024 .f32) (d : Fin 2) (e : Fin 128) (n : Fin 1024) :
    (padded W (ix3 d e n) : EReal) = if h : e.val < 96 then W (ix3 d ⟨e.val, h⟩ n) else 0 := by
  by_cases h : e.val < 96
  · rw [dif_pos h]
    pointwise [padded]
    exact dif_pos h
  · rw [dif_neg h]
    pointwise [padded]
    exact (dif_neg h).trans zero_int

theorem lane_apply (M : FVec Ideal S2x3712 .f32) (o : Nat) (ho : o + 96 ≤ 640) (h : S2x640.Slices ![0, o] S2x96) (d : Fin 2)
    (e : Fin 96) : (lane M o h (ix2 d ⟨e.val, by omega⟩) : EReal) = M (ix2 d ⟨3072 + (o + e.val), by omega⟩) := by
  pointwise [lane]

theorem packed0 (M : FVec Ideal S2x3712 .f32) (d : Fin 2) (e : Fin 96) :
    (packed M (ix2 d ⟨0 + e.val, by omega⟩) : EReal) = M (ix2 d ⟨3072 + e.val, by omega⟩) := by
  have h : (packed M (ix2 d ⟨0 + e.val, by omega⟩) : EReal) = lane M 0 slices_S2x640_S2x96_0_0 (ix2 d ⟨e.val, by omega⟩) := by
    pointwise [packed, joined]
    split_ifs <;> first | omega | rfl | exact congrArg (fun k => (lane M 0 slices_S2x640_S2x96_0_0 (ix2 d k) : EReal)) (Fin.ext (by simp only []; omega))
  rw [h, lane_apply M 0 (by decide)]
  exact congrArg (fun k => M (ix2 d k)) (Fin.ext (by simp only []; omega))

theorem packed1 (M : FVec Ideal S2x3712 .f32) (d : Fin 2) (e : Fin 96) :
    (packed M (ix2 d ⟨128 + e.val, by omega⟩) : EReal) = M (ix2 d ⟨3168 + e.val, by omega⟩) := by
  have h : (packed M (ix2 d ⟨128 + e.val, by omega⟩) : EReal) = lane M 96 slices_S2x640_S2x96_0_96 (ix2 d ⟨e.val, by omega⟩) := by
    pointwise [packed, joined]
    split_ifs <;> first | omega | rfl | exact congrArg (fun k => (lane M 96 slices_S2x640_S2x96_0_96 (ix2 d k) : EReal)) (Fin.ext (by simp only []; omega))
  rw [h, lane_apply M 96 (by decide)]
  exact congrArg (fun k => M (ix2 d k)) (Fin.ext (by simp only []; omega))

theorem packed2 (M : FVec Ideal S2x3712 .f32) (d : Fin 2) (e : Fin 96) :
    (packed M (ix2 d ⟨256 + e.val, by omega⟩) : EReal) = M (ix2 d ⟨3264 + e.val, by omega⟩) := by
  have h : (packed M (ix2 d ⟨256 + e.val, by omega⟩) : EReal) = lane M 192 slices_S2x640_S2x96_0_192 (ix2 d ⟨e.val, by omega⟩) := by
    pointwise [packed, joined]
    split_ifs <;> first | omega | rfl | exact congrArg (fun k => (lane M 192 slices_S2x640_S2x96_0_192 (ix2 d k) : EReal)) (Fin.ext (by simp only []; omega))
  rw [h, lane_apply M 192 (by decide)]
  exact congrArg (fun k => M (ix2 d k)) (Fin.ext (by simp only []; omega))

theorem packed3 (M : FVec Ideal S2x3712 .f32) (d : Fin 2) (e : Fin 96) :
    (packed M (ix2 d ⟨384 + e.val, by omega⟩) : EReal) = M (ix2 d ⟨3360 + e.val, by omega⟩) := by
  have h : (packed M (ix2 d ⟨384 + e.val, by omega⟩) : EReal) = lane M 288 slices_S2x640_S2x96_0_288 (ix2 d ⟨e.val, by omega⟩) := by
    pointwise [packed, joined]
    split_ifs <;> first | omega | rfl | exact congrArg (fun k => (lane M 288 slices_S2x640_S2x96_0_288 (ix2 d k) : EReal)) (Fin.ext (by simp only []; omega))
  rw [h, lane_apply M 288 (by decide)]
  exact congrArg (fun k => M (ix2 d k)) (Fin.ext (by simp only []; omega))

theorem packed4 (M : FVec Ideal S2x3712 .f32) (d : Fin 2) (e : Fin 256) :
    (packed M (ix2 d ⟨512 + e.val, by omega⟩) : EReal) = M (ix2 d ⟨3456 + e.val, by omega⟩) := by
  have h : (packed M (ix2 d ⟨512 + e.val, by omega⟩) : EReal) = M (ix2 d ⟨3072 + (384 + e.val), by omega⟩) := by
    pointwise [packed, joined]
    split_ifs <;> first | omega | rfl | exact congrArg (fun k => (M (ix2 d k) : EReal)) (Fin.ext (by simp only []; omega))
  rw [h]
  exact congrArg (fun k => M (ix2 d k)) (Fin.ext (by simp only []; omega))

/-! ## The blocks -/

/-- Every window's block index at grid point `t`: the arrays' rows, -/
theorem rowIdx : ∀ t : Fin cfg0.N,
    win0_0.index t = ![t.val, 3] ∧ win0_1.index t = ![t.val, 4] ∧ win0_2.index t = ![t.val, 5] ∧ win0_3.index t = ![t.val, 10]
    ∧ win0_21.index t = ![t.val, 0] ∧ win0_22.index t = ![t.val, 0] ∧ win0_23.index t = ![t.val, 0] ∧ win0_24.index t = ![t.val, 0]
    ∧ win0_25.index t = ![0, t.val, 0] ∧ win0_26.index t = ![0, t.val, 0] ∧ win0_27.index t = ![t.val, 0] :=
  (by decide +kernel : ∀ t : Fin grid0.N, _)

/-- the rows before and after them, -/
theorem edgeIdx : ∀ t : Fin cfg0.N,
    win0_4.index t = ![32 * t.val - 1, 3] ∧ win0_5.index t = ![32 * t.val - 1, 4] ∧ win0_6.index t = ![32 * t.val - 1, 5]
    ∧ win0_7.index t = ![32 * t.val - 1, 10]
    ∧ win0_8.index t = ![min (32 * (t.val + 1)) 2047, 3] ∧ win0_9.index t = ![min (32 * (t.val + 1)) 2047, 4]
    ∧ win0_10.index t = ![min (32 * (t.val + 1)) 2047, 5] ∧ win0_11.index t = ![min (32 * (t.val + 1)) 2047, 10] :=
  (by decide +kernel : ∀ t : Fin grid0.N, _)

/-- and the weights, whole. -/
theorem idx : ∀ t : Fin cfg0.N,
    win0_12.index t = ![0, 0] ∧ win0_13.index t = ![0, 0] ∧ win0_14.index t = ![0, 0] ∧ win0_15.index t = ![0, 0, 0]
    ∧ win0_16.index t = ![0, 0] ∧ win0_17.index t = ![0, 0, 0] ∧ win0_18.index t = ![0, 0] ∧ win0_19.index t = ![0, 0]
    ∧ win0_20.index t = ![0, 0] :=
  (by decide +kernel : ∀ t : Fin grid0.N, _)

variable (m : (ℓ : Loc nD τ sig) → Buf (Elt Ideal) ℓ)

theorem iblk0 (c : Dev nD) (t : Fin cfg0.N) (r : Fin 256) (n : Fin 1024) :
    iblk m c 0 t (ix2 r n) = m ((c : Thread nD τ).loc main_arg0) (ix2 (tokenOf t r) ⟨3072 + n.val, by omega⟩) := by
  unfold tokenOf
  blk_ext! [iblk, V, rowIdx t]

theorem iblk4 (c : Dev nD) (t : Fin cfg0.N) (h : t.val % 32 ≠ 0) (n : Fin 1024) :
    iblk m c 4 t (ix2 7 n)
      = m ((c : Thread nD τ).loc main_arg0) (ix2 ⟨t.val * 256 - 1, by have := t_lt t; omega⟩ ⟨3072 + n.val, by omega⟩) := by
  have := t_lt t
  blk_ext! [iblk, V, edgeIdx t]

theorem iblk8 (c : Dev nD) (t : Fin cfg0.N) (h : t.val % 32 ≠ 31) (n : Fin 1024) :
    iblk m c 8 t (ix2 0 n)
      = m ((c : Thread nD τ).loc main_arg0) (ix2 ⟨t.val * 256 + 256, by have := t_lt t; omega⟩ ⟨3072 + n.val, by omega⟩) := by
  have := t_lt t
  blk_ext! [iblk, V, edgeIdx t]

theorem iblk1 (c : Dev nD) (t : Fin cfg0.N) (r : Fin 256) (n : Fin 1024) :
    iblk m c 1 t (ix2 r n) = m ((c : Thread nD τ).loc main_arg0) (ix2 (tokenOf t r) ⟨4096 + n.val, by omega⟩) := by
  unfold tokenOf
  blk_ext! [iblk, V, rowIdx t]

theorem iblk5 (c : Dev nD) (t : Fin cfg0.N) (h : t.val % 32 ≠ 0) (n : Fin 1024) :
    iblk m c 5 t (ix2 7 n)
      = m ((c : Thread nD τ).loc main_arg0) (ix2 ⟨t.val * 256 - 1, by have := t_lt t; omega⟩ ⟨4096 + n.val, by omega⟩) := by
  have := t_lt t
  blk_ext! [iblk, V, edgeIdx t]

theorem iblk9 (c : Dev nD) (t : Fin cfg0.N) (h : t.val % 32 ≠ 31) (n : Fin 1024) :
    iblk m c 9 t (ix2 0 n)
      = m ((c : Thread nD τ).loc main_arg0) (ix2 ⟨t.val * 256 + 256, by have := t_lt t; omega⟩ ⟨4096 + n.val, by omega⟩) := by
  have := t_lt t
  blk_ext! [iblk, V, edgeIdx t]

theorem iblk2 (c : Dev nD) (t : Fin cfg0.N) (r : Fin 256) (n : Fin 1024) :
    iblk m c 2 t (ix2 r n) = m ((c : Thread nD τ).loc main_arg0) (ix2 (tokenOf t r) ⟨5120 + n.val, by omega⟩) := by
  unfold tokenOf
  blk_ext! [iblk, V, rowIdx t]

theorem iblk6 (c : Dev nD) (t : Fin cfg0.N) (h : t.val % 32 ≠ 0) (n : Fin 1024) :
    iblk m c 6 t (ix2 7 n)
      = m ((c : Thread nD τ).loc main_arg0) (ix2 ⟨t.val * 256 - 1, by have := t_lt t; omega⟩ ⟨5120 + n.val, by omega⟩) := by
  have := t_lt t
  blk_ext! [iblk, V, edgeIdx t]

theorem iblk10 (c : Dev nD) (t : Fin cfg0.N) (h : t.val % 32 ≠ 31) (n : Fin 1024) :
    iblk m c 10 t (ix2 0 n)
      = m ((c : Thread nD τ).loc main_arg0) (ix2 ⟨t.val * 256 + 256, by have := t_lt t; omega⟩ ⟨5120 + n.val, by omega⟩) := by
  have := t_lt t
  blk_ext! [iblk, V, edgeIdx t]

theorem iblk3 (c : Dev nD) (t : Fin cfg0.N) (r : Fin 256) (n : Fin 1024) :
    iblk m c 3 t (ix2 r n) = m ((c : Thread nD τ).loc main_arg0) (ix2 (tokenOf t r) ⟨10240 + n.val, by omega⟩) := by
  unfold tokenOf
  blk_ext! [iblk, V, rowIdx t]

theorem iblk7 (c : Dev nD) (t : Fin cfg0.N) (h : t.val % 32 ≠ 0) (n : Fin 1024) :
    iblk m c 7 t (ix2 7 n)
      = m ((c : Thread nD τ).loc main_arg0) (ix2 ⟨t.val * 256 - 1, by have := t_lt t; omega⟩ ⟨10240 + n.val, by omega⟩) := by
  have := t_lt t
  blk_ext! [iblk, V, edgeIdx t]

theorem iblk11 (c : Dev nD) (t : Fin cfg0.N) (h : t.val % 32 ≠ 31) (n : Fin 1024) :
    iblk m c 11 t (ix2 0 n)
      = m ((c : Thread nD τ).loc main_arg0) (ix2 ⟨t.val * 256 + 256, by have := t_lt t; omega⟩ ⟨10240 + n.val, by omega⟩) := by
  have := t_lt t
  blk_ext! [iblk, V, edgeIdx t]

theorem iblk12 (c : Dev nD) (t : Fin cfg0.N) (d : Fin 2) (k : Fin 3072) :
    iblk m c 12 t (ix2 d k) = m ((c : Thread nD τ).loc main_arg1) (ix2 d ⟨k.val, by omega⟩) := by
  have h : iblk m c 12 t (ix2 d k) = V m c main_v12 (ix2 d k) := by
    blk_ext [iblk, idx t]
  rw [h]
  simp only [V, List.flatten_cons, List.flatten_nil, List.append_nil, List.cons_append, List.nil_append]
  entry_read
  pointwise

theorem iblk14 (c : Dev nD) (t : Fin cfg0.N) (d : Fin 2) (n : Fin 1024) :
    iblk m c 14 t (ix2 d n) = m ((c : Thread nD τ).loc main_arg2) (ix2 d n) := by
  blk_ext! [iblk, V, idx t]

theorem iblk16 (c : Dev nD) (t : Fin cfg0.N) (d : Fin 2) (n : Fin 1024) :
    iblk m c 16 t (ix2 d n) = m ((c : Thread nD τ).loc main_arg4) (ix2 d n) := by
  blk_ext! [iblk, V, idx t]

theorem iblk15 (c : Dev nD) (t : Fin cfg0.N) (d : Fin 2) (e : Fin 128) (n : Fin 1024) :
    iblk m c 15 t (ix3 d e n) = padded (m ((c : Thread nD τ).loc main_arg3)) (ix3 d e n) := by
  have h : iblk m c 15 t (ix3 d e n) = V m c main_v9 (ix3 d e n) := by
    blk_ext [iblk, idx t]
  rw [h]
  simp only [V, List.flatten_cons, List.flatten_nil, List.append_nil, List.cons_append, List.nil_append]
  entry_read
  rfl

theorem iblk17 (c : Dev nD) (t : Fin cfg0.N) (d : Fin 2) (e : Fin 128) (n : Fin 1024) :
    iblk m c 17 t (ix3 d e n) = padded (m ((c : Thread nD τ).loc main_arg5)) (ix3 d e n) := by
  have h : iblk m c 17 t (ix3 d e n) = V m c main_v11 (ix3 d e n) := by
    blk_ext [iblk, idx t]
  rw [h]
  simp only [V, List.flatten_cons, List.flatten_nil, List.append_nil, List.cons_append, List.nil_append]
  entry_read
  rfl

theorem iblk18 (c : Dev nD) (t : Fin cfg0.N) (e : Fin 256) (n : Fin 1024) :
    iblk m c 18 t (ix2 e n) = m ((c : Thread nD τ).loc main_arg6) (ix2 e n) := by
  have h : iblk m c 18 t (ix2 e n) = V m c main_v25 (ix2 e n) := by
    blk_ext [iblk, idx t]
  rw [h]
  simp only [V, List.flatten_cons, List.flatten_nil, List.append_nil, List.cons_append, List.nil_append]
  entry_read
  pointwise

theorem iblk19 (c : Dev nD) (t : Fin cfg0.N) (n : Fin 1024) :
    iblk m c 19 t (ix2 0 n) = m ((c : Thread nD τ).loc main_arg7) (ix1 n) := by
  have h : iblk m c 19 t (ix2 0 n) = V m c main_v26 (ix2 0 n) := by
    blk_ext [iblk, idx t]
  rw [h]
  simp only [V, List.flatten_cons, List.flatten_nil, List.append_nil, List.cons_append, List.nil_append]
  entry_read
  pointwise

theorem iblk20 (c : Dev nD) (t : Fin cfg0.N) (e x : Fin 128) :
    iblk m c 20 t (ix2 e x) = Cert.Kernel4Ideal.Operands.headMatrix (ix2 e x) := by
  have h : iblk m c 20 t (ix2 e x) = V m c main_v7 (ix2 e x) := by
    blk_ext [iblk, idx t]
  rw [h]
  simp only [V, List.flatten_cons, List.flatten_nil, List.append_nil, List.cons_append, List.nil_append]
  entry_read
  rfl

end Cert.Kernel5Ideal.Blocks

end
-- ==== Proof.ShiftPacked.lean ====
/- The token shift's kernel: the packed mixing weights of the low-rank columns, as its grid points read them. -/
module

public import proofs.«01_k».proof.Proof.ShiftBlocks

@[expose] public section

set_option maxRecDepth 65536

noncomputable section

namespace Cert.Kernel5Ideal.Blocks

open Cert.Kernel5Ideal Cert.Kernel5Ideal.Gen Cert.Kernel5Ideal.Body Cert.Kernel5Ideal.Shift
open Idealize.ShloMosaic Idealize.ShloMosaic.TcCoe Idealize.SL.Sem

variable (m : (ℓ : Loc nD τ sig) → Buf (Elt Ideal) ℓ)

set_option maxHeartbeats 2000000 in
theorem packed_eq (c : Dev nD) : V m c main_v24 = packed (m ((c : Thread nD τ).loc main_arg1)) := by
  simp only [V, List.flatten_cons, List.flatten_nil, List.append_nil, List.cons_append, List.nil_append]
  after_results
  rfl

theorem iblk13 (c : Dev nD) (t : Fin cfg0.N) (d : Fin 2) (k : Fin 1024) :
    iblk m c 13 t (ix2 d k) = packed (m ((c : Thread nD τ).loc main_arg1)) (ix2 d k) := by
  have h : iblk m c 13 t (ix2 d k) = V m c main_v24 (ix2 d k) := by
    blk_ext [iblk, idx t]
  rw [h, packed_eq]

end Cert.Kernel5Ideal.Blocks

end
-- ==== Proof.ShiftArrays.lean ====
/- The token shift's kernel: its seven results from the arguments. -/
module

public import proofs.«01_k».proof.Proof.ShiftPacked

@[expose] public section

set_option maxRecDepth 16384

noncomputable section

namespace Cert.Kernel5Ideal.Prepared

open Cert.Kernel5Ideal Cert.Kernel5Ideal.Gen Cert.Kernel5Ideal.Body Cert.Kernel5Ideal.Shift Cert.Kernel5Ideal.LowRank
open Cert.Kernel5Ideal.Blocks Idealize.ShloMosaic Idealize.ShloMosaic.TcCoe Idealize.SL.Sem
open Cert.Kernel4Ideal.Heads (headSum IsHeads)
open Cert.KernelIdeal.Math (IsReal)

/-- Column `q` of token `t`, mixed with its neighbours by column `j` of the mixing weights. -/
def mixed (Z : S16384x11264.Idx → EReal) (M : S2x3712.Idx → EReal) (q : Fin 11264) (j : Fin 3712) (t : Fin 16384) : EReal :=
  moved Z (M (ix2 0 j)) (M (ix2 1 j)) t q

/-- Channel `n` of the receptance. -/
def receptanceOf (Z : S16384x11264.Idx → EReal) (M : S2x3712.Idx → EReal) (t : Fin 16384) (n : Fin 1024) : EReal :=
  mixed Z M ⟨3072 + n.val, by omega⟩ ⟨n.val, by omega⟩ t

/-- Channel `n` of the key. -/
def keyOf (Z : S16384x11264.Idx → EReal) (M : S2x3712.Idx → EReal) (t : Fin 16384) (n : Fin 1024) : EReal :=
  mixed Z M ⟨4096 + n.val, by omega⟩ ⟨1024 + n.val, by omega⟩ t

/-- Channel `n` of the value. -/
def valueOf (Z : S16384x11264.Idx → EReal) (M : S2x3712.Idx → EReal) (t : Fin 16384) (n : Fin 1024) : EReal :=
  mixed Z M ⟨5120 + n.val, by omega⟩ ⟨2048 + n.val, by omega⟩ t

/-- Channel `n` of the key, scaled and brought to length one over its head. -/
def unitsOf (Z : S16384x11264.Idx → EReal) (M : S2x3712.Idx → EReal) (K : S1024.Idx → EReal) (t : Fin 16384) (n : Fin 1024) : EReal :=
  unitOf (fun n => keyOf Z M t n * K (ix1 n)) n

/-- Channel `n` of direction `d`'s learning rate. -/
def rateOf (Z : S16384x11264.Idx → EReal) (M : S2x3712.Idx → EReal) (w : S2x1024.Idx → EReal) (W : S2x96x1024.Idx → EReal)
    (d : Fin 2) (t : Fin 16384) (n : Fin 1024) : EReal :=
  Ideal.logistic (w (ix2 d n)
    + ∑ e : Fin 96, mixed Z M ⟨10496 + 128 * d.val + e.val, by omega⟩ ⟨3264 + 96 * d.val + e.val, by omega⟩ t * W (ix3 d e n))

/-- Channel `n` of the logarithm of direction `d`'s decay. -/
def decayOf (Z : S16384x11264.Idx → EReal) (M : S2x3712.Idx → EReal) (w : S2x1024.Idx → EReal) (W : S2x96x1024.Idx → EReal)
    (d : Fin 2) (t : Fin 16384) (n : Fin 1024) : EReal :=
  decay (w (ix2 d n)
    + ∑ e : Fin 96, Ideal.tanh (mixed Z M ⟨10240 + 128 * d.val + e.val, by omega⟩ ⟨3072 + 96 * d.val + e.val, by omega⟩ t)
        * W (ix3 d e n))

/-- Channel `n` of the gate. -/
def gateOf (Z : S16384x11264.Idx → EReal) (M : S2x3712.Idx → EReal) (W : S256x1024.Idx → EReal) (t : Fin 16384) (n : Fin 1024) : EReal :=
  ∑ e : Fin 256, Ideal.logistic (mixed Z M ⟨10752 + e.val, by omega⟩ ⟨3456 + e.val, by omega⟩ t) * W (ix2 e n)

/-- Rows of zeros add nothing. -/
theorem sum_padded (f : Fin 128 → EReal) (w : Fin 96 → EReal) :
    ∑ k : Fin 128, f k * (if h : k.val < 96 then w ⟨k.val, h⟩ else 0) = ∑ e : Fin 96, f ⟨e.val, by omega⟩ * w e := by
  refine (Fin.sum_univ_add (a := 96) (b := 32) (fun k : Fin 128 => f k * (if h : k.val < 96 then w ⟨k.val, h⟩ else 0))).trans ?_
  have z : ∑ i : Fin 32, f (Fin.natAdd 96 i) * (if h : (Fin.natAdd 96 i).val < 96 then w ⟨(Fin.natAdd 96 i).val, h⟩ else 0) = 0 :=
    Finset.sum_eq_zero fun i _ => by
      rw [dif_neg (by simp), mul_zero]
  refine (congrArg₂ (· + ·) rfl z).trans ((add_zero _).trans (Finset.sum_congr rfl fun e _ => ?_))
  exact congrArg₂ (· * ·) rfl (dif_pos e.isLt)

variable (m : (ℓ : Loc nD τ sig) → Buf (Elt Ideal) ℓ)

/-- A block's receptance rows. -/
theorem receptance_rows (c : Dev nD) (t : Fin cfg0.N) (r : Fin 256) (n : Fin 1024) :
    (shifted (grid0.coords t) (View.ld (iblk m c 12 t) r0_0) (View.ld (iblk m c 12 t) r0_1) (View.ld (iblk m c 0 t) r0_2)
        (View.ld (iblk m c 4 t) r0_3) (View.ld (iblk m c 8 t) r0_4) (ix2 r n) : EReal)
      = receptanceOf (m ((c : Thread nD τ).loc main_arg0)) (m ((c : Thread nD τ).loc main_arg1)) (tokenOf t r) n := by
  refine (shifted_moved (m ((c : Thread nD τ).loc main_arg0)) t _ _ _ _ _ n ⟨3072 + n.val, by omega⟩
    (fun r => (congrFun (whole _) _).trans (iblk0 m c t r n)) (fun h => (last _ n).trans (iblk4 m c t h n))
    (fun h => (first _ n).trans (iblk8 m c t h n)) r).trans ?_
  rw [mix0, mix1, iblk12, iblk12]
  unfold receptanceOf mixed
  simp only [Nat.zero_add]

/-- A block's key rows. -/
theorem key_rows (c : Dev nD) (t : Fin cfg0.N) (r : Fin 256) (n : Fin 1024) :
    (shifted (grid0.coords t) (View.ld (iblk m c 12 t) r0_5) (View.ld (iblk m c 12 t) r0_6) (View.ld (iblk m c 1 t) r0_2)
        (View.ld (iblk m c 5 t) r0_3) (View.ld (iblk m c 9 t) r0_4) (ix2 r n) : EReal)
      = keyOf (m ((c : Thread nD τ).loc main_arg0)) (m ((c : Thread nD τ).loc main_arg1)) (tokenOf t r) n := by
  refine (shifted_moved (m ((c : Thread nD τ).loc main_arg0)) t _ _ _ _ _ n ⟨4096 + n.val, by omega⟩
    (fun r => (congrFun (whole _) _).trans (iblk1 m c t r n)) (fun h => (last _ n).trans (iblk5 m c t h n))
    (fun h => (first _ n).trans (iblk9 m c t h n)) r).trans ?_
  rw [mix5, mix6, iblk12, iblk12]
  unfold keyOf mixed
  rfl

/-- A block's value rows. -/
theorem value_rows (c : Dev nD) (t : Fin cfg0.N) (r : Fin 256) (n : Fin 1024) :
    (shifted (grid0.coords t) (View.ld (iblk m c 12 t) r0_7) (View.ld (iblk m c 12 t) r0_8) (View.ld (iblk m c 2 t) r0_2)
        (View.ld (iblk m c 6 t) r0_3) (View.ld (iblk m c 10 t) r0_4) (ix2 r n) : EReal)
      = valueOf (m ((c : Thread nD τ).loc main_arg0)) (m ((c : Thread nD τ).loc main_arg1)) (tokenOf t r) n := by
  refine (shifted_moved (m ((c : Thread nD τ).loc main_arg0)) t _ _ _ _ _ n ⟨5120 + n.val, by omega⟩
    (fun r => (congrFun (whole _) _).trans (iblk2 m c t r n)) (fun h => (last _ n).trans (iblk6 m c t h n))
    (fun h => (first _ n).trans (iblk10 m c t h n)) r).trans ?_
  rw [mix7, mix8, iblk12, iblk12]
  unfold valueOf mixed
  rfl

/-- A block's low-rank columns, as the kernel makes them. -/
def columns (c : Dev nD) (t : Fin cfg0.N) : FVec Ideal S256x1024 .f32 :=
  shifted (grid0.coords t) (View.ld (iblk m c 13 t) r0_9) (View.ld (iblk m c 13 t) r0_10) (View.ld (iblk m c 3 t) r0_2)
    (View.ld (iblk m c 7 t) r0_3) (View.ld (iblk m c 11 t) r0_4)

/-- Column `k` of a block, where its packed mixing weights are column `j` of the weights. -/
theorem column (c : Dev nD) (t : Fin cfg0.N) (r : Fin 256) (k : Fin 1024) (q : Fin 11264) (j : Fin 3712)
    (hq : q.val = 10240 + k.val) (hj : ∀ d : Fin 2, (packed (m ((c : Thread nD τ).loc main_arg1)) (ix2 d k) : EReal) = (m ((c : Thread nD τ).loc main_arg1)) (ix2 d j)) :
    (columns m c t (ix2 r k) : EReal) = mixed (m ((c : Thread nD τ).loc main_arg0)) (m ((c : Thread nD τ).loc main_arg1)) q j (tokenOf t r) := by
  have hk : 10240 + k.val < 11264 := by omega
  obtain rfl : q = ⟨10240 + k.val, hk⟩ := Fin.ext hq
  refine (shifted_moved (m ((c : Thread nD τ).loc main_arg0)) t _ _ _ _ _ k ⟨10240 + k.val, by omega⟩
    (fun r => (congrFun (whole _) _).trans (iblk3 m c t r k)) (fun h => (last _ k).trans (iblk7 m c t h k))
    (fun h => (first _ k).trans (iblk11 m c t h k)) r).trans ?_
  rw [row9, row10, iblk13, iblk13, hj, hj]
  rfl

/-- What the unit keys ask of the arguments: that the keys' columns and weights are real. -/
structure Real (c : Dev nD) : Prop where
  column : ∀ (t : Fin 16384) (n : Fin 1024), IsReal ((m ((c : Thread nD τ).loc main_arg0)) (ix2 t ⟨4096 + n.val, by omega⟩))
  mix : ∀ (d : Fin 2) (n : Fin 1024), IsReal ((m ((c : Thread nD τ).loc main_arg1)) (ix2 d ⟨1024 + n.val, by omega⟩))
  scale : ∀ n : Fin 1024, IsReal ((m ((c : Thread nD τ).loc main_arg7)) (ix1 n))

theorem sub_real {x y : EReal} (hx : IsReal x) (hy : IsReal y) : IsReal (x - y) := by
  obtain ⟨a, rfl⟩ := hx
  obtain ⟨b, rfl⟩ := hy
  exact ⟨a - b, (EReal.coe_sub a b).symm⟩

theorem key_real (c : Dev nD) (h : Real m c) (t : Fin 16384) (n : Fin 1024) : IsReal (keyOf (m ((c : Thread nD τ).loc main_arg0)) (m ((c : Thread nD τ).loc main_arg1)) t n) := by
  have z : IsReal (0 : EReal) := ⟨0, rfl⟩
  unfold keyOf mixed moved
  refine ((h.column t n).add ((h.mix 0 n).mul ?_)).add ((h.mix 1 n).mul ?_)
  · split_ifs
    · exact sub_real z (h.column t n)
    · exact sub_real (h.column _ n) (h.column t n)
  · split_ifs
    · exact sub_real z (h.column t n)
    · exact sub_real (h.column _ n) (h.column t n)

theorem heads (c : Dev nD) (t : Fin cfg0.N) : IsHeads (k0_pay35 (View.ld (iblk m c 20 t) r0_16)) := fun e x =>
  (heads_apply _ e x).trans ((congrFun (whole_heads _) _).trans
    ((iblk20 m c t e x).trans (Cert.Kernel4Ideal.Operands.headMatrix_apply e x)))

/-! ## The results, block by block -/

theorem out21_apply (c : Dev nD) (t : Fin cfg0.N) (r : Fin 256) (n : Fin 1024) :
    (out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 r n) : EReal)
      = receptanceOf (m ((c : Thread nD τ).loc main_arg0)) (m ((c : Thread nD τ).loc main_arg1)) (tokenOf t r) n := by
  rw [out21_eq]
  exact receptance_rows m c t r n

theorem out22_apply (c : Dev nD) (t : Fin cfg0.N) (r : Fin 256) (n : Fin 1024) :
    (out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 r n) : EReal)
      = keyOf (m ((c : Thread nD τ).loc main_arg0)) (m ((c : Thread nD τ).loc main_arg1)) (tokenOf t r) n := by
  rw [out22_eq]
  exact key_rows m c t r n

theorem out23_apply (c : Dev nD) (t : Fin cfg0.N) (r : Fin 256) (n : Fin 1024) :
    (out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 r n) : EReal)
      = valueOf (m ((c : Thread nD τ).loc main_arg0)) (m ((c : Thread nD τ).loc main_arg1)) (tokenOf t r) n := by
  rw [out23_eq]
  exact value_rows m c t r n

theorem out24_apply (c : Dev nD) (h : Real m c) (t : Fin cfg0.N) (r : Fin 256) (n : Fin 1024) :
    (out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 r n) : EReal)
      = unitsOf (m ((c : Thread nD τ).loc main_arg0)) (m ((c : Thread nD τ).loc main_arg1)) (m ((c : Thread nD τ).loc main_arg7)) (tokenOf t r) n := by
  have e : ∀ n : Fin 1024, (View.ld (iblk m c 19 t) r0_15 (ix2 0 n) : EReal) = (m ((c : Thread nD τ).loc main_arg7)) (ix1 n) := fun n =>
    (congrFun (whole_row _) _).trans (iblk19 m c t n)
  rw [out24_eq]
  refine (unit_apply _ _ _ (heads m c t) r (fun n => ?_) n).trans ?_
  · obtain ⟨x, hx⟩ := (key_real m c h (tokenOf t r) n).mul (h.scale n)
    exact ⟨x, (congrArg₂ (· * ·) (key_rows m c t r n) (e n)).trans hx⟩
  · unfold unitsOf
    exact congrArg (fun f => unitOf f n) (funext fun n => congrArg₂ (· * ·) (key_rows m c t r n) (e n))

theorem out27_apply (c : Dev nD) (t : Fin cfg0.N) (r : Fin 256) (n : Fin 1024) :
    (out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 r n) : EReal)
      = gateOf (m ((c : Thread nD τ).loc main_arg0)) (m ((c : Thread nD τ).loc main_arg1)) (m ((c : Thread nD τ).loc main_arg6)) (tokenOf t r) n := by
  rw [out27_eq]
  refine (gate_apply _ _ r n).trans ?_
  unfold gateOf
  refine Finset.sum_congr rfl fun e _ => congrArg₂ (· * ·) (congrArg Ideal.logistic ?_)
    ((congrFun (whole_bf16 _) _).trans (iblk18 m c t e n))
  exact column m c t r _ _ _ (by simp only []; omega) fun d => packed4 _ d e

theorem out25_first (c : Dev nD) (t : Fin cfg0.N) (r : Fin 256) (n : Fin 1024) :
    (out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix3 0 r n) : EReal)
      = rateOf (m ((c : Thread nD τ).loc main_arg0)) (m ((c : Thread nD τ).loc main_arg1)) (m ((c : Thread nD τ).loc main_arg4)) (m ((c : Thread nD τ).loc main_arg5)) 0 (tokenOf t r) n := by
  unfold out0_25
  refine (slab_first _ _ r n).trans ((rate_first _ _ _ r n).trans ?_)
  unfold rateOf
  refine congrArg Ideal.logistic (congrArg₂ (· + ·) ((row9 _ n).trans (iblk16 m c t 0 n)) ?_)
  refine (Finset.sum_congr rfl fun e _ => congrArg₂ (· * ·) rfl
    ((slab11 _ e n).trans ((iblk17 m c t 0 e n).trans (padded_apply _ 0 e n)))).trans
    ((sum_padded _ (fun e => (m ((c : Thread nD τ).loc main_arg5)) (ix3 0 e n))).trans (Finset.sum_congr rfl fun e _ => congrArg₂ (· * ·) (?_) rfl))
  exact column m c t r _ _ _ (by simp; try omega) fun d => (packed2 _ d e).trans (congrArg (fun k => (m ((c : Thread nD τ).loc main_arg1)) (ix2 d k)) (Fin.ext (by simp)))

theorem out25_second (c : Dev nD) (t : Fin cfg0.N) (r : Fin 256) (n : Fin 1024) :
    (out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix3 1 r n) : EReal)
      = rateOf (m ((c : Thread nD τ).loc main_arg0)) (m ((c : Thread nD τ).loc main_arg1)) (m ((c : Thread nD τ).loc main_arg4)) (m ((c : Thread nD τ).loc main_arg5)) 1 (tokenOf t r) n := by
  unfold out0_25
  refine (slab_second _ _ r n).trans ((rate_second _ _ _ r n).trans ?_)
  unfold rateOf
  refine congrArg Ideal.logistic (congrArg₂ (· + ·) ((row10 _ n).trans (iblk16 m c t 1 n)) ?_)
  refine (Finset.sum_congr rfl fun e _ => congrArg₂ (· * ·) rfl
    ((slab13 _ e n).trans ((iblk17 m c t 1 e n).trans (padded_apply _ 1 e n)))).trans
    ((sum_padded _ (fun e => (m ((c : Thread nD τ).loc main_arg5)) (ix3 1 e n))).trans (Finset.sum_congr rfl fun e _ => congrArg₂ (· * ·) (?_) rfl))
  exact column m c t r _ _ _ (by simp; try omega) fun d => (packed3 _ d e).trans (congrArg (fun k => (m ((c : Thread nD τ).loc main_arg1)) (ix2 d k)) (Fin.ext (by simp)))

theorem out26_first (c : Dev nD) (t : Fin cfg0.N) (r : Fin 256) (n : Fin 1024) :
    (out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix3 0 r n) : EReal)
      = decayOf (m ((c : Thread nD τ).loc main_arg0)) (m ((c : Thread nD τ).loc main_arg1)) (m ((c : Thread nD τ).loc main_arg2)) (m ((c : Thread nD τ).loc main_arg3)) 0 (tokenOf t r) n := by
  unfold out0_26
  refine (slab_first _ _ r n).trans ((decay_first _ _ _ _ _ r n).trans ?_)
  unfold decayOf
  refine congrArg decay (congrArg₂ (· + ·) ((row9 _ n).trans (iblk14 m c t 0 n)) ?_)
  refine (Finset.sum_congr rfl fun e _ => congrArg₂ (· * ·) rfl
    ((slab11 _ e n).trans ((iblk15 m c t 0 e n).trans (padded_apply _ 0 e n)))).trans
    ((sum_padded _ (fun e => (m ((c : Thread nD τ).loc main_arg3)) (ix3 0 e n))).trans (Finset.sum_congr rfl fun e _ => congrArg₂ (· * ·) (congrArg Ideal.tanh ?_) rfl))
  exact column m c t r _ _ _ (by simp; try omega) fun d => (packed0 _ d e).trans (congrArg (fun k => (m ((c : Thread nD τ).loc main_arg1)) (ix2 d k)) (Fin.ext (by simp)))

theorem out26_second (c : Dev nD) (t : Fin cfg0.N) (r : Fin 256) (n : Fin 1024) :
    (out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix3 1 r n) : EReal)
      = decayOf (m ((c : Thread nD τ).loc main_arg0)) (m ((c : Thread nD τ).loc main_arg1)) (m ((c : Thread nD τ).loc main_arg2)) (m ((c : Thread nD τ).loc main_arg3)) 1 (tokenOf t r) n := by
  unfold out0_26
  refine (slab_second _ _ r n).trans ((decay_second _ _ _ r n).trans ?_)
  unfold decayOf
  refine congrArg decay (congrArg₂ (· + ·) ((row10 _ n).trans (iblk14 m c t 1 n)) ?_)
  refine (Finset.sum_congr rfl fun e _ => congrArg₂ (· * ·) rfl
    ((slab13 _ e n).trans ((iblk15 m c t 1 e n).trans (padded_apply _ 1 e n)))).trans
    ((sum_padded _ (fun e => (m ((c : Thread nD τ).loc main_arg3)) (ix3 1 e n))).trans (Finset.sum_congr rfl fun e _ => congrArg₂ (· * ·) (congrArg Ideal.tanh ?_) rfl))
  exact column m c t r _ _ _ (by simp; try omega) fun d => (packed1 _ d e).trans (congrArg (fun k => (m ((c : Thread nD τ).loc main_arg1)) (ix2 d k)) (Fin.ext (by simp)))

/-! ## The whole results -/

def receptance (c : Dev nD) : S16384x1024.Idx → EReal := fun i => receptanceOf (m ((c : Thread nD τ).loc main_arg0)) (m ((c : Thread nD τ).loc main_arg1)) (i 0) (i 1)

theorem receptance_eq (c : Dev nD) : (dats m 0 c).arrAt 21 cfg0.N = receptance m c := by
  refine (dats m 0 c).arrAt_eq_of_covers 21 _ (by decide +kernel) fun t hf y => ?_
  blk_simp
  rw [after0_21]
  have hi : (win0_21.blk t).view.emb y = ix2 (n0 := 16384) (n1 := 1024) (tokenOf t (y 0)) (y 1) := by
    unfold tokenOf
    blk_ext [rowIdx t]
  rw [hi]
  have hy : y = ix2 (y 0) (y 1) := by
    funext a
    match a with
    | 0 => rfl
    | 1 => rfl
  exact (congrArg (out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) hy).trans (out21_apply m c t (y 0) (y 1))

def key (c : Dev nD) : S16384x1024.Idx → EReal := fun i => keyOf (m ((c : Thread nD τ).loc main_arg0)) (m ((c : Thread nD τ).loc main_arg1)) (i 0) (i 1)

theorem key_eq (c : Dev nD) : (dats m 0 c).arrAt 22 cfg0.N = key m c := by
  refine (dats m 0 c).arrAt_eq_of_covers 22 _ (by decide +kernel) fun t hf y => ?_
  blk_simp
  rw [after0_22]
  have hi : (win0_22.blk t).view.emb y = ix2 (n0 := 16384) (n1 := 1024) (tokenOf t (y 0)) (y 1) := by
    unfold tokenOf
    blk_ext [rowIdx t]
  rw [hi]
  have hy : y = ix2 (y 0) (y 1) := by
    funext a
    match a with
    | 0 => rfl
    | 1 => rfl
  exact (congrArg (out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) hy).trans (out22_apply m c t (y 0) (y 1))

def value (c : Dev nD) : S16384x1024.Idx → EReal := fun i => valueOf (m ((c : Thread nD τ).loc main_arg0)) (m ((c : Thread nD τ).loc main_arg1)) (i 0) (i 1)

theorem value_eq (c : Dev nD) : (dats m 0 c).arrAt 23 cfg0.N = value m c := by
  refine (dats m 0 c).arrAt_eq_of_covers 23 _ (by decide +kernel) fun t hf y => ?_
  blk_simp
  rw [after0_23]
  have hi : (win0_23.blk t).view.emb y = ix2 (n0 := 16384) (n1 := 1024) (tokenOf t (y 0)) (y 1) := by
    unfold tokenOf
    blk_ext [rowIdx t]
  rw [hi]
  have hy : y = ix2 (y 0) (y 1) := by
    funext a
    match a with
    | 0 => rfl
    | 1 => rfl
  exact (congrArg (out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) hy).trans (out23_apply m c t (y 0) (y 1))

def units (c : Dev nD) : S16384x1024.Idx → EReal := fun i => unitsOf (m ((c : Thread nD τ).loc main_arg0)) (m ((c : Thread nD τ).loc main_arg1)) (m ((c : Thread nD τ).loc main_arg7)) (i 0) (i 1)

theorem units_eq (c : Dev nD) (h : Real m c) : (dats m 0 c).arrAt 24 cfg0.N = units m c := by
  refine (dats m 0 c).arrAt_eq_of_covers 24 _ (by decide +kernel) fun t hf y => ?_
  blk_simp
  rw [after0_24]
  have hi : (win0_24.blk t).view.emb y = ix2 (n0 := 16384) (n1 := 1024) (tokenOf t (y 0)) (y 1) := by
    unfold tokenOf
    blk_ext [rowIdx t]
  rw [hi]
  have hy : y = ix2 (y 0) (y 1) := by
    funext a
    match a with
    | 0 => rfl
    | 1 => rfl
  exact (congrArg (out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) hy).trans (out24_apply m c h t (y 0) (y 1))

def gate (c : Dev nD) : S16384x1024.Idx → EReal := fun i => gateOf (m ((c : Thread nD τ).loc main_arg0)) (m ((c : Thread nD τ).loc main_arg1)) (m ((c : Thread nD τ).loc main_arg6)) (i 0) (i 1)

theorem gate_eq (c : Dev nD) : (dats m 0 c).arrAt 27 cfg0.N = gate m c := by
  refine (dats m 0 c).arrAt_eq_of_covers 27 _ (by decide +kernel) fun t hf y => ?_
  blk_simp
  rw [after0_27]
  have hi : (win0_27.blk t).view.emb y = ix2 (n0 := 16384) (n1 := 1024) (tokenOf t (y 0)) (y 1) := by
    unfold tokenOf
    blk_ext [rowIdx t]
  rw [hi]
  have hy : y = ix2 (y 0) (y 1) := by
    funext a
    match a with
    | 0 => rfl
    | 1 => rfl
  exact (congrArg (out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) hy).trans (out27_apply m c t (y 0) (y 1))

def rates (c : Dev nD) : S2x16384x1024.Idx → EReal := fun i => rateOf (m ((c : Thread nD τ).loc main_arg0)) (m ((c : Thread nD τ).loc main_arg1)) (m ((c : Thread nD τ).loc main_arg4)) (m ((c : Thread nD τ).loc main_arg5)) (i 0) (i 1) (i 2)

theorem rates_eq (c : Dev nD) : (dats m 0 c).arrAt 25 cfg0.N = rates m c := by
  refine (dats m 0 c).arrAt_eq_of_covers 25 _ (by decide +kernel) fun t hf y => ?_
  blk_simp
  rw [after0_25]
  have hi : (win0_25.blk t).view.emb y = ix3 (n0 := 2) (n1 := 16384) (n2 := 1024) (y 0) (tokenOf t (y 1)) (y 2) := by
    unfold tokenOf
    blk_ext [rowIdx t]
  rw [hi]
  have hy : y = ix3 (y 0) (y 1) (y 2) := by
    funext a
    match a with
    | 0 => rfl
    | 1 => rfl
    | 2 => rfl
  refine (congrArg (out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) hy).trans ?_
  have key : ∀ d : Fin 2, (out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix3 d (y 1) (y 2)) : EReal)
      = rateOf (m ((c : Thread nD τ).loc main_arg0)) (m ((c : Thread nD τ).loc main_arg1)) (m ((c : Thread nD τ).loc main_arg4)) (m ((c : Thread nD τ).loc main_arg5)) d (tokenOf t (y 1)) (y 2) := fun d =>
    match d with
    | 0 => out25_first m c t (y 1) (y 2)
    | 1 => out25_second m c t (y 1) (y 2)
  exact key (y 0)

def decays (c : Dev nD) : S2x16384x1024.Idx → EReal := fun i => decayOf (m ((c : Thread nD τ).loc main_arg0)) (m ((c : Thread nD τ).loc main_arg1)) (m ((c : Thread nD τ).loc main_arg2)) (m ((c : Thread nD τ).loc main_arg3)) (i 0) (i 1) (i 2)

theorem decays_eq (c : Dev nD) : (dats m 0 c).arrAt 26 cfg0.N = decays m c := by
  refine (dats m 0 c).arrAt_eq_of_covers 26 _ (by decide +kernel) fun t hf y => ?_
  blk_simp
  rw [after0_26]
  have hi : (win0_26.blk t).view.emb y = ix3 (n0 := 2) (n1 := 16384) (n2 := 1024) (y 0) (tokenOf t (y 1)) (y 2) := by
    unfold tokenOf
    blk_ext [rowIdx t]
  rw [hi]
  have hy : y = ix3 (y 0) (y 1) (y 2) := by
    funext a
    match a with
    | 0 => rfl
    | 1 => rfl
    | 2 => rfl
  refine (congrArg (out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) hy).trans ?_
  have key : ∀ d : Fin 2, (out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix3 d (y 1) (y 2)) : EReal)
      = decayOf (m ((c : Thread nD τ).loc main_arg0)) (m ((c : Thread nD τ).loc main_arg1)) (m ((c : Thread nD τ).loc main_arg2)) (m ((c : Thread nD τ).loc main_arg3)) d (tokenOf t (y 1)) (y 2) := fun d =>
    match d with
    | 0 => out26_first m c t (y 1) (y 2)
    | 1 => out26_second m c t (y 1) (y 2)
  exact key (y 0)

end Cert.Kernel5Ideal.Prepared

end
-- ==== Proof.ShiftReference.lean ====
/- The token shift's reference: its rows mixed with the rows before and after them. -/
module

public import proofs.«01_k».proof.Proof.Gen.Reference5Ideal.Run
public import proofs.«01_k».proof.Proof.ShiftArrays
public import proofs.«01_k».proof.Proof.Merging

@[expose] public section

set_option maxRecDepth 16384

noncomputable section

namespace Cert.Reference5Ideal.Parts

open Cert.Reference5Ideal Idealize.ShloMosaic Idealize.ShloMosaic.TcCoe Idealize.SL.Sem
open Cert.Kernel5Ideal.Shift (moved)
open Cert.Kernel5Ideal.Prepared (mixed)
open Cert.Kernel4Ideal.Merging (gate_row split_gate token_eq)

/-- The columns the shift mixes. -/
def columns (z : FVec Ideal S2x8192x11264 .f32) : FVec Ideal S2x8192x3712 .f32 :=
  ((concatenate S2x8192x3712 2 [⟨S2x8192x3072, ((extractStridedSlice S2x8192x3072 ![0, 0, 3072] z Gen.slices_S2x8192x11264_S2x8192x3072_0_0_3072))⟩,
    ⟨S2x8192x96, ((extractStridedSlice S2x8192x96 ![0, 0, 10240] z Gen.slices_S2x8192x11264_S2x8192x96_0_0_10240))⟩, ⟨S2x8192x96, ((extractStridedSlice
    S2x8192x96 ![0, 0, 10368] z Gen.slices_S2x8192x11264_S2x8192x96_0_0_10368))⟩, ⟨S2x8192x96, ((extractStridedSlice S2x8192x96 ![0, 0, 10496] z
    Gen.slices_S2x8192x11264_S2x8192x96_0_0_10496))⟩, ⟨S2x8192x96, ((extractStridedSlice S2x8192x96 ![0, 0, 10624] z
    Gen.slices_S2x8192x11264_S2x8192x96_0_0_10624))⟩, ⟨S2x8192x256, ((extractStridedSlice S2x8192x256 ![0, 0, 10752] z
    Gen.slices_S2x8192x11264_S2x8192x256_0_0_10752))⟩]
    Gen.concatenates_S2x8192x3072_S2x8192x96_S2x8192x96_S2x8192x96_S2x8192x96_S2x8192x256_S2x8192x3712_d2))

/-- The mixed rows, from the columns. -/
def mixRows (X : FVec Ideal S2x8192x3712 .f32) (M : FVec Ideal S2x3712 .f32) : FVec Ideal S2x8192x3712 .f32 :=
  (addf (addf X (mulf (broadcastInDim S2x8192x3712 ![0, 1, 2] Gen.bcast_S1x1x3712_S2x8192x3712_0_1_2 (broadcastInDim S1x1x3712 ![2]
    Gen.bcast_S3712_S1x1x3712_2 (shapeCast S3712 (extractStridedSlice S1x3712 ![0, 0] M Gen.slices_S2x3712_S1x3712_0_0) Gen.shapeCasts_S1x3712_S3712))) (subf
    (pad S2x8192x3712 ![0, 1, 0] ![0, 0, 0] ![0, 0, 0] (extractStridedSlice S2x8191x3712 ![0, 0, 0] X Gen.slices_S2x8192x3712_S2x8191x3712_0_0_0) (sitofp
    .f32 (constantI S_ 32 0#32)) Gen.pads_S2x8191x3712_S2x8192x3712_000_100_000 Gen.h_S_) X))) (mulf (broadcastInDim S2x8192x3712 ![0, 1, 2]
    Gen.bcast_S1x1x3712_S2x8192x3712_0_1_2 (broadcastInDim S1x1x3712 ![2] Gen.bcast_S3712_S1x1x3712_2 (shapeCast S3712 (extractStridedSlice S1x3712 ![1, 0] M
    Gen.slices_S2x3712_S1x3712_1_0) Gen.shapeCasts_S1x3712_S3712))) (subf (pad S2x8192x3712 ![0, 0, 0] ![0, 1, 0] ![0, 0, 0] (extractStridedSlice
    S2x8191x3712 ![0, 1, 0] X Gen.slices_S2x8192x3712_S2x8191x3712_0_1_0) (sitofp .f32 (constantI S_ 32 0#32))
    Gen.pads_S2x8191x3712_S2x8192x3712_000_010_000 Gen.h_S_) X)))

/-- The mixed rows, from the arguments. -/
def shifted (Z : FVec Ideal S16384x11264 .f32) (M : FVec Ideal S2x3712 .f32) : FVec Ideal S2x8192x3712 .f32 :=
  mixRows (columns (shapeCast S2x8192x11264 Z Gen.shapeCasts_S16384x11264_S2x8192x11264)) M

/-- Column `j` of the mixed columns is column `q` of the argument. -/
def Source (j q : Nat) : Prop :=
  j < 3072 ∧ q = j + 3072 ∨ 3072 ≤ j ∧ j < 3168 ∧ q = j + 7168 ∨ 3168 ≤ j ∧ j < 3264 ∧ q = j + 7200
    ∨ 3264 ≤ j ∧ j < 3360 ∧ q = j + 7232 ∨ 3360 ≤ j ∧ j < 3456 ∧ q = j + 7264 ∨ 3456 ≤ j ∧ q = j + 7296

theorem columns_apply (z : FVec Ideal S2x8192x11264 .f32) (b : Fin 2) (s : Fin 8192) (j : Fin 3712) (q : Fin 11264)
    (hq : Source j.val q.val) :
    columns z (ix3 b s j) = z (ix3 b s q) := by
  unfold Source at hq
  pointwise [columns]
  split_ifs <;> first | omega | exact congrArg (fun q => z (ix3 b s q)) (Fin.ext (by simp only []; omega))

theorem mix_before (M : FVec Ideal S2x3712 .f32) (b : Fin 2) (s : Fin 8192) (j : Fin 3712) :
    broadcastInDim S2x8192x3712 ![0, 1, 2] Gen.bcast_S1x1x3712_S2x8192x3712_0_1_2 (broadcastInDim S1x1x3712 ![2] Gen.bcast_S3712_S1x1x3712_2 (shapeCast S3712 (extractStridedSlice S1x3712 ![0, 0] M Gen.slices_S2x3712_S1x3712_0_0) Gen.shapeCasts_S1x3712_S3712)) (ix3 b s j) = M (ix2 0 j) := by
  pointwise

theorem mix_after (M : FVec Ideal S2x3712 .f32) (b : Fin 2) (s : Fin 8192) (j : Fin 3712) :
    broadcastInDim S2x8192x3712 ![0, 1, 2] Gen.bcast_S1x1x3712_S2x8192x3712_0_1_2 (broadcastInDim S1x1x3712 ![2] Gen.bcast_S3712_S1x1x3712_2 (shapeCast S3712 (extractStridedSlice S1x3712 ![1, 0] M Gen.slices_S2x3712_S1x3712_1_0) Gen.shapeCasts_S1x3712_S3712)) (ix3 b s j) = M (ix2 1 j) := by
  pointwise

theorem before_apply (X : FVec Ideal S2x8192x3712 .f32) (b : Fin 2) (s : Fin 8192) (j : Fin 3712) :
    (pad S2x8192x3712 ![0, 1, 0] ![0, 0, 0] ![0, 0, 0] (extractStridedSlice S2x8191x3712 ![0, 0, 0] X Gen.slices_S2x8192x3712_S2x8191x3712_0_0_0) (sitofp (F := Ideal) .f32 (constantI S_ 32 0#32)) Gen.pads_S2x8191x3712_S2x8192x3712_000_100_000 Gen.h_S_ (ix3 b s j) : EReal)
      = if s.val = 0 then 0 else X (ix3 b ⟨s.val - 1, by omega⟩ j) := by
  pointwise
  split_ifs <;> first | omega | rfl | exact Cert.Kernel5Ideal.Blocks.zero_int

theorem after_apply (X : FVec Ideal S2x8192x3712 .f32) (b : Fin 2) (s : Fin 8192) (j : Fin 3712) :
    (pad S2x8192x3712 ![0, 0, 0] ![0, 1, 0] ![0, 0, 0] (extractStridedSlice S2x8191x3712 ![0, 1, 0] X Gen.slices_S2x8192x3712_S2x8191x3712_0_1_0) (sitofp (F := Ideal) .f32 (constantI S_ 32 0#32)) Gen.pads_S2x8191x3712_S2x8192x3712_000_010_000 Gen.h_S_ (ix3 b s j) : EReal)
      = if h : s.val = 8191 then 0 else X (ix3 b ⟨s.val + 1, by omega⟩ j) := by
  pointwise
  split_ifs <;> first | omega | rfl | exact Cert.Kernel5Ideal.Blocks.zero_int | exact congrArg (fun s => X (ix3 b s j)) (Fin.ext (by simp only []; omega))

theorem mixRows_apply (X : FVec Ideal S2x8192x3712 .f32) (M : FVec Ideal S2x3712 .f32) (b : Fin 2) (s : Fin 8192) (j : Fin 3712) :
    (mixRows X M (ix3 b s j) : EReal) = X (ix3 b s j)
      + M (ix2 0 j) * ((if s.val = 0 then 0 else X (ix3 b ⟨s.val - 1, by omega⟩ j)) - X (ix3 b s j))
      + M (ix2 1 j) * ((if h : s.val = 8191 then 0 else X (ix3 b ⟨s.val + 1, by omega⟩ j)) - X (ix3 b s j)) :=
  congrArg₂ (· + ·)
    (congrArg₂ (· + ·) rfl (congrArg₂ (· * ·) (mix_before M b s j) (congrArg₂ (· - ·) (before_apply X b s j) rfl)))
    (congrArg₂ (· * ·) (mix_after M b s j) (congrArg₂ (· - ·) (after_apply X b s j) rfl))

/-- Where column `j` of the mixed columns lies in the argument. -/
theorem shifted_apply (Z : FVec Ideal S16384x11264 .f32) (M : FVec Ideal S2x3712 .f32) (t : Fin 16384) (j : Fin 3712) (q : Fin 11264)
    (hq : Source j.val q.val) :
    (shifted Z M (ix3 ⟨t.val / 8192, by omega⟩ ⟨t.val % 8192, by omega⟩ j) : EReal) = mixed Z M q j t := by
  have e : ∀ (b : Fin 2) (s : Fin 8192), columns (shapeCast S2x8192x11264 Z Gen.shapeCasts_S16384x11264_S2x8192x11264) (ix3 b s j)
      = Z (ix2 ⟨b.val * 8192 + s.val, by omega⟩ q) := fun b s => (columns_apply _ b s j q hq).trans (split_gate Z b s q _)
  have e0 : ∀ h, columns (shapeCast S2x8192x11264 Z Gen.shapeCasts_S16384x11264_S2x8192x11264)
      (ix3 ⟨t.val / 8192, h⟩ ⟨t.val % 8192, by omega⟩ j) = Z (ix2 t q) :=
    fun h => (e _ _).trans (congrArg (fun t => Z (ix2 t q)) (token_eq t))
  unfold shifted mixed moved
  refine (mixRows_apply _ M _ _ j).trans ?_
  refine congrArg₂ (· + ·)
    (congrArg₂ (· + ·) (e0 _) (congrArg₂ (· * ·) rfl (congrArg₂ (· - ·) ?_ (e0 _))))
    (congrArg₂ (· * ·) rfl (congrArg₂ (· - ·) ?_ (e0 _)))
  · split_ifs with h
    · rfl
    · have h' : ¬ t.val % 8192 = 0 := h
      exact (e _ _).trans (congrArg (fun t => Z (ix2 t q)) (Fin.ext (by simp only []; omega)))
  · split_ifs with h
    · rfl
    · have h' : ¬ t.val % 8192 = 8191 := h
      exact (e _ _).trans (congrArg (fun t => Z (ix2 t q)) (Fin.ext (by simp only []; omega)))

end Cert.Reference5Ideal.Parts

end
-- ==== Proof.ShiftResults.lean ====
/- The token shift's reference: its seven results from the mixed rows. -/
module

public import proofs.«01_k».proof.Proof.ShiftReference

@[expose] public section

set_option maxRecDepth 16384

noncomputable section

namespace Cert.Reference5Ideal.Parts

open Cert.Reference5Ideal Idealize.ShloMosaic Idealize.ShloMosaic.TcCoe Idealize.SL.Sem
open Cert.Kernel5Ideal.Prepared (mixed receptanceOf keyOf valueOf unitsOf rateOf decayOf gateOf)
open Cert.Kernel5Ideal.LowRank (decay unitOf)
open Cert.Kernel4Ideal.Heads (headSum)
open Cert.Reference4Ideal.Branches (sums sums_apply flat headOf partOf one_bits)
open Cert.Kernel4Ideal.Merging (split_heads_of_rows channel_eq)

theorem join_channels (X : FVec Ideal S2x8192x1024 .f32) (t : Fin 16384) (n : Fin 1024) (h : S2x8192x1024.ShapeCasts S16384x1024) :
    shapeCast S16384x1024 X h (ix2 t n) = X (ix3 ⟨t.val / 8192, by omega⟩ ⟨t.val % 8192, by omega⟩ n) := by
  pointwise

theorem join_directions (X : FVec Ideal S2x2x8192x1024 .f32) (d : Fin 2) (t : Fin 16384) (n : Fin 1024)
    (h : S2x2x8192x1024.ShapeCasts S2x16384x1024) :
    shapeCast S2x16384x1024 X h (ix3 d t n) = X (ix4 d ⟨t.val / 8192, by omega⟩ ⟨t.val % 8192, by omega⟩ n) := by
  pointwise

theorem join_heads (X : FVec Ideal S2x8192x16x64 .f32) (t : Fin 16384) (n : Fin 1024) (h : S2x8192x16x64.ShapeCasts S16384x1024) :
    shapeCast S16384x1024 X h (ix2 t n) = X (ix4 ⟨t.val / 8192, by omega⟩ ⟨t.val % 8192, by omega⟩ (headOf n) (partOf n)) := by
  pointwise

/-! The three slices of 1024 channels. -/

theorem slice0_apply (Y : FVec Ideal S2x8192x3712 .f32) (b : Fin 2) (s : Fin 8192) (n : Fin 1024) :
    extractStridedSlice S2x8192x1024 ![0, 0, 0] Y Gen.slices_S2x8192x3712_S2x8192x1024_0_0_0 (ix3 b s n) = Y (ix3 b s ⟨n.val, by omega⟩) := by
  pointwise

theorem slice1_apply (Y : FVec Ideal S2x8192x3712 .f32) (b : Fin 2) (s : Fin 8192) (n : Fin 1024) :
    extractStridedSlice S2x8192x1024 ![0, 0, 1024] Y Gen.slices_S2x8192x3712_S2x8192x1024_0_0_1024 (ix3 b s n)
      = Y (ix3 b s ⟨1024 + n.val, by omega⟩) := by
  pointwise

theorem slice2_apply (Y : FVec Ideal S2x8192x3712 .f32) (b : Fin 2) (s : Fin 8192) (n : Fin 1024) :
    extractStridedSlice S2x8192x1024 ![0, 0, 2048] Y Gen.slices_S2x8192x3712_S2x8192x1024_0_0_2048 (ix3 b s n)
      = Y (ix3 b s ⟨2048 + n.val, by omega⟩) := by
  pointwise

variable (Z : FVec Ideal S16384x11264 .f32) (M : FVec Ideal S2x3712 .f32)

/-- The receptance. -/
def receptanceR : FVec Ideal S16384x1024 .f32 :=
  shapeCast S16384x1024 (extractStridedSlice S2x8192x1024 ![0, 0, 0] (shifted Z M) Gen.slices_S2x8192x3712_S2x8192x1024_0_0_0)
    Gen.shapeCasts_S2x8192x1024_S16384x1024

/-- The key. -/
def keyR : FVec Ideal S16384x1024 .f32 :=
  shapeCast S16384x1024 (extractStridedSlice S2x8192x1024 ![0, 0, 1024] (shifted Z M) Gen.slices_S2x8192x3712_S2x8192x1024_0_0_1024)
    Gen.shapeCasts_S2x8192x1024_S16384x1024

/-- The value. -/
def valueR : FVec Ideal S16384x1024 .f32 :=
  shapeCast S16384x1024 (extractStridedSlice S2x8192x1024 ![0, 0, 2048] (shifted Z M) Gen.slices_S2x8192x3712_S2x8192x1024_0_0_2048)
    Gen.shapeCasts_S2x8192x1024_S16384x1024

theorem receptanceR_apply (t : Fin 16384) (n : Fin 1024) : (receptanceR Z M (ix2 t n) : EReal) = receptanceOf Z M t n :=
  (join_channels _ t n _).trans ((slice0_apply _ _ _ n).trans
    (shifted_apply Z M t ⟨n.val, by omega⟩ ⟨3072 + n.val, by omega⟩ (by unfold Source; simp only []; omega)))

theorem keyR_apply (t : Fin 16384) (n : Fin 1024) : (keyR Z M (ix2 t n) : EReal) = keyOf Z M t n :=
  (join_channels _ t n _).trans ((slice1_apply _ _ _ n).trans
    (shifted_apply Z M t ⟨1024 + n.val, by omega⟩ ⟨4096 + n.val, by omega⟩ (by unfold Source; simp only []; omega)))

theorem valueR_apply (t : Fin 16384) (n : Fin 1024) : (valueR Z M (ix2 t n) : EReal) = valueOf Z M t n :=
  (join_channels _ t n _).trans ((slice2_apply _ _ _ n).trans
    (shifted_apply Z M t ⟨2048 + n.val, by omega⟩ ⟨5120 + n.val, by omega⟩ (by unfold Source; simp only []; omega)))

/-- Channels over the length of their head. -/
def unitR (x : FVec Ideal S2x8192x16x64 .f32) : FVec Ideal S2x8192x16x64 .f32 :=
  (Host.divf x (broadcastInDim S2x8192x16x64 ![0, 1, 2, 3] Gen.bcast_S2x8192x16x1_S2x8192x16x64_0_1_2_3 (maximumf (Host.sqrt (broadcastInDim
    S2x8192x16x1 ![0, 1, 2] Gen.bcast_S2x8192x16_S2x8192x16x1_0_1_2 (Host.reduceAdd (mulf x x) (constant S_ .f32 0x00000000#32)
    Gen.reducesTo_S2x8192x16x64_S2x8192x16_d3 Gen.h_S_))) (broadcastInDim S2x8192x16x1 ![] Gen.bcast_S_S2x8192x16x1 (constant S_ .f32
    0x2B8CBCCC#32)))))

theorem unitR_apply (x : FVec Ideal S2x8192x16x64 .f32) (b : Fin 2) (s : Fin 8192) (n : Fin 1024) :
    (unitR x (ix4 b s (headOf n) (partOf n)) : EReal) = unitOf (flat x b s) n := by
  have h : (unitR x (ix4 b s (headOf n) (partOf n)) : EReal) = Ideal.div (flat x b s n)
      (max (Ideal.sqrt (sums (mulf x x) (ix4 b s (headOf n) 0))) (Ideal.ofBits .f32 0x2B8CBCCC#32)) := by
    pointwise [unitR, sums, flat]
  rw [h, sums_apply]
  rfl

/-- The scaled key. -/
def scaledR (K : FVec Ideal S1024 .f32) : FVec Ideal S2x8192x1024 .f32 :=
  mulf (extractStridedSlice S2x8192x1024 ![0, 0, 1024] (shifted Z M) Gen.slices_S2x8192x3712_S2x8192x1024_0_0_1024)
    (broadcastInDim S2x8192x1024 ![0, 1, 2] Gen.bcast_S1x1x1024_S2x8192x1024_0_1_2
      (broadcastInDim S1x1x1024 ![2] Gen.bcast_S1024_S1x1x1024_2 K))

theorem scale_apply (K : FVec Ideal S1024 .f32) (b : Fin 2) (s : Fin 8192) (n : Fin 1024) :
    broadcastInDim S2x8192x1024 ![0, 1, 2] Gen.bcast_S1x1x1024_S2x8192x1024_0_1_2
      (broadcastInDim S1x1x1024 ![2] Gen.bcast_S1024_S1x1x1024_2 K) (ix3 b s n) = K (ix1 n) := by
  pointwise

theorem scaledR_apply (K : FVec Ideal S1024 .f32) (t : Fin 16384) (n : Fin 1024) :
    (scaledR Z M K (ix3 ⟨t.val / 8192, by omega⟩ ⟨t.val % 8192, by omega⟩ n) : EReal) = keyOf Z M t n * K (ix1 n) :=
  congrArg₂ (· * ·) ((slice1_apply _ _ _ n).trans
    (shifted_apply Z M t ⟨1024 + n.val, by omega⟩ ⟨4096 + n.val, by omega⟩ (by unfold Source; simp only []; omega)))
    (scale_apply K _ _ n)

/-- The scaled key, brought to length one over each head. -/
def unitsR (K : FVec Ideal S1024 .f32) : FVec Ideal S16384x1024 .f32 :=
  shapeCast S16384x1024 (unitR (shapeCast S2x8192x16x64 (scaledR Z M K) Gen.shapeCasts_S2x8192x1024_S2x8192x16x64))
    Gen.shapeCasts_S2x8192x16x64_S16384x1024

theorem unitsR_apply (K : FVec Ideal S1024 .f32) (t : Fin 16384) (n : Fin 1024) :
    (unitsR Z M K (ix2 t n) : EReal) = unitsOf Z M K t n := by
  have e : flat (shapeCast S2x8192x16x64 (scaledR Z M K) Gen.shapeCasts_S2x8192x1024_S2x8192x16x64)
      ⟨t.val / 8192, by omega⟩ ⟨t.val % 8192, by omega⟩ = fun n => (keyOf Z M t n * K (ix1 n) : EReal) :=
    funext fun n => (split_heads_of_rows _ _ _ _ _ _).trans ((congrArg (fun n => scaledR Z M K (ix3 _ _ n)) (channel_eq n)).trans
      (scaledR_apply Z M K t n))
  exact (join_heads _ t n _).trans ((unitR_apply _ _ _ n).trans (congrArg (fun f => unitOf f n) e))

/-! Both directions' low-rank columns. -/

/-- Two arrays, one for each direction. -/
def pair (x y : FVec Ideal S2x8192x96 .f32) : FVec Ideal S2x2x8192x96 .f32 :=
  (concatenate S2x2x8192x96 0 [⟨S1x2x8192x96, (broadcastInDim S1x2x8192x96 ![1, 2, 3] Gen.bcast_S2x8192x96_S1x2x8192x96_1_2_3 x)⟩,
    ⟨S1x2x8192x96, (broadcastInDim S1x2x8192x96 ![1, 2, 3] Gen.bcast_S2x8192x96_S1x2x8192x96_1_2_3 y)⟩]
    Gen.concatenates_S1x2x8192x96_S1x2x8192x96_S2x2x8192x96_d0)

theorem pair_apply (x y : FVec Ideal S2x8192x96 .f32) (d : Fin 2) (b : Fin 2) (s : Fin 8192) (e : Fin 96) :
    pair x y (ix4 d b s e) = if d.val = 0 then x (ix3 b s e) else y (ix3 b s e) := by
  pointwise [pair]
  split_ifs <;> first | omega | rfl

theorem slice96_apply (Y : FVec Ideal S2x8192x3712 .f32) (o : Nat) (ho : o + 96 ≤ 3712) (h : S2x8192x3712.Slices ![0, 0, o] S2x8192x96)
    (b : Fin 2) (s : Fin 8192) (e : Fin 96) :
    extractStridedSlice S2x8192x96 ![0, 0, o] Y h (ix3 b s e) = Y (ix3 b s ⟨o + e.val, by omega⟩) := by
  pointwise

/-- A bias and a product, for both directions. -/
def affine (w : FVec Ideal S2x1024 .f32) (W : FVec Ideal S2x96x1024 .f32) (p : FVec Ideal S2x2x8192x96 .f32) :
    FVec Ideal S2x2x8192x1024 .f32 :=
  (addf (broadcastInDim S2x2x8192x1024 ![0, 1, 2, 3] Gen.bcast_S2x1x1x1024_S2x2x8192x1024_0_1_2_3 (broadcastInDim S2x1x1x1024 ![0, 3]
    Gen.bcast_S2x1024_S2x1x1x1024_0_3 w)) (Host.dotGeneral dot_S2x2x8192x96_S2x96x1024_S2x2x8192x1024_3_1_12_2_0_0 none p W))

theorem affine_apply (w : FVec Ideal S2x1024 .f32) (W : FVec Ideal S2x96x1024 .f32) (p : FVec Ideal S2x2x8192x96 .f32)
    (d : Fin 2) (b : Fin 2) (s : Fin 8192) (n : Fin 1024) :
    (affine w W p (ix4 d b s n) : EReal) = w (ix2 d n) + ∑ e : Fin 96, p (ix4 d b s e) * W (ix3 d e n) := by
  pointwise [affine]

/-- The logistic function of an array. -/
def logisticR (x : FVec Ideal S2x2x8192x1024 .f32) : FVec Ideal S2x2x8192x1024 .f32 :=
  (Host.divf (broadcastInDim S2x2x8192x1024 ![] Gen.bcast_S_S2x2x8192x1024 (constant S_ .f32 0x3F800000#32)) (addf (broadcastInDim
    S2x2x8192x1024 ![] Gen.bcast_S_S2x2x8192x1024 (constant S_ .f32 0x3F800000#32)) (Host.exp (Host.negf x))))

theorem logisticR_apply (x : FVec Ideal S2x2x8192x1024 .f32) (i : S2x2x8192x1024.Idx) :
    (logisticR x i : EReal) = Ideal.logistic (x i) := by
  have h : (logisticR x i : EReal) = Ideal.div (Ideal.ofBits .f32 0x3F800000#32)
    (Ideal.ofBits .f32 0x3F800000#32 + Ideal.exp (-(x i : EReal))) := rfl
  rw [h, one_bits]
  rfl

/-- The logarithm of the decay of an array. -/
def decayR (x : FVec Ideal S2x2x8192x1024 .f32) : FVec Ideal S2x2x8192x1024 .f32 :=
  (Host.negf (Host.exp (subf (Host.negf (select (cmpf .une (subf (Host.negf x) (broadcastInDim S2x2x8192x1024 ![] Gen.bcast_S_S2x2x8192x1024
    (constant S_ .f32 0x00000000#32))) (subf (Host.negf x) (broadcastInDim S2x2x8192x1024 ![] Gen.bcast_S_S2x2x8192x1024 (constant S_ .f32
    0x00000000#32)))) (addf (Host.negf x) (broadcastInDim S2x2x8192x1024 ![] Gen.bcast_S_S2x2x8192x1024 (constant S_ .f32 0x00000000#32))) (addf
    (maximumf (Host.negf x) (broadcastInDim S2x2x8192x1024 ![] Gen.bcast_S_S2x2x8192x1024 (constant S_ .f32 0x00000000#32))) (Host.log1p
    (Host.exp (Host.negf (Host.absf (subf (Host.negf x) (broadcastInDim S2x2x8192x1024 ![] Gen.bcast_S_S2x2x8192x1024 (constant S_ .f32
    0x00000000#32)))))))))) (broadcastInDim S2x2x8192x1024 ![] Gen.bcast_S_S2x2x8192x1024 (constant S_ .f32 0x3F000000#32)))))

/-- The same at one entry. -/
def decayAt (x : EReal) : EReal :=
  -(Ideal.exp (-(Scalar.select (Ideal.cmp .une (-x - Ideal.ofBits .f32 0x00000000#32) (-x - Ideal.ofBits .f32 0x00000000#32))
      (-x + Ideal.ofBits .f32 0x00000000#32)
      (max (-x) (Ideal.ofBits .f32 0x00000000#32) + Ideal.log1p (Ideal.exp (-(max (-x - Ideal.ofBits .f32 0x00000000#32)
        (-(-x - Ideal.ofBits .f32 0x00000000#32)))))))
    - Ideal.ofBits .f32 0x3F000000#32))

theorem decayAt_eq (x : EReal) : decayAt x = decay x := by
  have hz : Ideal.ofBits .f32 0x00000000#32 = 0 := by simp [Ideal.ofBits, Ideal.ieee]
  have hc : ∀ y : EReal, Ideal.cmp .une y y = 0#1 := fun y => by simp [Ideal.cmp]
  unfold decayAt decay
  rw [hz, hc]
  simp only [sub_zero, zero_sub]
  rfl

theorem decayR_apply (x : FVec Ideal S2x2x8192x1024 .f32) (i : S2x2x8192x1024.Idx) : (decayR x i : EReal) = decay (x i) :=
  (show (decayR x i : EReal) = decayAt (x i) from rfl).trans (decayAt_eq _)

/-- Both directions' learning rates. -/
def ratesR (w : FVec Ideal S2x1024 .f32) (W : FVec Ideal S2x96x1024 .f32) : FVec Ideal S2x16384x1024 .f32 :=
  shapeCast S2x16384x1024 (logisticR (affine w W (pair
    (extractStridedSlice S2x8192x96 ![0, 0, 3264] (shifted Z M) Gen.slices_S2x8192x3712_S2x8192x96_0_0_3264)
    (extractStridedSlice S2x8192x96 ![0, 0, 3360] (shifted Z M) Gen.slices_S2x8192x3712_S2x8192x96_0_0_3360))))
    Gen.shapeCasts_S2x2x8192x1024_S2x16384x1024

/-- The logarithms of both directions' decays. -/
def decaysR (w : FVec Ideal S2x1024 .f32) (W : FVec Ideal S2x96x1024 .f32) : FVec Ideal S2x16384x1024 .f32 :=
  shapeCast S2x16384x1024 (decayR (affine w W (Host.tanh (pair
    (extractStridedSlice S2x8192x96 ![0, 0, 3072] (shifted Z M) Gen.slices_S2x8192x3712_S2x8192x96_0_0_3072)
    (extractStridedSlice S2x8192x96 ![0, 0, 3168] (shifted Z M) Gen.slices_S2x8192x3712_S2x8192x96_0_0_3168)))))
    Gen.shapeCasts_S2x2x8192x1024_S2x16384x1024

theorem pair_rates (d : Fin 2) (t : Fin 16384) (e : Fin 96) :
    (pair (extractStridedSlice S2x8192x96 ![0, 0, 3264] (shifted Z M) Gen.slices_S2x8192x3712_S2x8192x96_0_0_3264)
      (extractStridedSlice S2x8192x96 ![0, 0, 3360] (shifted Z M) Gen.slices_S2x8192x3712_S2x8192x96_0_0_3360)
      (ix4 d ⟨t.val / 8192, by omega⟩ ⟨t.val % 8192, by omega⟩ e) : EReal)
      = mixed Z M ⟨10496 + 128 * d.val + e.val, by omega⟩ ⟨3264 + 96 * d.val + e.val, by omega⟩ t := by
  rw [← shifted_apply Z M t ⟨3264 + 96 * d.val + e.val, by omega⟩ ⟨10496 + 128 * d.val + e.val, by omega⟩
    (by unfold Source; simp only []; omega)]
  refine (pair_apply _ _ d _ _ e).trans ?_
  split_ifs with h
  · exact (slice96_apply _ 3264 (by omega) _ _ _ e).trans (congrArg (fun j => shifted Z M (ix3 _ _ j)) (Fin.ext (by simp only []; omega)))
  · exact (slice96_apply _ 3360 (by omega) _ _ _ e).trans (congrArg (fun j => shifted Z M (ix3 _ _ j)) (Fin.ext (by simp only []; omega)))

theorem pair_decays (d : Fin 2) (t : Fin 16384) (e : Fin 96) :
    (pair (extractStridedSlice S2x8192x96 ![0, 0, 3072] (shifted Z M) Gen.slices_S2x8192x3712_S2x8192x96_0_0_3072)
      (extractStridedSlice S2x8192x96 ![0, 0, 3168] (shifted Z M) Gen.slices_S2x8192x3712_S2x8192x96_0_0_3168)
      (ix4 d ⟨t.val / 8192, by omega⟩ ⟨t.val % 8192, by omega⟩ e) : EReal)
      = mixed Z M ⟨10240 + 128 * d.val + e.val, by omega⟩ ⟨3072 + 96 * d.val + e.val, by omega⟩ t := by
  rw [← shifted_apply Z M t ⟨3072 + 96 * d.val + e.val, by omega⟩ ⟨10240 + 128 * d.val + e.val, by omega⟩
    (by unfold Source; simp only []; omega)]
  refine (pair_apply _ _ d _ _ e).trans ?_
  split_ifs with h
  · exact (slice96_apply _ 3072 (by omega) _ _ _ e).trans (congrArg (fun j => shifted Z M (ix3 _ _ j)) (Fin.ext (by simp only []; omega)))
  · exact (slice96_apply _ 3168 (by omega) _ _ _ e).trans (congrArg (fun j => shifted Z M (ix3 _ _ j)) (Fin.ext (by simp only []; omega)))

theorem ratesR_apply (w : FVec Ideal S2x1024 .f32) (W : FVec Ideal S2x96x1024 .f32) (d : Fin 2) (t : Fin 16384) (n : Fin 1024) :
    (ratesR Z M w W (ix3 d t n) : EReal) = rateOf Z M w W d t n := by
  refine (join_directions _ d t n _).trans ((logisticR_apply _ _).trans ?_)
  unfold rateOf
  exact congrArg Ideal.logistic ((affine_apply w W _ d _ _ n).trans (congrArg₂ (· + ·) rfl
    (Finset.sum_congr rfl fun e _ => congrArg₂ (· * ·) (pair_rates Z M d t e) rfl)))

theorem decaysR_apply (w : FVec Ideal S2x1024 .f32) (W : FVec Ideal S2x96x1024 .f32) (d : Fin 2) (t : Fin 16384) (n : Fin 1024) :
    (decaysR Z M w W (ix3 d t n) : EReal) = decayOf Z M w W d t n := by
  refine (join_directions _ d t n _).trans ((decayR_apply _ _).trans ?_)
  unfold decayOf
  exact congrArg decay ((affine_apply w W _ d _ _ n).trans (congrArg₂ (· + ·) rfl
    (Finset.sum_congr rfl fun e _ => congrArg₂ (· * ·) (congrArg Ideal.tanh (pair_decays Z M d t e)) rfl)))

/-! The gate. -/

/-- The logistic function of the gate's columns. -/
def gateSigmoid (x : FVec Ideal S2x8192x256 .f32) : FVec Ideal S2x8192x256 .f32 :=
  (Host.divf (broadcastInDim S2x8192x256 ![] Gen.bcast_S_S2x8192x256 (constant S_ .f32 0x3F800000#32)) (addf (broadcastInDim S2x8192x256 ![]
    Gen.bcast_S_S2x8192x256 (constant S_ .f32 0x3F800000#32)) (Host.exp (Host.negf x))))

theorem gateSigmoid_apply (x : FVec Ideal S2x8192x256 .f32) (i : S2x8192x256.Idx) :
    (gateSigmoid x i : EReal) = Ideal.logistic (x i) := by
  have h : (gateSigmoid x i : EReal) = Ideal.div (Ideal.ofBits .f32 0x3F800000#32)
    (Ideal.ofBits .f32 0x3F800000#32 + Ideal.exp (-(x i : EReal))) := rfl
  rw [h, one_bits]
  rfl

theorem slice256_apply (Y : FVec Ideal S2x8192x3712 .f32) (b : Fin 2) (s : Fin 8192) (e : Fin 256) :
    extractStridedSlice S2x8192x256 ![0, 0, 3456] Y Gen.slices_S2x8192x3712_S2x8192x256_0_0_3456 (ix3 b s e)
      = Y (ix3 b s ⟨3456 + e.val, by omega⟩) := by
  pointwise

/-- The gate. -/
def gateR (G : FVec Ideal S256x1024 .f32) : FVec Ideal S16384x1024 .f32 :=
  shapeCast S16384x1024 (Host.dotGeneral dot_S2x8192x256_S256x1024_S2x8192x1024_2_0_01_1_n_n none
    (gateSigmoid (extractStridedSlice S2x8192x256 ![0, 0, 3456] (shifted Z M) Gen.slices_S2x8192x3712_S2x8192x256_0_0_3456)) G)
    Gen.shapeCasts_S2x8192x1024_S16384x1024

theorem dot_apply (x : FVec Ideal S2x8192x256 .f32) (G : FVec Ideal S256x1024 .f32) (b : Fin 2) (s : Fin 8192) (n : Fin 1024) :
    (Host.dotGeneral dot_S2x8192x256_S256x1024_S2x8192x1024_2_0_01_1_n_n none x G (ix3 b s n) : EReal)
      = ∑ e : Fin 256, (x (ix3 b s e) * G (ix2 e n) : EReal) := by
  pointwise

theorem gateR_apply (G : FVec Ideal S256x1024 .f32) (t : Fin 16384) (n : Fin 1024) :
    (gateR Z M G (ix2 t n) : EReal) = gateOf Z M G t n := by
  refine (join_channels _ t n _).trans ((dot_apply _ G _ _ n).trans ?_)
  unfold gateOf
  exact Finset.sum_congr rfl fun e _ => congrArg₂ (· * ·) ((gateSigmoid_apply _ _).trans (congrArg Ideal.logistic
    ((slice256_apply _ _ _ e).trans (shifted_apply Z M t ⟨3456 + e.val, by omega⟩ ⟨10752 + e.val, by omega⟩
      (by unfold Source; simp only []; omega))))) rfl

end Cert.Reference5Ideal.Parts

end
-- ==== Proof.Preparation.lean ====
/- The token shift's claims: its frames, and that kernel and reference give the same seven results. -/
module

public import proofs.«01_k».proof.Defs
public import proofs.«01_k».proof.Proof.Gen.Pre_finite5
public import proofs.«01_k».proof.Proof.Finite
public import proofs.«01_k».proof.Proof.ShiftBodyBits
public import proofs.«01_k».proof.Proof.ShiftRun
public import proofs.«01_k».proof.Proof.ShiftResults
public import Idealize.ShloMosaic.Lib.Claim

@[expose] public section

set_option maxRecDepth 16384

noncomputable section

namespace Cert.Kernel5Ideal.Preparation

open Idealize.ShloMosaic Idealize.ShloMosaic.TcCoe Idealize.SL.Sem
open Cert.Kernel5Ideal.Prepared Cert.Reference5Ideal.Parts Cert.KernelIdeal.Math Cert.KernelIdeal.Finite
open Cert.Reference5Ideal (S16384x11264 S2x3712 S2x1024 S2x96x1024 S256x1024 S1024 S16384x1024 S2x16384x1024)

theorem kernel_frame : Cert.quiescent_Kernel5 := fun m ρ _ => Cert.Kernel5.Body.frame m ρ

theorem ideal_frame : Cert.quiescent_Kernel5Ideal := fun m ρ _ => Cert.Kernel5Ideal.Body.frame m ρ

theorem ideal_frame_finite : Cert.quiescent_Kernel5Ideal_pre_finite5 := fun m ρ _ => Cert.Kernel5Ideal.Body.frame m ρ

theorem reference_frame : Cert.quiescent_Reference5Ideal := fun m ρ _ =>
  (θ_run Cert.Reference5Ideal.defs _ _).mono
    (fun r h => ⟨fun c => (h c).2.2.2.2.2.2.2, sem_eq_zero_of_no_sems (by decide) r.2⟩) (Cert.Reference5Ideal.Value.run m ρ)

theorem reference_frame_finite : Cert.quiescent_Reference5Ideal_pre_finite5 := fun m ρ _ => reference_frame m ρ trivial

theorem preserves : Cert.preserves_Kernel5_Kernel5Ideal := trivial

theorem key_column (Z : FVec Ideal S16384x11264 .f32) (t : Fin 16384) (n : Fin 1024) (h : S16384x11264.Slices ![0, 4096] S16384x1024) :
    extractStridedSlice S16384x1024 ![0, 4096] Z h (ix2 t n) = Z (ix2 t ⟨4096 + n.val, by omega⟩) := by
  pointwise

theorem key_mix (M : FVec Ideal S2x3712 .f32) (d : Fin 2) (n : Fin 1024) (h : S2x3712.Slices ![0, 1024] S2x1024) :
    extractStridedSlice S2x1024 ![0, 1024] M h (ix2 d n) = M (ix2 d ⟨1024 + n.val, by omega⟩) := by
  pointwise

/-- The precondition says that the key's columns, its mixing weights and its scale are real. -/
theorem real (m : ((ℓ : Loc Cert.Kernel5Ideal.nD Cert.Kernel5Ideal.τ Cert.Kernel5Ideal.sig) → Buf (Elt Ideal) ℓ)) (h : Cert.Pre_Kernel5Ideal_finite5 m) (c : Dev Cert.Kernel5Ideal.nD) : Real m c where
  column t n := (congrArg IsReal (key_column (m ((c.tc : Thread Cert.Kernel5Ideal.nD Cert.Kernel5Ideal.τ).loc Cert.Kernel5Ideal.main_arg0)) t n
    Cert.Pre_finite5.Gen.slices_S16384x11264_S16384x1024_0_4096)).mp (real_of_abs (congrFun (h c).1 (ix2 t n)))
  mix d n := (congrArg IsReal (key_mix (m ((c.tc : Thread Cert.Kernel5Ideal.nD Cert.Kernel5Ideal.τ).loc Cert.Kernel5Ideal.main_arg1)) d n
    Cert.Pre_finite5.Gen.slices_S2x3712_S2x1024_0_1024)).mp (real_of_abs (congrFun (h c).2.1 (ix2 d n)))
  scale n := real_of_abs (congrFun (h c).2.2 (ix1 n))

theorem index_rows (j : S16384x1024.Idx) : ∃ (t : Fin 16384) (n : Fin 1024), j = ix2 t n := ⟨j 0, j 1, by
  funext a
  match a with
  | ⟨0, _⟩ => rfl
  | ⟨1, _⟩ => rfl⟩

theorem index_directions (j : S2x16384x1024.Idx) : ∃ (d : Fin 2) (t : Fin 16384) (n : Fin 1024), j = ix3 d t n := ⟨j 0, j 1, j 2, by
  funext a
  match a with
  | ⟨0, _⟩ => rfl
  | ⟨1, _⟩ => rfl
  | ⟨2, _⟩ => rfl⟩

/-! From equal arguments each of the reference's results is the kernel's. -/

theorem same_receptance (m : (ℓ : Loc Cert.Kernel5Ideal.nD Cert.Kernel5Ideal.τ Cert.Kernel5Ideal.sig) → Buf (Elt Ideal) ℓ) (m' : (ℓ : Loc Cert.Reference5Ideal.nD Cert.Reference5Ideal.τ Cert.Reference5Ideal.sig) → Buf (Elt Ideal) ℓ)
    (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) :
    Cert.Reference5Ideal.Value.res_out0 m' c = receptance m c := by
  have e : Cert.Reference5Ideal.Value.res_out0 m' c = receptanceR
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1)) := by
    unfold Cert.Reference5Ideal.Value.res_out0 Cert.Reference5Ideal.Value.res_main_v81
    rfl
  refine e.trans ?_
  rw [h0, h1]
  funext j
  obtain ⟨t, n, rfl⟩ := index_rows j
  exact receptanceR_apply _ _ t n

theorem same_key (m : (ℓ : Loc Cert.Kernel5Ideal.nD Cert.Kernel5Ideal.τ Cert.Kernel5Ideal.sig) → Buf (Elt Ideal) ℓ) (m' : (ℓ : Loc Cert.Reference5Ideal.nD Cert.Reference5Ideal.τ Cert.Reference5Ideal.sig) → Buf (Elt Ideal) ℓ)
    (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) :
    Cert.Reference5Ideal.Value.res_out1 m' c = key m c := by
  have e : Cert.Reference5Ideal.Value.res_out1 m' c = keyR
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1)) := by
    unfold Cert.Reference5Ideal.Value.res_out1 Cert.Reference5Ideal.Value.res_main_v82
    rfl
  refine e.trans ?_
  rw [h0, h1]
  funext j
  obtain ⟨t, n, rfl⟩ := index_rows j
  exact keyR_apply _ _ t n

theorem same_value (m : (ℓ : Loc Cert.Kernel5Ideal.nD Cert.Kernel5Ideal.τ Cert.Kernel5Ideal.sig) → Buf (Elt Ideal) ℓ) (m' : (ℓ : Loc Cert.Reference5Ideal.nD Cert.Reference5Ideal.τ Cert.Reference5Ideal.sig) → Buf (Elt Ideal) ℓ)
    (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) :
    Cert.Reference5Ideal.Value.res_out2 m' c = value m c := by
  have e : Cert.Reference5Ideal.Value.res_out2 m' c = valueR
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1)) := by
    unfold Cert.Reference5Ideal.Value.res_out2 Cert.Reference5Ideal.Value.res_main_v83
    rfl
  refine e.trans ?_
  rw [h0, h1]
  funext j
  obtain ⟨t, n, rfl⟩ := index_rows j
  exact valueR_apply _ _ t n

theorem same_units (m : (ℓ : Loc Cert.Kernel5Ideal.nD Cert.Kernel5Ideal.τ Cert.Kernel5Ideal.sig) → Buf (Elt Ideal) ℓ) (m' : (ℓ : Loc Cert.Reference5Ideal.nD Cert.Reference5Ideal.τ Cert.Reference5Ideal.sig) → Buf (Elt Ideal) ℓ)
    (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h7 : m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) :
    Cert.Reference5Ideal.Value.res_out3 m' c = units m c := by
  have e : Cert.Reference5Ideal.Value.res_out3 m' c = unitsR
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg7)) := by
    unfold Cert.Reference5Ideal.Value.res_out3 Cert.Reference5Ideal.Value.res_main_v84
    rfl
  refine e.trans ?_
  rw [h0, h1, h7]
  funext j
  obtain ⟨t, n, rfl⟩ := index_rows j
  exact unitsR_apply _ _ _ t n

theorem same_rates (m : (ℓ : Loc Cert.Kernel5Ideal.nD Cert.Kernel5Ideal.τ Cert.Kernel5Ideal.sig) → Buf (Elt Ideal) ℓ) (m' : (ℓ : Loc Cert.Reference5Ideal.nD Cert.Reference5Ideal.τ Cert.Reference5Ideal.sig) → Buf (Elt Ideal) ℓ)
    (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) :
    Cert.Reference5Ideal.Value.res_out4 m' c = rates m c := by
  have e : Cert.Reference5Ideal.Value.res_out4 m' c = ratesR
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5)) := by
    unfold Cert.Reference5Ideal.Value.res_out4 Cert.Reference5Ideal.Value.res_main_v85
    rfl
  refine e.trans ?_
  rw [h0, h1, h4, h5]
  funext j
  obtain ⟨d, t, n, rfl⟩ := index_directions j
  exact ratesR_apply _ _ _ _ d t n

theorem same_decays (m : (ℓ : Loc Cert.Kernel5Ideal.nD Cert.Kernel5Ideal.τ Cert.Kernel5Ideal.sig) → Buf (Elt Ideal) ℓ) (m' : (ℓ : Loc Cert.Reference5Ideal.nD Cert.Reference5Ideal.τ Cert.Reference5Ideal.sig) → Buf (Elt Ideal) ℓ)
    (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) :
    Cert.Reference5Ideal.Value.res_out5 m' c = decays m c := by
  have e : Cert.Reference5Ideal.Value.res_out5 m' c = decaysR
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3)) := by
    unfold Cert.Reference5Ideal.Value.res_out5 Cert.Reference5Ideal.Value.res_main_v86
    rfl
  refine e.trans ?_
  rw [h0, h1, h2, h3]
  funext j
  obtain ⟨d, t, n, rfl⟩ := index_directions j
  exact decaysR_apply _ _ _ _ d t n

theorem same_gate (m : (ℓ : Loc Cert.Kernel5Ideal.nD Cert.Kernel5Ideal.τ Cert.Kernel5Ideal.sig) → Buf (Elt Ideal) ℓ) (m' : (ℓ : Loc Cert.Reference5Ideal.nD Cert.Reference5Ideal.τ Cert.Reference5Ideal.sig) → Buf (Elt Ideal) ℓ)
    (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) :
    Cert.Reference5Ideal.Value.res_out6 m' c = gate m c := by
  have e : Cert.Reference5Ideal.Value.res_out6 m' c = gateR
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg6)) := by
    unfold Cert.Reference5Ideal.Value.res_out6 Cert.Reference5Ideal.Value.res_main_v87
    rfl
  refine e.trans ?_
  rw [h0, h1, h6]
  funext j
  obtain ⟨t, n, rfl⟩ := index_rows j
  exact gateR_apply _ _ _ t n

theorem algebraic : Cert.algebraic_Kernel5Ideal_Reference5Ideal_pre_finite5 := by
  intro m g m' g' hpre hagree
  refine ⟨fun c => receptance m c, fun c => key m c, fun c => value m c, fun c => units m c, fun c => rates m c,
    fun c => decays m c, fun c => gate m c, ?_, ?_⟩
  · refine (θ_run Cert.Kernel5Ideal.defs _ _).mono (fun r h c => ?_) (Cert.Kernel5Ideal.Body.run_blocks m g)
    obtain ⟨k0, k1, k2, k3, k4, k5, k6, k⟩ := h c
    exact ⟨k0.trans (receptance_eq m c), k1.trans (key_eq m c), k2.trans (value_eq m c),
      k3.trans (units_eq m c (real m hpre c)), k4.trans (rates_eq m c), k5.trans (decays_eq m c), k6.trans (gate_eq m c), k⟩
  · refine (θ_run Cert.Reference5Ideal.defs _ _).mono (fun r h c => ?_) (Cert.Reference5Ideal.Value.run m' g')
    obtain ⟨h0, h1, h2, h3, h4, h5, h6, h7⟩ := hagree c
    obtain ⟨k0, k1, k2, k3, k4, k5, k6, k⟩ := h c
    exact ⟨k0.trans (same_receptance m m' c h0 h1), k1.trans (same_key m m' c h0 h1), k2.trans (same_value m m' c h0 h1),
      k3.trans (same_units m m' c h0 h1 h7), k4.trans (same_rates m m' c h0 h1 h4 h5),
      k5.trans (same_decays m m' c h0 h1 h2 h3), k6.trans (same_gate m m' c h0 h1 h6), k⟩

end Cert.Kernel5Ideal.Preparation

end
-- ==== Proof.Padded.lean ====
/- The modulation's kernel: its conditioning rows, padded with zeros to eight, and the blocks its grid points read. -/
module

public import proofs.«01_k».proof.Proof.Gen.Kernel6Ideal.Value
public import Idealize.ShloMosaic.Lib.Routing.OpsOne
public import Idealize.ShloMosaic.Lib.Pipeline.ValueKit

@[expose] public section

set_option maxRecDepth 16384

noncomputable section

namespace Cert.Kernel6Ideal.Padded

open Cert.Kernel6Ideal Cert.Kernel6Ideal.Gen Idealize.ShloMosaic Idealize.ShloMosaic.TcCoe Idealize.SL.Sem
open Idealize.ShloMosaic.Routing

/-- Entry `(w, e)` of two rows padded with zeros below. -/
def paddedRow (C : S2x2048.Idx → EReal) (w : Fin 8) (e : Fin 2048) : EReal :=
  if h : w.val < 2 then C (ix2 ⟨w.val, h⟩ e) else 0

/-- The row index at which the two rows are set: zero. -/
def place : IVec S1 32 := broadcastInDim S1 ![] bcast_S_S1 (constantI S_ 32 0#32)

/-- Update `(r, k)` lands at `(w, e)` exactly when it is that entry. -/
theorem lands (r : Fin 2) (k : Fin 2048) (w : Fin 8) (e : Fin 2048) :
    scatter_S8x2048_S1_S2x2048_01_n_0_0.resultIdx? (ix2 r k) place = some (ix2 w e) ↔ w.val = r.val ∧ e.val = k.val := by
  have s0 : scatter_S8x2048_S1_S2x2048_01_n_0_0.start (ix2 r k) place 0 = 0 := rfl
  have s1 : scatter_S8x2048_S1_S2x2048_01_n_0_0.start (ix2 r k) place 1 = 0 := rfl
  have w0 : scatter_S8x2048_S1_S2x2048_01_n_0_0.window (ix2 r k) 0 = r.val := rfl
  have w1 : scatter_S8x2048_S1_S2x2048_01_n_0_0.window (ix2 r k) 1 = k.val := rfl
  refine (resultIdx?_ix2 (R := 8) (C := 2048) scatter_S8x2048_S1_S2x2048_01_n_0_0 (ix2 r k) place w e).trans ?_
  rw [s0, s1, w0, w1]
  omega

/-- The zero array with the two rows set in it. -/
def eight (C : FVec Ideal S2x2048 .f32) : FVec Ideal S8x2048 .f32 :=
  Host.scatter scatter_S8x2048_S1_S2x2048_01_n_0_0 (fun _ b => b)
    (broadcastInDim S8x2048 ![] bcast_S_S8x2048 (constant S_ .f32 0x00000000#32)) place C

theorem eight_apply (C : FVec Ideal S2x2048 .f32) (w : Fin 8) (e : Fin 2048) : (eight C (ix2 w e) : EReal) = paddedRow C w e := by
  have land : ∀ j : S2x2048.Idx, scatter_S8x2048_S1_S2x2048_01_n_0_0.resultIdx? j place = some (ix2 w e) →
      w.val = (j 0).val ∧ e.val = (j 1).val := fun j hj =>
    (lands (j 0) (j 1) w e).1 ((congrArg (fun t => scatter_S8x2048_S1_S2x2048_01_n_0_0.resultIdx? t place) (ValueIdx.eq_ix2 j).symm).trans hj)
  unfold eight paddedRow
  by_cases h : w.val < 2
  · rw [dif_pos h]
    refine scatter_set_hit _ _ _ _ _ _ (fun j hj => congrArg C ?_) (ix2 ⟨w.val, h⟩ e) ((lands _ _ _ _).2 ⟨rfl, rfl⟩)
    refine (ValueIdx.eq_ix2 j).trans ?_
    obtain ⟨h0, h1⟩ := land j hj
    exact congrArg₂ ix2 (Fin.ext h0.symm) (Fin.ext h1.symm)
  · rw [dif_neg h]
    refine (scatter_set_miss _ _ _ _ _ fun j hj => h ?_).trans ?_
    · rw [(land j hj).1]; exact (j 0).isLt
    · pointwise

theorem payload_apply (x : Vec Ideal S8x2048 .f32) (W : Vec Ideal S2048x1024 .f32) (b : Vec Ideal S1x1024 .f32) (r : Fin 8) (n : Fin 1024) :
    (k0_pay1 x W b (ix2 r n) : EReal)
      = (∑ k : Fin 2048, x (ix2 r k) * Ideal.logistic (x (ix2 r k)) * W (ix2 k n)) + b (ix2 0 n) := by
  pointwise [k0_pay1]

/-- Every window's block index at grid point `t`. -/
theorem idx : ∀ t : Fin cfg0.N,
    win0_0.index t = ![0, 0]
    ∧ win0_1.index t = ![0, t.val]
    ∧ win0_2.index t = ![0, t.val]
    ∧ win0_3.index t = ![0, t.val] :=
  (by decide +kernel : ∀ t : Fin grid0.N, _)

theorem t_lt (t : Fin cfg0.N) : t.val < 12 := t.isLt

variable (m : (ℓ : Loc nD τ sig) → Buf (Elt Ideal) ℓ)

/-- Column `n` of grid point `t` in the whole result. -/
def columnOf (t : Fin cfg0.N) (n : Fin 1024) : Fin 12288 := ⟨t.val * 1024 + n.val, by have := t_lt t; omega⟩

theorem iblk0 (c : Dev nD) (t : Fin cfg0.N) (r : Fin 8) (k : Fin 2048) :
    (iblk m c 0 t (ix2 r k) : EReal) = paddedRow (m ((c : Thread nD τ).loc main_arg0)) r k := by
  have h : iblk m c 0 t (ix2 r k) = V m c main_v2 (ix2 r k) := by
    blk_ext [iblk, idx t]
  rw [h]
  simp only [V, List.flatten_cons, List.flatten_nil, List.append_nil, List.cons_append, List.nil_append]
  entry_read
  exact eight_apply _ r k

theorem iblk1 (c : Dev nD) (t : Fin cfg0.N) (k : Fin 2048) (n : Fin 1024) :
    iblk m c 1 t (ix2 k n) = m ((c : Thread nD τ).loc main_arg1) (ix2 k (columnOf t n)) := by
  unfold columnOf
  blk_ext! [iblk, V, idx t]

theorem iblk2 (c : Dev nD) (t : Fin cfg0.N) (n : Fin 1024) :
    iblk m c 2 t (ix2 0 n) = m ((c : Thread nD τ).loc main_arg2) (ix1 (columnOf t n)) := by
  have h : iblk m c 2 t (ix2 0 n) = V m c main_v3 (ix2 0 (columnOf t n)) := by
    unfold columnOf
    blk_ext [iblk, idx t]
  rw [h]
  simp only [V, List.flatten_cons, List.flatten_nil, List.append_nil, List.cons_append, List.nil_append]
  entry_read
  pointwise

/-- Column `n` of row `r` of the modulation: the silu of the row against the weights, plus the bias. -/
def modulationOf (C : S2x2048.Idx → EReal) (W : S2048x12288.Idx → EReal) (b : S12288.Idx → EReal) (r : Fin 8) (n : Fin 12288) : EReal :=
  (∑ k : Fin 2048, paddedRow C r k * Ideal.logistic (paddedRow C r k) * W (ix2 k n)) + b (ix1 n)

/-- The whole result. -/
def result (c : Dev nD) : S8x12288.Idx → EReal := fun i =>
  modulationOf (m ((c : Thread nD τ).loc main_arg0)) (m ((c : Thread nD τ).loc main_arg1)) (m ((c : Thread nD τ).loc main_arg2)) (i 0) (i 1)

theorem out_apply (c : Dev nD) (t : Fin cfg0.N) (r : Fin 8) (n : Fin 1024) :
    (out0_3 (iblk m c 0 t) (iblk m c 1 t) (iblk m c 2 t) (ix2 r n) : EReal) = result m c (ix2 r (columnOf t n)) := by
  have h : out0_3 (iblk m c 0 t) (iblk m c 1 t) (iblk m c 2 t) = k0_pay1 (iblk m c 0 t) (iblk m c 1 t) (iblk m c 2 t) := by
    unfold out0_3
    frame_out
  rw [h]
  refine (payload_apply _ _ _ r n).trans ?_
  unfold result modulationOf
  refine congrArg₂ (· + ·) (Finset.sum_congr rfl fun k _ => ?_) (iblk2 m c t n)
  rw [iblk0, iblk1]
  rfl

theorem array_eq (c : Dev nD) : (dats m 0 c).arrAt 3 cfg0.N = result m c := by
  refine (dats m 0 c).arrAt_eq_of_covers 3 _ (by decide +kernel) fun t hf y => ?_
  blk_simp
  rw [after0_3]
  have hi : (win0_3.blk t).view.emb y = ix2 (n0 := 8) (n1 := 12288) (y 0) (columnOf t (y 1)) := by
    unfold columnOf
    blk_ext [idx t]
  rw [hi]
  have hy : y = ix2 (y 0) (y 1) := by
    funext a
    match a with
    | 0 => rfl
    | 1 => rfl
  exact (congrArg (out0_3 (iblk m c 0 t) (iblk m c 1 t) (iblk m c 2 t)) hy).trans (out_apply m c t (y 0) (y 1))

end Cert.Kernel6Ideal.Padded

end
-- ==== Proof.Modulation.lean ====
/- The modulation's claims: its frames, and that kernel and reference give the same result. -/
module

public import proofs.«01_k».proof.Defs
public import proofs.«01_k».proof.Proof.Gen.Kernel6.Frame
public import proofs.«01_k».proof.Proof.Gen.Reference6Ideal.Run
public import proofs.«01_k».proof.Proof.Padded
public import proofs.«01_k».proof.Proof.Branches
public import Idealize.ShloMosaic.Lib.KernelVsHost
public import Idealize.ShloMosaic.Lib.Claim

@[expose] public section

set_option maxRecDepth 16384

noncomputable section

namespace Cert.Kernel6Ideal.Modulation

open Idealize.ShloMosaic Idealize.ShloMosaic.TcCoe Idealize.SL.Sem
open Cert.Kernel6Ideal.Padded
open Cert.Reference6Ideal (dot_S8x2048_S2048x12288_S8x12288_1_0_0_1_n_n S_ S2x2048 S8x2048 S2048x12288 S12288 S1x12288 S8x12288)
open Cert.Reference6Ideal.Gen

theorem kernel_frame : Cert.quiescent_Kernel6 := fun m ρ _ => Cert.Kernel6.Gen.frame m ρ

theorem ideal_frame : Cert.quiescent_Kernel6Ideal := fun m ρ _ => Cert.Kernel6Ideal.Gen.frame m ρ

theorem reference_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem preserves : Cert.preserves_Kernel6_Kernel6Ideal := trivial

/-- The reference's conditioning rows, padded with zeros to eight. -/
def padded (C : FVec Ideal S2x2048 .f32) : FVec Ideal S8x2048 .f32 :=
  pad S8x2048 ![0, 0] ![6, 0] ![0, 0] C (sitofp .f32 (constantI S_ 32 0#32)) pads_S2x2048_S8x2048_060_000 h_S_

theorem padded_apply (C : FVec Ideal S2x2048 .f32) (w : Fin 8) (e : Fin 2048) : (padded C (ix2 w e) : EReal) = paddedRow C w e := by
  have z : (FloatOps.sitofp (F := Ideal) .f32 (0#32) : EReal) = 0 := by
    show ((((0#32 : BitVec 32).toInt : ℤ) : ℝ) : EReal) = 0
    simp
  unfold padded paddedRow
  by_cases h : w.val < 2
  · rw [dif_pos h]
    pointwise
    exact dif_pos h
  · rw [dif_neg h]
    pointwise
    exact (dif_neg h).trans z

/-- The reference's result, from the arrays. -/
def referenceOf (C : FVec Ideal S2x2048 .f32) (W : FVec Ideal S2048x12288 .f32) (b : FVec Ideal S12288 .f32) : FVec Ideal S8x12288 .f32 :=
  addf (Host.dotGeneral (F := Ideal) dot_S8x2048_S2048x12288_S8x12288_1_0_0_1_n_n none
      (mulf (padded C) (Host.divf (broadcastInDim S8x2048 ![] bcast_S_S8x2048 (constant S_ .f32 0x3F800000#32))
        (addf (broadcastInDim S8x2048 ![] bcast_S_S8x2048 (constant S_ .f32 0x3F800000#32)) (Host.exp (Host.negf (padded C)))))) W)
    (broadcastInDim S8x12288 ![0, 1] bcast_S1x12288_S8x12288_0_1 (broadcastInDim S1x12288 ![1] bcast_S12288_S1x12288_1 b))

theorem reference_apply (C : FVec Ideal S2x2048 .f32) (W : FVec Ideal S2048x12288 .f32) (b : FVec Ideal S12288 .f32) (r : Fin 8)
    (n : Fin 12288) : (referenceOf C W b (ix2 r n) : EReal) = modulationOf C W b r n := by
  have h : (referenceOf C W b (ix2 r n) : EReal)
      = (∑ k : Fin 2048, padded C (ix2 r k) * Ideal.div (Ideal.ofBits .f32 0x3F800000#32)
          (Ideal.ofBits .f32 0x3F800000#32 + Ideal.exp (-(padded C (ix2 r k)))) * W (ix2 k n)) + b (ix1 n) := by
    pointwise [referenceOf]
  rw [h]
  unfold modulationOf
  refine congrArg (· + (b (ix1 n) : EReal)) (Finset.sum_congr rfl fun k _ => ?_)
  rw [padded_apply, Cert.Reference4Ideal.Branches.one_bits]
  rfl

/-- From equal arguments the reference's result is the kernel's. -/
theorem same (m : (ℓ : Loc Cert.Kernel6Ideal.nD Cert.Kernel6Ideal.τ Cert.Kernel6Ideal.sig) → Buf (Elt Ideal) ℓ)
    (c : Dev Cert.Kernel6Ideal.nD) (C : FVec Ideal S2x2048 .f32) (W : FVec Ideal S2048x12288 .f32) (b : FVec Ideal S12288 .f32)
    (h0 : C = m ((c.tc : Thread Cert.Kernel6Ideal.nD Cert.Kernel6Ideal.τ).loc Cert.Kernel6Ideal.main_arg0))
    (h1 : W = m ((c.tc : Thread Cert.Kernel6Ideal.nD Cert.Kernel6Ideal.τ).loc Cert.Kernel6Ideal.main_arg1))
    (h2 : b = m ((c.tc : Thread Cert.Kernel6Ideal.nD Cert.Kernel6Ideal.τ).loc Cert.Kernel6Ideal.main_arg2)) :
    referenceOf C W b = result m c := by
  subst h0 h1 h2
  funext j
  obtain ⟨r, n, rfl⟩ : ∃ (r : Fin 8) (n : Fin 12288), j = ix2 r n := ⟨j 0, j 1, by
    funext a
    match a with
    | ⟨0, _⟩ => rfl
    | ⟨1, _⟩ => rfl⟩
  exact reference_apply _ _ _ r n

theorem algebraic : Cert.algebraic_Kernel6Ideal_Reference6Ideal := by
  intro m g m' g' hpre hagree
  refine ⟨fun c => result m c, ?_, ?_⟩
  · refine (θ_run Cert.Kernel6Ideal.defs _ _).mono (fun r h c => ?_) (Cert.Kernel6Ideal.Value.run_blocks (F := Ideal) m g)
    exact ⟨(h c).1.trans (array_eq m c), (h c).2⟩
  · refine (θ_run Cert.Reference6Ideal.defs _ _).mono (fun r h c => ?_) (Cert.Reference6Ideal.Value.run m' g')
    exact ⟨(h c).1.trans (same m c _ _ _ (hagree c).1 (hagree c).2.1 (hagree c).2.2), (h c).2⟩

end Cert.Kernel6Ideal.Modulation

end
-- ==== Proof.lean ====
/- The proof of the certificate's claim: the frames of the six calls, and that each kernel and its reference agree. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Attention
public import proofs.«01_k».proof.Proof.Projection
public import proofs.«01_k».proof.Proof.OutputProjection
public import proofs.«01_k».proof.Proof.Merging
public import proofs.«01_k».proof.Proof.Preparation
public import proofs.«01_k».proof.Proof.Modulation
public import Idealize.ShloMosaic.Adequacy
public import Idealize.ShloMosaic.Init

@[expose] public section

noncomputable section

namespace Cert.Proof

open Idealize.ShloMosaic Cert.KernelIdeal

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts, Cert.Pre_finite4.Gen.facts, Cert.Pre_finite5.Gen.facts,
    Attention.kernel_frame, Attention.ideal_frame, Attention.ideal_frame_finite, Attention.reference_frame,
    Attention.reference_frame_finite,
    Cert.Kernel2Ideal.Projection.kernel_frame, Cert.Kernel2Ideal.Projection.ideal_frame,
    Cert.Kernel2Ideal.Projection.reference_frame,
    Cert.Kernel3Ideal.OutputProjection.kernel_frame, Cert.Kernel3Ideal.OutputProjection.ideal_frame,
    Cert.Kernel3Ideal.OutputProjection.reference_frame,
    Cert.Kernel4Ideal.Merging.kernel_frame, Cert.Kernel4Ideal.Merging.ideal_frame,
    Cert.Kernel4Ideal.Merging.ideal_frame_finite, Cert.Kernel4Ideal.Merging.reference_frame,
    Cert.Kernel4Ideal.Merging.reference_frame_finite,
    Cert.Kernel5Ideal.Preparation.kernel_frame, Cert.Kernel5Ideal.Preparation.ideal_frame,
    Cert.Kernel5Ideal.Preparation.ideal_frame_finite, Cert.Kernel5Ideal.Preparation.reference_frame,
    Cert.Kernel5Ideal.Preparation.reference_frame_finite,
    Cert.Kernel6Ideal.Modulation.kernel_frame, Cert.Kernel6Ideal.Modulation.ideal_frame, Cert.Kernel6Ideal.Modulation.reference_frame,
    Attention.preserves, Attention.algebraic,
    Cert.Kernel2Ideal.Projection.preserves, Cert.Kernel2Ideal.Projection.algebraic,
    Cert.Kernel3Ideal.OutputProjection.preserves, Cert.Kernel3Ideal.OutputProjection.algebraic,
    Cert.Kernel4Ideal.Merging.preserves, Cert.Kernel4Ideal.Merging.algebraic,
    Cert.Kernel5Ideal.Preparation.preserves, Cert.Kernel5Ideal.Preparation.algebraic,
    Cert.Kernel6Ideal.Modulation.preserves, Cert.Kernel6Ideal.Modulation.algebraic⟩

end Cert.Proof

end
